-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v87) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S256x512 : Shape := ⟨2, ![256, 512]⟩
abbrev S32x8x512 : Shape := ⟨3, ![32, 8, 512]⟩
abbrev S8x512 : Shape := ⟨2, ![8, 512]⟩
abbrev S32 : Shape := ⟨1, ![32]⟩
abbrev S_ : Shape := ⟨0, ![]⟩
abbrev S256x256 : Shape := ⟨2, ![256, 256]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x8x512 : Shape := ⟨3, ![1, 8, 512]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2x128x512, .f32⟩
  | .local _ .vmem, ⟨6, _⟩ => ⟨S256x512, .f32⟩
  | .local _ .vmem, ⟨7, _⟩ => ⟨S256x512, .bf16⟩
  | .local _ .vmem, ⟨8, _⟩ => ⟨S32x8x512, .bf16⟩
  | .local _ .vmem, ⟨9, _⟩ => ⟨S8x512, .bf16⟩
  | .local _ .vmem, ⟨10, _⟩ => ⟨S32x8x512, .bf16⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 134 → Bool
  | ⟨i, _⟩ => dmaSemScopedAt i

abbrev sig : RefSig :=
  (ofTc nBuf bufTy 2 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_926 : BitVec 32 := 0#32
  let c0_i32_924 : BitVec 32 := 0#32
  let c1_i32_925 : BitVec 32 := 1#32
  let v986 : BitVec 32 := Scalar.muli c0_i32_924 c1_i32_925
  let v987 : BitVec 32 := Scalar.addi c0_i32_926 v986
  v987.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_926 : BitVec 32 := 0#32
  let c1_i32_924 : BitVec 32 := 1#32
  let c1_i32_925 : BitVec 32 := 1#32
  let v986 : BitVec 32 := Scalar.muli c1_i32_924 c1_i32_925
  let v987 : BitVec 32 := Scalar.addi c0_i32_926 v986
  v987.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_926 : BitVec 32 := 0#32
  let c2_i32_924 : BitVec 32 := 2#32
  let c1_i32_925 : BitVec 32 := 1#32
  let v986 : BitVec 32 := Scalar.muli c2_i32_924 c1_i32_925
  let v987 : BitVec 32 := Scalar.addi c0_i32_926 v986
  v987.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_926 : BitVec 32 := 0#32
  let c3_i32_924 : BitVec 32 := 3#32
  let c1_i32_925 : BitVec 32 := 1#32
  let v986 : BitVec 32 := Scalar.muli c3_i32_924 c1_i32_925
  let v987 : BitVec 32 := Scalar.addi c0_i32_926 v986
  v987.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_926 : BitVec 32 := 0#32
  let c4_i32_924 : BitVec 32 := 4#32
  let c1_i32_925 : BitVec 32 := 1#32
  let v986 : BitVec 32 := Scalar.muli c4_i32_924 c1_i32_925
  let v987 : BitVec 32 := Scalar.addi c0_i32_926 v986
  v987.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_926 : BitVec 32 := 0#32
  let c5_i32_924 : BitVec 32 := 5#32
  let c1_i32_925 : BitVec 32 := 1#32
  let v986 : BitVec 32 := Scalar.muli c5_i32_924 c1_i32_925
  let v987 : BitVec 32 := Scalar.addi c0_i32_926 v986
  v987.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_926 : BitVec 32 := 0#32
  let c6_i32_924 : BitVec 32 := 6#32
  let c1_i32_925 : BitVec 32 := 1#32
  let v986 : BitVec 32 := Scalar.muli c6_i32_924 c1_i32_925
  let v987 : BitVec 32 := Scalar.addi c0_i32_926 v986
  v987.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_926 : BitVec 32 := 0#32
  let c7_i32_924 : BitVec 32 := 7#32
  let c1_i32_925 : BitVec 32 := 1#32
  let v986 : BitVec 32 := Scalar.muli c7_i32_924 c1_i32_925
  let v987 : BitVec 32 := Scalar.addi c0_i32_926 v986
  v987.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_926 : BitVec 32 := 0#32
  let c8_i32_924 : BitVec 32 := 8#32
  let c1_i32_925 : BitVec 32 := 1#32
  let v986 : BitVec 32 := Scalar.muli c8_i32_924 c1_i32_925
  let v987 : BitVec 32 := Scalar.addi c0_i32_926 v986
  v987.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_926 : BitVec 32 := 0#32
  let c9_i32_924 : BitVec 32 := 9#32
  let c1_i32_925 : BitVec 32 := 1#32
  let v986 : BitVec 32 := Scalar.muli c9_i32_924 c1_i32_925
  let v987 : BitVec 32 := Scalar.addi c0_i32_926 v986
  v987.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_926 : BitVec 32 := 0#32
  let c10_i32_924 : BitVec 32 := 10#32
  let c1_i32_925 : BitVec 32 := 1#32
  let v986 : BitVec 32 := Scalar.muli c10_i32_924 c1_i32_925
  let v987 : BitVec 32 := Scalar.addi c0_i32_926 v986
  v987.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_926 : BitVec 32 := 0#32
  let c11_i32_924 : BitVec 32 := 11#32
  let c1_i32_925 : BitVec 32 := 1#32
  let v986 : BitVec 32 := Scalar.muli c11_i32_924 c1_i32_925
  let v987 : BitVec 32 := Scalar.addi c0_i32_926 v986
  v987.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_926 : BitVec 32 := 0#32
  let c12_i32_924 : BitVec 32 := 12#32
  let c1_i32_925 : BitVec 32 := 1#32
  let v986 : BitVec 32 := Scalar.muli c12_i32_924 c1_i32_925
  let v987 : BitVec 32 := Scalar.addi c0_i32_926 v986
  v987.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_926 : BitVec 32 := 0#32
  let c13_i32_924 : BitVec 32 := 13#32
  let c1_i32_925 : BitVec 32 := 1#32
  let v986 : BitVec 32 := Scalar.muli c13_i32_924 c1_i32_925
  let v987 : BitVec 32 := Scalar.addi c0_i32_926 v986
  v987.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_926 : BitVec 32 := 0#32
  let c14_i32_924 : BitVec 32 := 14#32
  let c1_i32_925 : BitVec 32 := 1#32
  let v986 : BitVec 32 := Scalar.muli c14_i32_924 c1_i32_925
  let v987 : BitVec 32 := Scalar.addi c0_i32_926 v986
  v987.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_926 : BitVec 32 := 0#32
  let c15_i32_924 : BitVec 32 := 15#32
  let c1_i32_925 : BitVec 32 := 1#32
  let v986 : BitVec 32 := Scalar.muli c15_i32_924 c1_i32_925
  let v987 : BitVec 32 := Scalar.addi c0_i32_926 v986
  v987.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_926 : BitVec 32 := 0#32
  let c16_i32_924 : BitVec 32 := 16#32
  let c1_i32_925 : BitVec 32 := 1#32
  let v986 : BitVec 32 := Scalar.muli c16_i32_924 c1_i32_925
  let v987 : BitVec 32 := Scalar.addi c0_i32_926 v986
  v987.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_926 : BitVec 32 := 0#32
  let c17_i32_924 : BitVec 32 := 17#32
  let c1_i32_925 : BitVec 32 := 1#32
  let v986 : BitVec 32 := Scalar.muli c17_i32_924 c1_i32_925
  let v987 : BitVec 32 := Scalar.addi c0_i32_926 v986
  v987.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_926 : BitVec 32 := 0#32
  let c18_i32_924 : BitVec 32 := 18#32
  let c1_i32_925 : BitVec 32 := 1#32
  let v986 : BitVec 32 := Scalar.muli c18_i32_924 c1_i32_925
  let v987 : BitVec 32 := Scalar.addi c0_i32_926 v986
  v987.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_926 : BitVec 32 := 0#32
  let c19_i32_924 : BitVec 32 := 19#32
  let c1_i32_925 : BitVec 32 := 1#32
  let v986 : BitVec 32 := Scalar.muli c19_i32_924 c1_i32_925
  let v987 : BitVec 32 := Scalar.addi c0_i32_926 v986
  v987.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_926 : BitVec 32 := 0#32
  let c20_i32_924 : BitVec 32 := 20#32
  let c1_i32_925 : BitVec 32 := 1#32
  let v986 : BitVec 32 := Scalar.muli c20_i32_924 c1_i32_925
  let v987 : BitVec 32 := Scalar.addi c0_i32_926 v986
  v987.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_926 : BitVec 32 := 0#32
  let c21_i32_924 : BitVec 32 := 21#32
  let c1_i32_925 : BitVec 32 := 1#32
  let v986 : BitVec 32 := Scalar.muli c21_i32_924 c1_i32_925
  let v987 : BitVec 32 := Scalar.addi c0_i32_926 v986
  v987.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_926 : BitVec 32 := 0#32
  let c22_i32_924 : BitVec 32 := 22#32
  let c1_i32_925 : BitVec 32 := 1#32
  let v986 : BitVec 32 := Scalar.muli c22_i32_924 c1_i32_925
  let v987 : BitVec 32 := Scalar.addi c0_i32_926 v986
  v987.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_926 : BitVec 32 := 0#32
  let c23_i32_924 : BitVec 32 := 23#32
  let c1_i32_925 : BitVec 32 := 1#32
  let v986 : BitVec 32 := Scalar.muli c23_i32_924 c1_i32_925
  let v987 : BitVec 32 := Scalar.addi c0_i32_926 v986
  v987.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_926 : BitVec 32 := 0#32
  let c24_i32_924 : BitVec 32 := 24#32
  let c1_i32_925 : BitVec 32 := 1#32
  let v986 : BitVec 32 := Scalar.muli c24_i32_924 c1_i32_925
  let v987 : BitVec 32 := Scalar.addi c0_i32_926 v986
  v987.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_926 : BitVec 32 := 0#32
  let c25_i32_924 : BitVec 32 := 25#32
  let c1_i32_925 : BitVec 32 := 1#32
  let v986 : BitVec 32 := Scalar.muli c25_i32_924 c1_i32_925
  let v987 : BitVec 32 := Scalar.addi c0_i32_926 v986
  v987.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_926 : BitVec 32 := 0#32
  let c26_i32_924 : BitVec 32 := 26#32
  let c1_i32_925 : BitVec 32 := 1#32
  let v986 : BitVec 32 := Scalar.muli c26_i32_924 c1_i32_925
  let v987 : BitVec 32 := Scalar.addi c0_i32_926 v986
  v987.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_926 : BitVec 32 := 0#32
  let c27_i32_924 : BitVec 32 := 27#32
  let c1_i32_925 : BitVec 32 := 1#32
  let v986 : BitVec 32 := Scalar.muli c27_i32_924 c1_i32_925
  let v987 : BitVec 32 := Scalar.addi c0_i32_926 v986
  v987.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_926 : BitVec 32 := 0#32
  let c28_i32_924 : BitVec 32 := 28#32
  let c1_i32_925 : BitVec 32 := 1#32
  let v986 : BitVec 32 := Scalar.muli c28_i32_924 c1_i32_925
  let v987 : BitVec 32 := Scalar.addi c0_i32_926 v986
  v987.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_926 : BitVec 32 := 0#32
  let c29_i32_924 : BitVec 32 := 29#32
  let c1_i32_925 : BitVec 32 := 1#32
  let v986 : BitVec 32 := Scalar.muli c29_i32_924 c1_i32_925
  let v987 : BitVec 32 := Scalar.addi c0_i32_926 v986
  v987.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_926 : BitVec 32 := 0#32
  let c30_i32_924 : BitVec 32 := 30#32
  let c1_i32_925 : BitVec 32 := 1#32
  let v986 : BitVec 32 := Scalar.muli c30_i32_924 c1_i32_925
  let v987 : BitVec 32 := Scalar.addi c0_i32_926 v986
  v987.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_926 : BitVec 32 := 0#32
  let c31_i32_924 : BitVec 32 := 31#32
  let c1_i32_925 : BitVec 32 := 1#32
  let v986 : BitVec 32 := Scalar.muli c31_i32_924 c1_i32_925
  let v987 : BitVec 32 := Scalar.addi c0_i32_926 v986
  v987.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v386 : Index := Scalar.indexCast v2
  let c0_135 : Index := 0#32
  let c0_136 : Index := 0#32
  ![v386.toNat, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_137 : BitVec 32 := 0#32
  let v390 : BitVec 1 := Scalar.cmpi .ne v2 c0_i32_137
  let v391 : BitVec 32 := Scalar.extui v390
  let c0_i32_139 : BitVec 32 := 0#32
  let v392 : BitVec 1 := Scalar.cmpi .ne v391 c0_i32_139
  v392

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev33 : Nat :=
  let c0_i32_925 : BitVec 32 := 0#32
  let c0_i32_923 : BitVec 32 := 0#32
  let c1_i32_924 : BitVec 32 := 1#32
  let v986 : BitVec 32 := Scalar.muli c0_i32_923 c1_i32_924
  let v987 : BitVec 32 := Scalar.addi c0_i32_925 v986
  v987.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_140 : BitVec 32 := 1#32
  let v393 : BitVec 1 := Scalar.cmpi .ne v2 c1_i32_140
  let v394 : BitVec 32 := Scalar.extui v393
  let c0_i32_142 : BitVec 32 := 0#32
  let v395 : BitVec 1 := Scalar.cmpi .ne v394 c0_i32_142
  v395

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev34 : Nat :=
  let c0_i32_925 : BitVec 32 := 0#32
  let c1_i32_923 : BitVec 32 := 1#32
  let c1_i32_924 : BitVec 32 := 1#32
  let v986 : BitVec 32 := Scalar.muli c1_i32_923 c1_i32_924
  let v987 : BitVec 32 := Scalar.addi c0_i32_925 v986
  v987.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_143 : BitVec 32 := 2#32
  let v396 : BitVec 1 := Scalar.cmpi .ne v2 c2_i32_143
  let v397 : BitVec 32 := Scalar.extui v396
  let c0_i32_145 : BitVec 32 := 0#32
  let v398 : BitVec 1 := Scalar.cmpi .ne v397 c0_i32_145
  v398

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev35 : Nat :=
  let c0_i32_925 : BitVec 32 := 0#32
  let c2_i32_923 : BitVec 32 := 2#32
  let c1_i32_924 : BitVec 32 := 1#32
  let v986 : BitVec 32 := Scalar.muli c2_i32_923 c1_i32_924
  let v987 : BitVec 32 := Scalar.addi c0_i32_925 v986
  v987.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_146 : BitVec 32 := 3#32
  let v399 : BitVec 1 := Scalar.cmpi .ne v2 c3_i32_146
  let v400 : BitVec 32 := Scalar.extui v399
  let c0_i32_148 : BitVec 32 := 0#32
  let v401 : BitVec 1 := Scalar.cmpi .ne v400 c0_i32_148
  v401

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev36 : Nat :=
  let c0_i32_925 : BitVec 32 := 0#32
  let c3_i32_923 : BitVec 32 := 3#32
  let c1_i32_924 : BitVec 32 := 1#32
  let v986 : BitVec 32 := Scalar.muli c3_i32_923 c1_i32_924
  let v987 : BitVec 32 := Scalar.addi c0_i32_925 v986
  v987.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_149 : BitVec 32 := 4#32
  let v402 : BitVec 1 := Scalar.cmpi .ne v2 c4_i32_149
  let v403 : BitVec 32 := Scalar.extui v402
  let c0_i32_151 : BitVec 32 := 0#32
  let v404 : BitVec 1 := Scalar.cmpi .ne v403 c0_i32_151
  v404

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev37 : Nat :=
  let c0_i32_925 : BitVec 32 := 0#32
  let c4_i32_923 : BitVec 32 := 4#32
  let c1_i32_924 : BitVec 32 := 1#32
  let v986 : BitVec 32 := Scalar.muli c4_i32_923 c1_i32_924
  let v987 : BitVec 32 := Scalar.addi c0_i32_925 v986
  v987.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_152 : BitVec 32 := 5#32
  let v405 : BitVec 1 := Scalar.cmpi .ne v2 c5_i32_152
  let v406 : BitVec 32 := Scalar.extui v405
  let c0_i32_154 : BitVec 32 := 0#32
  let v407 : BitVec 1 := Scalar.cmpi .ne v406 c0_i32_154
  v407

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev38 : Nat :=
  let c0_i32_925 : BitVec 32 := 0#32
  let c5_i32_923 : BitVec 32 := 5#32
  let c1_i32_924 : BitVec 32 := 1#32
  let v986 : BitVec 32 := Scalar.muli c5_i32_923 c1_i32_924
  let v987 : BitVec 32 := Scalar.addi c0_i32_925 v986
  v987.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_155 : BitVec 32 := 6#32
  let v408 : BitVec 1 := Scalar.cmpi .ne v2 c6_i32_155
  let v409 : BitVec 32 := Scalar.extui v408
  let c0_i32_157 : BitVec 32 := 0#32
  let v410 : BitVec 1 := Scalar.cmpi .ne v409 c0_i32_157
  v410

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev39 : Nat :=
  let c0_i32_925 : BitVec 32 := 0#32
  let c6_i32_923 : BitVec 32 := 6#32
  let c1_i32_924 : BitVec 32 := 1#32
  let v986 : BitVec 32 := Scalar.muli c6_i32_923 c1_i32_924
  let v987 : BitVec 32 := Scalar.addi c0_i32_925 v986
  v987.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_158 : BitVec 32 := 7#32
  let v411 : BitVec 1 := Scalar.cmpi .ne v2 c7_i32_158
  let v412 : BitVec 32 := Scalar.extui v411
  let c0_i32_160 : BitVec 32 := 0#32
  let v413 : BitVec 1 := Scalar.cmpi .ne v412 c0_i32_160
  v413

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev40 : Nat :=
  let c0_i32_925 : BitVec 32 := 0#32
  let c7_i32_923 : BitVec 32 := 7#32
  let c1_i32_924 : BitVec 32 := 1#32
  let v986 : BitVec 32 := Scalar.muli c7_i32_923 c1_i32_924
  let v987 : BitVec 32 := Scalar.addi c0_i32_925 v986
  v987.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_161 : BitVec 32 := 8#32
  let v414 : BitVec 1 := Scalar.cmpi .ne v2 c8_i32_161
  let v415 : BitVec 32 := Scalar.extui v414
  let c0_i32_163 : BitVec 32 := 0#32
  let v416 : BitVec 1 := Scalar.cmpi .ne v415 c0_i32_163
  v416

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev41 : Nat :=
  let c0_i32_925 : BitVec 32 := 0#32
  let c8_i32_923 : BitVec 32 := 8#32
  let c1_i32_924 : BitVec 32 := 1#32
  let v986 : BitVec 32 := Scalar.muli c8_i32_923 c1_i32_924
  let v987 : BitVec 32 := Scalar.addi c0_i32_925 v986
  v987.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_164 : BitVec 32 := 9#32
  let v417 : BitVec 1 := Scalar.cmpi .ne v2 c9_i32_164
  let v418 : BitVec 32 := Scalar.extui v417
  let c0_i32_166 : BitVec 32 := 0#32
  let v419 : BitVec 1 := Scalar.cmpi .ne v418 c0_i32_166
  v419

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev42 : Nat :=
  let c0_i32_925 : BitVec 32 := 0#32
  let c9_i32_923 : BitVec 32 := 9#32
  let c1_i32_924 : BitVec 32 := 1#32
  let v986 : BitVec 32 := Scalar.muli c9_i32_923 c1_i32_924
  let v987 : BitVec 32 := Scalar.addi c0_i32_925 v986
  v987.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_167 : BitVec 32 := 10#32
  let v420 : BitVec 1 := Scalar.cmpi .ne v2 c10_i32_167
  let v421 : BitVec 32 := Scalar.extui v420
  let c0_i32_169 : BitVec 32 := 0#32
  let v422 : BitVec 1 := Scalar.cmpi .ne v421 c0_i32_169
  v422

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev43 : Nat :=
  let c0_i32_925 : BitVec 32 := 0#32
  let c10_i32_923 : BitVec 32 := 10#32
  let c1_i32_924 : BitVec 32 := 1#32
  let v986 : BitVec 32 := Scalar.muli c10_i32_923 c1_i32_924
  let v987 : BitVec 32 := Scalar.addi c0_i32_925 v986
  v987.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_170 : BitVec 32 := 11#32
  let v423 : BitVec 1 := Scalar.cmpi .ne v2 c11_i32_170
  let v424 : BitVec 32 := Scalar.extui v423
  let c0_i32_172 : BitVec 32 := 0#32
  let v425 : BitVec 1 := Scalar.cmpi .ne v424 c0_i32_172
  v425

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev44 : Nat :=
  let c0_i32_925 : BitVec 32 := 0#32
  let c11_i32_923 : BitVec 32 := 11#32
  let c1_i32_924 : BitVec 32 := 1#32
  let v986 : BitVec 32 := Scalar.muli c11_i32_923 c1_i32_924
  let v987 : BitVec 32 := Scalar.addi c0_i32_925 v986
  v987.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_173 : BitVec 32 := 12#32
  let v426 : BitVec 1 := Scalar.cmpi .ne v2 c12_i32_173
  let v427 : BitVec 32 := Scalar.extui v426
  let c0_i32_175 : BitVec 32 := 0#32
  let v428 : BitVec 1 := Scalar.cmpi .ne v427 c0_i32_175
  v428

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev45 : Nat :=
  let c0_i32_925 : BitVec 32 := 0#32
  let c12_i32_923 : BitVec 32 := 12#32
  let c1_i32_924 : BitVec 32 := 1#32
  let v986 : BitVec 32 := Scalar.muli c12_i32_923 c1_i32_924
  let v987 : BitVec 32 := Scalar.addi c0_i32_925 v986
  v987.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_176 : BitVec 32 := 13#32
  let v429 : BitVec 1 := Scalar.cmpi .ne v2 c13_i32_176
  let v430 : BitVec 32 := Scalar.extui v429
  let c0_i32_178 : BitVec 32 := 0#32
  let v431 : BitVec 1 := Scalar.cmpi .ne v430 c0_i32_178
  v431

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev46 : Nat :=
  let c0_i32_925 : BitVec 32 := 0#32
  let c13_i32_923 : BitVec 32 := 13#32
  let c1_i32_924 : BitVec 32 := 1#32
  let v986 : BitVec 32 := Scalar.muli c13_i32_923 c1_i32_924
  let v987 : BitVec 32 := Scalar.addi c0_i32_925 v986
  v987.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_179 : BitVec 32 := 14#32
  let v432 : BitVec 1 := Scalar.cmpi .ne v2 c14_i32_179
  let v433 : BitVec 32 := Scalar.extui v432
  let c0_i32_181 : BitVec 32 := 0#32
  let v434 : BitVec 1 := Scalar.cmpi .ne v433 c0_i32_181
  v434

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev47 : Nat :=
  let c0_i32_925 : BitVec 32 := 0#32
  let c14_i32_923 : BitVec 32 := 14#32
  let c1_i32_924 : BitVec 32 := 1#32
  let v986 : BitVec 32 := Scalar.muli c14_i32_923 c1_i32_924
  let v987 : BitVec 32 := Scalar.addi c0_i32_925 v986
  v987.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_182 : BitVec 32 := 15#32
  let v435 : BitVec 1 := Scalar.cmpi .ne v2 c15_i32_182
  let v436 : BitVec 32 := Scalar.extui v435
  let c0_i32_184 : BitVec 32 := 0#32
  let v437 : BitVec 1 := Scalar.cmpi .ne v436 c0_i32_184
  v437

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev48 : Nat :=
  let c0_i32_925 : BitVec 32 := 0#32
  let c15_i32_923 : BitVec 32 := 15#32
  let c1_i32_924 : BitVec 32 := 1#32
  let v986 : BitVec 32 := Scalar.muli c15_i32_923 c1_i32_924
  let v987 : BitVec 32 := Scalar.addi c0_i32_925 v986
  v987.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_185 : BitVec 32 := 16#32
  let v438 : BitVec 1 := Scalar.cmpi .ne v2 c16_i32_185
  let v439 : BitVec 32 := Scalar.extui v438
  let c0_i32_187 : BitVec 32 := 0#32
  let v440 : BitVec 1 := Scalar.cmpi .ne v439 c0_i32_187
  v440

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev49 : Nat :=
  let c0_i32_925 : BitVec 32 := 0#32
  let c16_i32_923 : BitVec 32 := 16#32
  let c1_i32_924 : BitVec 32 := 1#32
  let v986 : BitVec 32 := Scalar.muli c16_i32_923 c1_i32_924
  let v987 : BitVec 32 := Scalar.addi c0_i32_925 v986
  v987.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_188 : BitVec 32 := 17#32
  let v441 : BitVec 1 := Scalar.cmpi .ne v2 c17_i32_188
  let v442 : BitVec 32 := Scalar.extui v441
  let c0_i32_190 : BitVec 32 := 0#32
  let v443 : BitVec 1 := Scalar.cmpi .ne v442 c0_i32_190
  v443

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev50 : Nat :=
  let c0_i32_925 : BitVec 32 := 0#32
  let c17_i32_923 : BitVec 32 := 17#32
  let c1_i32_924 : BitVec 32 := 1#32
  let v986 : BitVec 32 := Scalar.muli c17_i32_923 c1_i32_924
  let v987 : BitVec 32 := Scalar.addi c0_i32_925 v986
  v987.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_191 : BitVec 32 := 18#32
  let v444 : BitVec 1 := Scalar.cmpi .ne v2 c18_i32_191
  let v445 : BitVec 32 := Scalar.extui v444
  let c0_i32_193 : BitVec 32 := 0#32
  let v446 : BitVec 1 := Scalar.cmpi .ne v445 c0_i32_193
  v446

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev51 : Nat :=
  let c0_i32_925 : BitVec 32 := 0#32
  let c18_i32_923 : BitVec 32 := 18#32
  let c1_i32_924 : BitVec 32 := 1#32
  let v986 : BitVec 32 := Scalar.muli c18_i32_923 c1_i32_924
  let v987 : BitVec 32 := Scalar.addi c0_i32_925 v986
  v987.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_194 : BitVec 32 := 19#32
  let v447 : BitVec 1 := Scalar.cmpi .ne v2 c19_i32_194
  let v448 : BitVec 32 := Scalar.extui v447
  let c0_i32_196 : BitVec 32 := 0#32
  let v449 : BitVec 1 := Scalar.cmpi .ne v448 c0_i32_196
  v449

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev52 : Nat :=
  let c0_i32_925 : BitVec 32 := 0#32
  let c19_i32_923 : BitVec 32 := 19#32
  let c1_i32_924 : BitVec 32 := 1#32
  let v986 : BitVec 32 := Scalar.muli c19_i32_923 c1_i32_924
  let v987 : BitVec 32 := Scalar.addi c0_i32_925 v986
  v987.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_197 : BitVec 32 := 20#32
  let v450 : BitVec 1 := Scalar.cmpi .ne v2 c20_i32_197
  let v451 : BitVec 32 := Scalar.extui v450
  let c0_i32_199 : BitVec 32 := 0#32
  let v452 : BitVec 1 := Scalar.cmpi .ne v451 c0_i32_199
  v452

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev53 : Nat :=
  let c0_i32_925 : BitVec 32 := 0#32
  let c20_i32_923 : BitVec 32 := 20#32
  let c1_i32_924 : BitVec 32 := 1#32
  let v986 : BitVec 32 := Scalar.muli c20_i32_923 c1_i32_924
  let v987 : BitVec 32 := Scalar.addi c0_i32_925 v986
  v987.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_200 : BitVec 32 := 21#32
  let v453 : BitVec 1 := Scalar.cmpi .ne v2 c21_i32_200
  let v454 : BitVec 32 := Scalar.extui v453
  let c0_i32_202 : BitVec 32 := 0#32
  let v455 : BitVec 1 := Scalar.cmpi .ne v454 c0_i32_202
  v455

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev54 : Nat :=
  let c0_i32_925 : BitVec 32 := 0#32
  let c21_i32_923 : BitVec 32 := 21#32
  let c1_i32_924 : BitVec 32 := 1#32
  let v986 : BitVec 32 := Scalar.muli c21_i32_923 c1_i32_924
  let v987 : BitVec 32 := Scalar.addi c0_i32_925 v986
  v987.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_203 : BitVec 32 := 22#32
  let v456 : BitVec 1 := Scalar.cmpi .ne v2 c22_i32_203
  let v457 : BitVec 32 := Scalar.extui v456
  let c0_i32_205 : BitVec 32 := 0#32
  let v458 : BitVec 1 := Scalar.cmpi .ne v457 c0_i32_205
  v458

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev55 : Nat :=
  let c0_i32_925 : BitVec 32 := 0#32
  let c22_i32_923 : BitVec 32 := 22#32
  let c1_i32_924 : BitVec 32 := 1#32
  let v986 : BitVec 32 := Scalar.muli c22_i32_923 c1_i32_924
  let v987 : BitVec 32 := Scalar.addi c0_i32_925 v986
  v987.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_206 : BitVec 32 := 23#32
  let v459 : BitVec 1 := Scalar.cmpi .ne v2 c23_i32_206
  let v460 : BitVec 32 := Scalar.extui v459
  let c0_i32_208 : BitVec 32 := 0#32
  let v461 : BitVec 1 := Scalar.cmpi .ne v460 c0_i32_208
  v461

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev56 : Nat :=
  let c0_i32_925 : BitVec 32 := 0#32
  let c23_i32_923 : BitVec 32 := 23#32
  let c1_i32_924 : BitVec 32 := 1#32
  let v986 : BitVec 32 := Scalar.muli c23_i32_923 c1_i32_924
  let v987 : BitVec 32 := Scalar.addi c0_i32_925 v986
  v987.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_209 : BitVec 32 := 24#32
  let v462 : BitVec 1 := Scalar.cmpi .ne v2 c24_i32_209
  let v463 : BitVec 32 := Scalar.extui v462
  let c0_i32_211 : BitVec 32 := 0#32
  let v464 : BitVec 1 := Scalar.cmpi .ne v463 c0_i32_211
  v464

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev57 : Nat :=
  let c0_i32_925 : BitVec 32 := 0#32
  let c24_i32_923 : BitVec 32 := 24#32
  let c1_i32_924 : BitVec 32 := 1#32
  let v986 : BitVec 32 := Scalar.muli c24_i32_923 c1_i32_924
  let v987 : BitVec 32 := Scalar.addi c0_i32_925 v986
  v987.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_212 : BitVec 32 := 25#32
  let v465 : BitVec 1 := Scalar.cmpi .ne v2 c25_i32_212
  let v466 : BitVec 32 := Scalar.extui v465
  let c0_i32_214 : BitVec 32 := 0#32
  let v467 : BitVec 1 := Scalar.cmpi .ne v466 c0_i32_214
  v467

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev58 : Nat :=
  let c0_i32_925 : BitVec 32 := 0#32
  let c25_i32_923 : BitVec 32 := 25#32
  let c1_i32_924 : BitVec 32 := 1#32
  let v986 : BitVec 32 := Scalar.muli c25_i32_923 c1_i32_924
  let v987 : BitVec 32 := Scalar.addi c0_i32_925 v986
  v987.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_215 : BitVec 32 := 26#32
  let v468 : BitVec 1 := Scalar.cmpi .ne v2 c26_i32_215
  let v469 : BitVec 32 := Scalar.extui v468
  let c0_i32_217 : BitVec 32 := 0#32
  let v470 : BitVec 1 := Scalar.cmpi .ne v469 c0_i32_217
  v470

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev59 : Nat :=
  let c0_i32_925 : BitVec 32 := 0#32
  let c26_i32_923 : BitVec 32 := 26#32
  let c1_i32_924 : BitVec 32 := 1#32
  let v986 : BitVec 32 := Scalar.muli c26_i32_923 c1_i32_924
  let v987 : BitVec 32 := Scalar.addi c0_i32_925 v986
  v987.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_218 : BitVec 32 := 27#32
  let v471 : BitVec 1 := Scalar.cmpi .ne v2 c27_i32_218
  let v472 : BitVec 32 := Scalar.extui v471
  let c0_i32_220 : BitVec 32 := 0#32
  let v473 : BitVec 1 := Scalar.cmpi .ne v472 c0_i32_220
  v473

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev60 : Nat :=
  let c0_i32_925 : BitVec 32 := 0#32
  let c27_i32_923 : BitVec 32 := 27#32
  let c1_i32_924 : BitVec 32 := 1#32
  let v986 : BitVec 32 := Scalar.muli c27_i32_923 c1_i32_924
  let v987 : BitVec 32 := Scalar.addi c0_i32_925 v986
  v987.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_221 : BitVec 32 := 28#32
  let v474 : BitVec 1 := Scalar.cmpi .ne v2 c28_i32_221
  let v475 : BitVec 32 := Scalar.extui v474
  let c0_i32_223 : BitVec 32 := 0#32
  let v476 : BitVec 1 := Scalar.cmpi .ne v475 c0_i32_223
  v476

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev61 : Nat :=
  let c0_i32_925 : BitVec 32 := 0#32
  let c28_i32_923 : BitVec 32 := 28#32
  let c1_i32_924 : BitVec 32 := 1#32
  let v986 : BitVec 32 := Scalar.muli c28_i32_923 c1_i32_924
  let v987 : BitVec 32 := Scalar.addi c0_i32_925 v986
  v987.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_224 : BitVec 32 := 29#32
  let v477 : BitVec 1 := Scalar.cmpi .ne v2 c29_i32_224
  let v478 : BitVec 32 := Scalar.extui v477
  let c0_i32_226 : BitVec 32 := 0#32
  let v479 : BitVec 1 := Scalar.cmpi .ne v478 c0_i32_226
  v479

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev62 : Nat :=
  let c0_i32_925 : BitVec 32 := 0#32
  let c29_i32_923 : BitVec 32 := 29#32
  let c1_i32_924 : BitVec 32 := 1#32
  let v986 : BitVec 32 := Scalar.muli c29_i32_923 c1_i32_924
  let v987 : BitVec 32 := Scalar.addi c0_i32_925 v986
  v987.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_227 : BitVec 32 := 30#32
  let v480 : BitVec 1 := Scalar.cmpi .ne v2 c30_i32_227
  let v481 : BitVec 32 := Scalar.extui v480
  let c0_i32_229 : BitVec 32 := 0#32
  let v482 : BitVec 1 := Scalar.cmpi .ne v481 c0_i32_229
  v482

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev63 : Nat :=
  let c0_i32_925 : BitVec 32 := 0#32
  let c30_i32_923 : BitVec 32 := 30#32
  let c1_i32_924 : BitVec 32 := 1#32
  let v986 : BitVec 32 := Scalar.muli c30_i32_923 c1_i32_924
  let v987 : BitVec 32 := Scalar.addi c0_i32_925 v986
  v987.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_230 : BitVec 32 := 31#32
  let v483 : BitVec 1 := Scalar.cmpi .ne v2 c31_i32_230
  let v484 : BitVec 32 := Scalar.extui v483
  let c0_i32_232 : BitVec 32 := 0#32
  let v485 : BitVec 1 := Scalar.cmpi .ne v484 c0_i32_232
  v485

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev64 : Nat :=
  let c0_i32_925 : BitVec 32 := 0#32
  let c31_i32_923 : BitVec 32 := 31#32
  let c1_i32_924 : BitVec 32 := 1#32
  let v986 : BitVec 32 := Scalar.muli c31_i32_923 c1_i32_924
  let v987 : BitVec 32 := Scalar.addi c0_i32_925 v986
  v987.toNat
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_393 : BitVec 32 := 8#32
  let v582 : BitVec 32 := Scalar.muli v2 c8_i32_393
  let v583 : Index := Scalar.indexCast v582
  let c0_394 : Index := 0#32
  ![v583.toNat, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_405 : BitVec 32 := 0#32
  let v598 : BitVec 1 := Scalar.cmpi .ne v2 c0_i32_405
  let v599 : BitVec 32 := Scalar.extui v598
  let c0_i32_407 : BitVec 32 := 0#32
  let v600 : BitVec 1 := Scalar.cmpi .ne v599 c0_i32_407
  v600

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev65 : Nat :=
  let c0_i32_925 : BitVec 32 := 0#32
  let c0_i32_923 : BitVec 32 := 0#32
  let c1_i32_924 : BitVec 32 := 1#32
  let v986 : BitVec 32 := Scalar.muli c0_i32_923 c1_i32_924
  let v987 : BitVec 32 := Scalar.addi c0_i32_925 v986
  v987.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_408 : BitVec 32 := 1#32
  let v601 : BitVec 1 := Scalar.cmpi .ne v2 c1_i32_408
  let v602 : BitVec 32 := Scalar.extui v601
  let c0_i32_410 : BitVec 32 := 0#32
  let v603 : BitVec 1 := Scalar.cmpi .ne v602 c0_i32_410
  v603

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev66 : Nat :=
  let c0_i32_925 : BitVec 32 := 0#32
  let c1_i32_923 : BitVec 32 := 1#32
  let c1_i32_924 : BitVec 32 := 1#32
  let v986 : BitVec 32 := Scalar.muli c1_i32_923 c1_i32_924
  let v987 : BitVec 32 := Scalar.addi c0_i32_925 v986
  v987.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_411 : BitVec 32 := 2#32
  let v604 : BitVec 1 := Scalar.cmpi .ne v2 c2_i32_411
  let v605 : BitVec 32 := Scalar.extui v604
  let c0_i32_413 : BitVec 32 := 0#32
  let v606 : BitVec 1 := Scalar.cmpi .ne v605 c0_i32_413
  v606

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev67 : Nat :=
  let c0_i32_925 : BitVec 32 := 0#32
  let c2_i32_923 : BitVec 32 := 2#32
  let c1_i32_924 : BitVec 32 := 1#32
  let v986 : BitVec 32 := Scalar.muli c2_i32_923 c1_i32_924
  let v987 : BitVec 32 := Scalar.addi c0_i32_925 v986
  v987.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_414 : BitVec 32 := 3#32
  let v607 : BitVec 1 := Scalar.cmpi .ne v2 c3_i32_414
  let v608 : BitVec 32 := Scalar.extui v607
  let c0_i32_416 : BitVec 32 := 0#32
  let v609 : BitVec 1 := Scalar.cmpi .ne v608 c0_i32_416
  v609

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev68 : Nat :=
  let c0_i32_925 : BitVec 32 := 0#32
  let c3_i32_923 : BitVec 32 := 3#32
  let c1_i32_924 : BitVec 32 := 1#32
  let v986 : BitVec 32 := Scalar.muli c3_i32_923 c1_i32_924
  let v987 : BitVec 32 := Scalar.addi c0_i32_925 v986
  v987.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_417 : BitVec 32 := 4#32
  let v610 : BitVec 1 := Scalar.cmpi .ne v2 c4_i32_417
  let v611 : BitVec 32 := Scalar.extui v610
  let c0_i32_419 : BitVec 32 := 0#32
  let v612 : BitVec 1 := Scalar.cmpi .ne v611 c0_i32_419
  v612

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev69 : Nat :=
  let c0_i32_925 : BitVec 32 := 0#32
  let c4_i32_923 : BitVec 32 := 4#32
  let c1_i32_924 : BitVec 32 := 1#32
  let v986 : BitVec 32 := Scalar.muli c4_i32_923 c1_i32_924
  let v987 : BitVec 32 := Scalar.addi c0_i32_925 v986
  v987.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_420 : BitVec 32 := 5#32
  let v613 : BitVec 1 := Scalar.cmpi .ne v2 c5_i32_420
  let v614 : BitVec 32 := Scalar.extui v613
  let c0_i32_422 : BitVec 32 := 0#32
  let v615 : BitVec 1 := Scalar.cmpi .ne v614 c0_i32_422
  v615

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev70 : Nat :=
  let c0_i32_925 : BitVec 32 := 0#32
  let c5_i32_923 : BitVec 32 := 5#32
  let c1_i32_924 : BitVec 32 := 1#32
  let v986 : BitVec 32 := Scalar.muli c5_i32_923 c1_i32_924
  let v987 : BitVec 32 := Scalar.addi c0_i32_925 v986
  v987.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_423 : BitVec 32 := 6#32
  let v616 : BitVec 1 := Scalar.cmpi .ne v2 c6_i32_423
  let v617 : BitVec 32 := Scalar.extui v616
  let c0_i32_425 : BitVec 32 := 0#32
  let v618 : BitVec 1 := Scalar.cmpi .ne v617 c0_i32_425
  v618

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev71 : Nat :=
  let c0_i32_925 : BitVec 32 := 0#32
  let c6_i32_923 : BitVec 32 := 6#32
  let c1_i32_924 : BitVec 32 := 1#32
  let v986 : BitVec 32 := Scalar.muli c6_i32_923 c1_i32_924
  let v987 : BitVec 32 := Scalar.addi c0_i32_925 v986
  v987.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_426 : BitVec 32 := 7#32
  let v619 : BitVec 1 := Scalar.cmpi .ne v2 c7_i32_426
  let v620 : BitVec 32 := Scalar.extui v619
  let c0_i32_428 : BitVec 32 := 0#32
  let v621 : BitVec 1 := Scalar.cmpi .ne v620 c0_i32_428
  v621

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev72 : Nat :=
  let c0_i32_925 : BitVec 32 := 0#32
  let c7_i32_923 : BitVec 32 := 7#32
  let c1_i32_924 : BitVec 32 := 1#32
  let v986 : BitVec 32 := Scalar.muli c7_i32_923 c1_i32_924
  let v987 : BitVec 32 := Scalar.addi c0_i32_925 v986
  v987.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_429 : BitVec 32 := 8#32
  let v622 : BitVec 1 := Scalar.cmpi .ne v2 c8_i32_429
  let v623 : BitVec 32 := Scalar.extui v622
  let c0_i32_431 : BitVec 32 := 0#32
  let v624 : BitVec 1 := Scalar.cmpi .ne v623 c0_i32_431
  v624

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev73 : Nat :=
  let c0_i32_925 : BitVec 32 := 0#32
  let c8_i32_923 : BitVec 32 := 8#32
  let c1_i32_924 : BitVec 32 := 1#32
  let v986 : BitVec 32 := Scalar.muli c8_i32_923 c1_i32_924
  let v987 : BitVec 32 := Scalar.addi c0_i32_925 v986
  v987.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_432 : BitVec 32 := 9#32
  let v625 : BitVec 1 := Scalar.cmpi .ne v2 c9_i32_432
  let v626 : BitVec 32 := Scalar.extui v625
  let c0_i32_434 : BitVec 32 := 0#32
  let v627 : BitVec 1 := Scalar.cmpi .ne v626 c0_i32_434
  v627

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev74 : Nat :=
  let c0_i32_925 : BitVec 32 := 0#32
  let c9_i32_923 : BitVec 32 := 9#32
  let c1_i32_924 : BitVec 32 := 1#32
  let v986 : BitVec 32 := Scalar.muli c9_i32_923 c1_i32_924
  let v987 : BitVec 32 := Scalar.addi c0_i32_925 v986
  v987.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_435 : BitVec 32 := 10#32
  let v628 : BitVec 1 := Scalar.cmpi .ne v2 c10_i32_435
  let v629 : BitVec 32 := Scalar.extui v628
  let c0_i32_437 : BitVec 32 := 0#32
  let v630 : BitVec 1 := Scalar.cmpi .ne v629 c0_i32_437
  v630

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev75 : Nat :=
  let c0_i32_925 : BitVec 32 := 0#32
  let c10_i32_923 : BitVec 32 := 10#32
  let c1_i32_924 : BitVec 32 := 1#32
  let v986 : BitVec 32 := Scalar.muli c10_i32_923 c1_i32_924
  let v987 : BitVec 32 := Scalar.addi c0_i32_925 v986
  v987.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_438 : BitVec 32 := 11#32
  let v631 : BitVec 1 := Scalar.cmpi .ne v2 c11_i32_438
  let v632 : BitVec 32 := Scalar.extui v631
  let c0_i32_440 : BitVec 32 := 0#32
  let v633 : BitVec 1 := Scalar.cmpi .ne v632 c0_i32_440
  v633

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev76 : Nat :=
  let c0_i32_925 : BitVec 32 := 0#32
  let c11_i32_923 : BitVec 32 := 11#32
  let c1_i32_924 : BitVec 32 := 1#32
  let v986 : BitVec 32 := Scalar.muli c11_i32_923 c1_i32_924
  let v987 : BitVec 32 := Scalar.addi c0_i32_925 v986
  v987.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_441 : BitVec 32 := 12#32
  let v634 : BitVec 1 := Scalar.cmpi .ne v2 c12_i32_441
  let v635 : BitVec 32 := Scalar.extui v634
  let c0_i32_443 : BitVec 32 := 0#32
  let v636 : BitVec 1 := Scalar.cmpi .ne v635 c0_i32_443
  v636

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev77 : Nat :=
  let c0_i32_925 : BitVec 32 := 0#32
  let c12_i32_923 : BitVec 32 := 12#32
  let c1_i32_924 : BitVec 32 := 1#32
  let v986 : BitVec 32 := Scalar.muli c12_i32_923 c1_i32_924
  let v987 : BitVec 32 := Scalar.addi c0_i32_925 v986
  v987.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_444 : BitVec 32 := 13#32
  let v637 : BitVec 1 := Scalar.cmpi .ne v2 c13_i32_444
  let v638 : BitVec 32 := Scalar.extui v637
  let c0_i32_446 : BitVec 32 := 0#32
  let v639 : BitVec 1 := Scalar.cmpi .ne v638 c0_i32_446
  v639

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev78 : Nat :=
  let c0_i32_925 : BitVec 32 := 0#32
  let c13_i32_923 : BitVec 32 := 13#32
  let c1_i32_924 : BitVec 32 := 1#32
  let v986 : BitVec 32 := Scalar.muli c13_i32_923 c1_i32_924
  let v987 : BitVec 32 := Scalar.addi c0_i32_925 v986
  v987.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_447 : BitVec 32 := 14#32
  let v640 : BitVec 1 := Scalar.cmpi .ne v2 c14_i32_447
  let v641 : BitVec 32 := Scalar.extui v640
  let c0_i32_449 : BitVec 32 := 0#32
  let v642 : BitVec 1 := Scalar.cmpi .ne v641 c0_i32_449
  v642

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev79 : Nat :=
  let c0_i32_925 : BitVec 32 := 0#32
  let c14_i32_923 : BitVec 32 := 14#32
  let c1_i32_924 : BitVec 32 := 1#32
  let v986 : BitVec 32 := Scalar.muli c14_i32_923 c1_i32_924
  let v987 : BitVec 32 := Scalar.addi c0_i32_925 v986
  v987.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_450 : BitVec 32 := 15#32
  let v643 : BitVec 1 := Scalar.cmpi .ne v2 c15_i32_450
  let v644 : BitVec 32 := Scalar.extui v643
  let c0_i32_452 : BitVec 32 := 0#32
  let v645 : BitVec 1 := Scalar.cmpi .ne v644 c0_i32_452
  v645

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev80 : Nat :=
  let c0_i32_925 : BitVec 32 := 0#32
  let c15_i32_923 : BitVec 32 := 15#32
  let c1_i32_924 : BitVec 32 := 1#32
  let v986 : BitVec 32 := Scalar.muli c15_i32_923 c1_i32_924
  let v987 : BitVec 32 := Scalar.addi c0_i32_925 v986
  v987.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_453 : BitVec 32 := 16#32
  let v646 : BitVec 1 := Scalar.cmpi .ne v2 c16_i32_453
  let v647 : BitVec 32 := Scalar.extui v646
  let c0_i32_455 : BitVec 32 := 0#32
  let v648 : BitVec 1 := Scalar.cmpi .ne v647 c0_i32_455
  v648

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev81 : Nat :=
  let c0_i32_925 : BitVec 32 := 0#32
  let c16_i32_923 : BitVec 32 := 16#32
  let c1_i32_924 : BitVec 32 := 1#32
  let v986 : BitVec 32 := Scalar.muli c16_i32_923 c1_i32_924
  let v987 : BitVec 32 := Scalar.addi c0_i32_925 v986
  v987.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_456 : BitVec 32 := 17#32
  let v649 : BitVec 1 := Scalar.cmpi .ne v2 c17_i32_456
  let v650 : BitVec 32 := Scalar.extui v649
  let c0_i32_458 : BitVec 32 := 0#32
  let v651 : BitVec 1 := Scalar.cmpi .ne v650 c0_i32_458
  v651

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev82 : Nat :=
  let c0_i32_925 : BitVec 32 := 0#32
  let c17_i32_923 : BitVec 32 := 17#32
  let c1_i32_924 : BitVec 32 := 1#32
  let v986 : BitVec 32 := Scalar.muli c17_i32_923 c1_i32_924
  let v987 : BitVec 32 := Scalar.addi c0_i32_925 v986
  v987.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_459 : BitVec 32 := 18#32
  let v652 : BitVec 1 := Scalar.cmpi .ne v2 c18_i32_459
  let v653 : BitVec 32 := Scalar.extui v652
  let c0_i32_461 : BitVec 32 := 0#32
  let v654 : BitVec 1 := Scalar.cmpi .ne v653 c0_i32_461
  v654

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev83 : Nat :=
  let c0_i32_925 : BitVec 32 := 0#32
  let c18_i32_923 : BitVec 32 := 18#32
  let c1_i32_924 : BitVec 32 := 1#32
  let v986 : BitVec 32 := Scalar.muli c18_i32_923 c1_i32_924
  let v987 : BitVec 32 := Scalar.addi c0_i32_925 v986
  v987.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_462 : BitVec 32 := 19#32
  let v655 : BitVec 1 := Scalar.cmpi .ne v2 c19_i32_462
  let v656 : BitVec 32 := Scalar.extui v655
  let c0_i32_464 : BitVec 32 := 0#32
  let v657 : BitVec 1 := Scalar.cmpi .ne v656 c0_i32_464
  v657

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev84 : Nat :=
  let c0_i32_925 : BitVec 32 := 0#32
  let c19_i32_923 : BitVec 32 := 19#32
  let c1_i32_924 : BitVec 32 := 1#32
  let v986 : BitVec 32 := Scalar.muli c19_i32_923 c1_i32_924
  let v987 : BitVec 32 := Scalar.addi c0_i32_925 v986
  v987.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_465 : BitVec 32 := 20#32
  let v658 : BitVec 1 := Scalar.cmpi .ne v2 c20_i32_465
  let v659 : BitVec 32 := Scalar.extui v658
  let c0_i32_467 : BitVec 32 := 0#32
  let v660 : BitVec 1 := Scalar.cmpi .ne v659 c0_i32_467
  v660

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev85 : Nat :=
  let c0_i32_925 : BitVec 32 := 0#32
  let c20_i32_923 : BitVec 32 := 20#32
  let c1_i32_924 : BitVec 32 := 1#32
  let v986 : BitVec 32 := Scalar.muli c20_i32_923 c1_i32_924
  let v987 : BitVec 32 := Scalar.addi c0_i32_925 v986
  v987.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_468 : BitVec 32 := 21#32
  let v661 : BitVec 1 := Scalar.cmpi .ne v2 c21_i32_468
  let v662 : BitVec 32 := Scalar.extui v661
  let c0_i32_470 : BitVec 32 := 0#32
  let v663 : BitVec 1 := Scalar.cmpi .ne v662 c0_i32_470
  v663

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev86 : Nat :=
  let c0_i32_925 : BitVec 32 := 0#32
  let c21_i32_923 : BitVec 32 := 21#32
  let c1_i32_924 : BitVec 32 := 1#32
  let v986 : BitVec 32 := Scalar.muli c21_i32_923 c1_i32_924
  let v987 : BitVec 32 := Scalar.addi c0_i32_925 v986
  v987.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_471 : BitVec 32 := 22#32
  let v664 : BitVec 1 := Scalar.cmpi .ne v2 c22_i32_471
  let v665 : BitVec 32 := Scalar.extui v664
  let c0_i32_473 : BitVec 32 := 0#32
  let v666 : BitVec 1 := Scalar.cmpi .ne v665 c0_i32_473
  v666

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev87 : Nat :=
  let c0_i32_925 : BitVec 32 := 0#32
  let c22_i32_923 : BitVec 32 := 22#32
  let c1_i32_924 : BitVec 32 := 1#32
  let v986 : BitVec 32 := Scalar.muli c22_i32_923 c1_i32_924
  let v987 : BitVec 32 := Scalar.addi c0_i32_925 v986
  v987.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_474 : BitVec 32 := 23#32
  let v667 : BitVec 1 := Scalar.cmpi .ne v2 c23_i32_474
  let v668 : BitVec 32 := Scalar.extui v667
  let c0_i32_476 : BitVec 32 := 0#32
  let v669 : BitVec 1 := Scalar.cmpi .ne v668 c0_i32_476
  v669

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev88 : Nat :=
  let c0_i32_925 : BitVec 32 := 0#32
  let c23_i32_923 : BitVec 32 := 23#32
  let c1_i32_924 : BitVec 32 := 1#32
  let v986 : BitVec 32 := Scalar.muli c23_i32_923 c1_i32_924
  let v987 : BitVec 32 := Scalar.addi c0_i32_925 v986
  v987.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_477 : BitVec 32 := 24#32
  let v670 : BitVec 1 := Scalar.cmpi .ne v2 c24_i32_477
  let v671 : BitVec 32 := Scalar.extui v670
  let c0_i32_479 : BitVec 32 := 0#32
  let v672 : BitVec 1 := Scalar.cmpi .ne v671 c0_i32_479
  v672

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev89 : Nat :=
  let c0_i32_925 : BitVec 32 := 0#32
  let c24_i32_923 : BitVec 32 := 24#32
  let c1_i32_924 : BitVec 32 := 1#32
  let v986 : BitVec 32 := Scalar.muli c24_i32_923 c1_i32_924
  let v987 : BitVec 32 := Scalar.addi c0_i32_925 v986
  v987.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_480 : BitVec 32 := 25#32
  let v673 : BitVec 1 := Scalar.cmpi .ne v2 c25_i32_480
  let v674 : BitVec 32 := Scalar.extui v673
  let c0_i32_482 : BitVec 32 := 0#32
  let v675 : BitVec 1 := Scalar.cmpi .ne v674 c0_i32_482
  v675

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev90 : Nat :=
  let c0_i32_925 : BitVec 32 := 0#32
  let c25_i32_923 : BitVec 32 := 25#32
  let c1_i32_924 : BitVec 32 := 1#32
  let v986 : BitVec 32 := Scalar.muli c25_i32_923 c1_i32_924
  let v987 : BitVec 32 := Scalar.addi c0_i32_925 v986
  v987.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_483 : BitVec 32 := 26#32
  let v676 : BitVec 1 := Scalar.cmpi .ne v2 c26_i32_483
  let v677 : BitVec 32 := Scalar.extui v676
  let c0_i32_485 : BitVec 32 := 0#32
  let v678 : BitVec 1 := Scalar.cmpi .ne v677 c0_i32_485
  v678

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev91 : Nat :=
  let c0_i32_925 : BitVec 32 := 0#32
  let c26_i32_923 : BitVec 32 := 26#32
  let c1_i32_924 : BitVec 32 := 1#32
  let v986 : BitVec 32 := Scalar.muli c26_i32_923 c1_i32_924
  let v987 : BitVec 32 := Scalar.addi c0_i32_925 v986
  v987.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_486 : BitVec 32 := 27#32
  let v679 : BitVec 1 := Scalar.cmpi .ne v2 c27_i32_486
  let v680 : BitVec 32 := Scalar.extui v679
  let c0_i32_488 : BitVec 32 := 0#32
  let v681 : BitVec 1 := Scalar.cmpi .ne v680 c0_i32_488
  v681

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev92 : Nat :=
  let c0_i32_925 : BitVec 32 := 0#32
  let c27_i32_923 : BitVec 32 := 27#32
  let c1_i32_924 : BitVec 32 := 1#32
  let v986 : BitVec 32 := Scalar.muli c27_i32_923 c1_i32_924
  let v987 : BitVec 32 := Scalar.addi c0_i32_925 v986
  v987.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_489 : BitVec 32 := 28#32
  let v682 : BitVec 1 := Scalar.cmpi .ne v2 c28_i32_489
  let v683 : BitVec 32 := Scalar.extui v682
  let c0_i32_491 : BitVec 32 := 0#32
  let v684 : BitVec 1 := Scalar.cmpi .ne v683 c0_i32_491
  v684

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev93 : Nat :=
  let c0_i32_925 : BitVec 32 := 0#32
  let c28_i32_923 : BitVec 32 := 28#32
  let c1_i32_924 : BitVec 32 := 1#32
  let v986 : BitVec 32 := Scalar.muli c28_i32_923 c1_i32_924
  let v987 : BitVec 32 := Scalar.addi c0_i32_925 v986
  v987.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_492 : BitVec 32 := 29#32
  let v685 : BitVec 1 := Scalar.cmpi .ne v2 c29_i32_492
  let v686 : BitVec 32 := Scalar.extui v685
  let c0_i32_494 : BitVec 32 := 0#32
  let v687 : BitVec 1 := Scalar.cmpi .ne v686 c0_i32_494
  v687

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev94 : Nat :=
  let c0_i32_925 : BitVec 32 := 0#32
  let c29_i32_923 : BitVec 32 := 29#32
  let c1_i32_924 : BitVec 32 := 1#32
  let v986 : BitVec 32 := Scalar.muli c29_i32_923 c1_i32_924
  let v987 : BitVec 32 := Scalar.addi c0_i32_925 v986
  v987.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_495 : BitVec 32 := 30#32
  let v688 : BitVec 1 := Scalar.cmpi .ne v2 c30_i32_495
  let v689 : BitVec 32 := Scalar.extui v688
  let c0_i32_497 : BitVec 32 := 0#32
  let v690 : BitVec 1 := Scalar.cmpi .ne v689 c0_i32_497
  v690

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev95 : Nat :=
  let c0_i32_925 : BitVec 32 := 0#32
  let c30_i32_923 : BitVec 32 := 30#32
  let c1_i32_924 : BitVec 32 := 1#32
  let v986 : BitVec 32 := Scalar.muli c30_i32_923 c1_i32_924
  let v987 : BitVec 32 := Scalar.addi c0_i32_925 v986
  v987.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_498 : BitVec 32 := 31#32
  let v691 : BitVec 1 := Scalar.cmpi .ne v2 c31_i32_498
  let v692 : BitVec 32 := Scalar.extui v691
  let c0_i32_500 : BitVec 32 := 0#32
  let v693 : BitVec 1 := Scalar.cmpi .ne v692 c0_i32_500
  v693

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_dev96 : Nat :=
  let c0_i32_925 : BitVec 32 := 0#32
  let c31_i32_923 : BitVec 32 := 31#32
  let c1_i32_924 : BitVec 32 := 1#32
  let v986 : BitVec 32 := Scalar.muli c31_i32_923 c1_i32_924
  let v987 : BitVec 32 := Scalar.addi c0_i32_925 v986
  v987.toNat
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_667 : BitVec 32 := 0#32
  let v794 : BitVec 1 := Scalar.cmpi .ne v2 c0_i32_667
  let v795 : BitVec 32 := Scalar.extui v794
  let c0_i32_669 : BitVec 32 := 0#32
  let v796 : BitVec 1 := Scalar.cmpi .ne v795 c0_i32_669
  v796

def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_927 : BitVec 32 := 0#32
  let c0_i32_928 : BitVec 32 := 0#32
  ![v2.toNat, 0, 0]
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_670 : BitVec 32 := 1#32
  let v797 : BitVec 1 := Scalar.cmpi .ne v2 c1_i32_670
  let v798 : BitVec 32 := Scalar.extui v797
  let c0_i32_672 : BitVec 32 := 0#32
  let v799 : BitVec 1 := Scalar.cmpi .ne v798 c0_i32_672
  v799

def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_927 : BitVec 32 := 0#32
  let c0_i32_928 : BitVec 32 := 0#32
  ![v2.toNat, 0, 0]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_673 : BitVec 32 := 2#32
  let v800 : BitVec 1 := Scalar.cmpi .ne v2 c2_i32_673
  let v801 : BitVec 32 := Scalar.extui v800
  let c0_i32_675 : BitVec 32 := 0#32
  let v802 : BitVec 1 := Scalar.cmpi .ne v801 c0_i32_675
  v802

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_927 : BitVec 32 := 0#32
  let c0_i32_928 : BitVec 32 := 0#32
  ![v2.toNat, 0, 0]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_676 : BitVec 32 := 3#32
  let v803 : BitVec 1 := Scalar.cmpi .ne v2 c3_i32_676
  let v804 : BitVec 32 := Scalar.extui v803
  let c0_i32_678 : BitVec 32 := 0#32
  let v805 : BitVec 1 := Scalar.cmpi .ne v804 c0_i32_678
  v805

def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_927 : BitVec 32 := 0#32
  let c0_i32_928 : BitVec 32 := 0#32
  ![v2.toNat, 0, 0]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_679 : BitVec 32 := 4#32
  let v806 : BitVec 1 := Scalar.cmpi .ne v2 c4_i32_679
  let v807 : BitVec 32 := Scalar.extui v806
  let c0_i32_681 : BitVec 32 := 0#32
  let v808 : BitVec 1 := Scalar.cmpi .ne v807 c0_i32_681
  v808

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_927 : BitVec 32 := 0#32
  let c0_i32_928 : BitVec 32 := 0#32
  ![v2.toNat, 0, 0]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_682 : BitVec 32 := 5#32
  let v809 : BitVec 1 := Scalar.cmpi .ne v2 c5_i32_682
  let v810 : BitVec 32 := Scalar.extui v809
  let c0_i32_684 : BitVec 32 := 0#32
  let v811 : BitVec 1 := Scalar.cmpi .ne v810 c0_i32_684
  v811

def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_685 : BitVec 32 := 6#32
  let v812 : BitVec 1 := Scalar.cmpi .ne v2 c6_i32_685
  let v813 : BitVec 32 := Scalar.extui v812
  let c0_i32_687 : BitVec 32 := 0#32
  let v814 : BitVec 1 := Scalar.cmpi .ne v813 c0_i32_687
  v814

def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_688 : BitVec 32 := 7#32
  let v815 : BitVec 1 := Scalar.cmpi .ne v2 c7_i32_688
  let v816 : BitVec 32 := Scalar.extui v815
  let c0_i32_690 : BitVec 32 := 0#32
  let v817 : BitVec 1 := Scalar.cmpi .ne v816 c0_i32_690
  v817

def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_691 : BitVec 32 := 8#32
  let v818 : BitVec 1 := Scalar.cmpi .ne v2 c8_i32_691
  let v819 : BitVec 32 := Scalar.extui v818
  let c0_i32_693 : BitVec 32 := 0#32
  let v820 : BitVec 1 := Scalar.cmpi .ne v819 c0_i32_693
  v820

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_927 : BitVec 32 := 0#32
  let c0_i32_928 : BitVec 32 := 0#32
  ![v2.toNat, 0, 0]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_694 : BitVec 32 := 9#32
  let v821 : BitVec 1 := Scalar.cmpi .ne v2 c9_i32_694
  let v822 : BitVec 32 := Scalar.extui v821
  let c0_i32_696 : BitVec 32 := 0#32
  let v823 : BitVec 1 := Scalar.cmpi .ne v822 c0_i32_696
  v823

def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_697 : BitVec 32 := 10#32
  let v824 : BitVec 1 := Scalar.cmpi .ne v2 c10_i32_697
  let v825 : BitVec 32 := Scalar.extui v824
  let c0_i32_699 : BitVec 32 := 0#32
  let v826 : BitVec 1 := Scalar.cmpi .ne v825 c0_i32_699
  v826

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_700 : BitVec 32 := 11#32
  let v827 : BitVec 1 := Scalar.cmpi .ne v2 c11_i32_700
  let v828 : BitVec 32 := Scalar.extui v827
  let c0_i32_702 : BitVec 32 := 0#32
  let v829 : BitVec 1 := Scalar.cmpi .ne v828 c0_i32_702
  v829

def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_703 : BitVec 32 := 12#32
  let v830 : BitVec 1 := Scalar.cmpi .ne v2 c12_i32_703
  let v831 : BitVec 32 := Scalar.extui v830
  let c0_i32_705 : BitVec 32 := 0#32
  let v832 : BitVec 1 := Scalar.cmpi .ne v831 c0_i32_705
  v832

def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_706 : BitVec 32 := 13#32
  let v833 : BitVec 1 := Scalar.cmpi .ne v2 c13_i32_706
  let v834 : BitVec 32 := Scalar.extui v833
  let c0_i32_708 : BitVec 32 := 0#32
  let v835 : BitVec 1 := Scalar.cmpi .ne v834 c0_i32_708
  v835

def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_709 : BitVec 32 := 14#32
  let v836 : BitVec 1 := Scalar.cmpi .ne v2 c14_i32_709
  let v837 : BitVec 32 := Scalar.extui v836
  let c0_i32_711 : BitVec 32 := 0#32
  let v838 : BitVec 1 := Scalar.cmpi .ne v837 c0_i32_711
  v838

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_712 : BitVec 32 := 15#32
  let v839 : BitVec 1 := Scalar.cmpi .ne v2 c15_i32_712
  let v840 : BitVec 32 := Scalar.extui v839
  let c0_i32_714 : BitVec 32 := 0#32
  let v841 : BitVec 1 := Scalar.cmpi .ne v840 c0_i32_714
  v841

def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_715 : BitVec 32 := 16#32
  let v842 : BitVec 1 := Scalar.cmpi .ne v2 c16_i32_715
  let v843 : BitVec 32 := Scalar.extui v842
  let c0_i32_717 : BitVec 32 := 0#32
  let v844 : BitVec 1 := Scalar.cmpi .ne v843 c0_i32_717
  v844

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_927 : BitVec 32 := 0#32
  let c0_i32_928 : BitVec 32 := 0#32
  ![v2.toNat, 0, 0]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_718 : BitVec 32 := 17#32
  let v845 : BitVec 1 := Scalar.cmpi .ne v2 c17_i32_718
  let v846 : BitVec 32 := Scalar.extui v845
  let c0_i32_720 : BitVec 32 := 0#32
  let v847 : BitVec 1 := Scalar.cmpi .ne v846 c0_i32_720
  v847

def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_721 : BitVec 32 := 18#32
  let v848 : BitVec 1 := Scalar.cmpi .ne v2 c18_i32_721
  let v849 : BitVec 32 := Scalar.extui v848
  let c0_i32_723 : BitVec 32 := 0#32
  let v850 : BitVec 1 := Scalar.cmpi .ne v849 c0_i32_723
  v850

def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_724 : BitVec 32 := 19#32
  let v851 : BitVec 1 := Scalar.cmpi .ne v2 c19_i32_724
  let v852 : BitVec 32 := Scalar.extui v851
  let c0_i32_726 : BitVec 32 := 0#32
  let v853 : BitVec 1 := Scalar.cmpi .ne v852 c0_i32_726
  v853

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_727 : BitVec 32 := 20#32
  let v854 : BitVec 1 := Scalar.cmpi .ne v2 c20_i32_727
  let v855 : BitVec 32 := Scalar.extui v854
  let c0_i32_729 : BitVec 32 := 0#32
  let v856 : BitVec 1 := Scalar.cmpi .ne v855 c0_i32_729
  v856

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_730 : BitVec 32 := 21#32
  let v857 : BitVec 1 := Scalar.cmpi .ne v2 c21_i32_730
  let v858 : BitVec 32 := Scalar.extui v857
  let c0_i32_732 : BitVec 32 := 0#32
  let v859 : BitVec 1 := Scalar.cmpi .ne v858 c0_i32_732
  v859

def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_733 : BitVec 32 := 22#32
  let v860 : BitVec 1 := Scalar.cmpi .ne v2 c22_i32_733
  let v861 : BitVec 32 := Scalar.extui v860
  let c0_i32_735 : BitVec 32 := 0#32
  let v862 : BitVec 1 := Scalar.cmpi .ne v861 c0_i32_735
  v862

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_736 : BitVec 32 := 23#32
  let v863 : BitVec 1 := Scalar.cmpi .ne v2 c23_i32_736
  let v864 : BitVec 32 := Scalar.extui v863
  let c0_i32_738 : BitVec 32 := 0#32
  let v865 : BitVec 1 := Scalar.cmpi .ne v864 c0_i32_738
  v865

def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_739 : BitVec 32 := 24#32
  let v866 : BitVec 1 := Scalar.cmpi .ne v2 c24_i32_739
  let v867 : BitVec 32 := Scalar.extui v866
  let c0_i32_741 : BitVec 32 := 0#32
  let v868 : BitVec 1 := Scalar.cmpi .ne v867 c0_i32_741
  v868

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_742 : BitVec 32 := 25#32
  let v869 : BitVec 1 := Scalar.cmpi .ne v2 c25_i32_742
  let v870 : BitVec 32 := Scalar.extui v869
  let c0_i32_744 : BitVec 32 := 0#32
  let v871 : BitVec 1 := Scalar.cmpi .ne v870 c0_i32_744
  v871

def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_745 : BitVec 32 := 26#32
  let v872 : BitVec 1 := Scalar.cmpi .ne v2 c26_i32_745
  let v873 : BitVec 32 := Scalar.extui v872
  let c0_i32_747 : BitVec 32 := 0#32
  let v874 : BitVec 1 := Scalar.cmpi .ne v873 c0_i32_747
  v874

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_748 : BitVec 32 := 27#32
  let v875 : BitVec 1 := Scalar.cmpi .ne v2 c27_i32_748
  let v876 : BitVec 32 := Scalar.extui v875
  let c0_i32_750 : BitVec 32 := 0#32
  let v877 : BitVec 1 := Scalar.cmpi .ne v876 c0_i32_750
  v877

def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_751 : BitVec 32 := 28#32
  let v878 : BitVec 1 := Scalar.cmpi .ne v2 c28_i32_751
  let v879 : BitVec 32 := Scalar.extui v878
  let c0_i32_753 : BitVec 32 := 0#32
  let v880 : BitVec 1 := Scalar.cmpi .ne v879 c0_i32_753
  v880

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_754 : BitVec 32 := 29#32
  let v881 : BitVec 1 := Scalar.cmpi .ne v2 c29_i32_754
  let v882 : BitVec 32 := Scalar.extui v881
  let c0_i32_756 : BitVec 32 := 0#32
  let v883 : BitVec 1 := Scalar.cmpi .ne v882 c0_i32_756
  v883

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_757 : BitVec 32 := 30#32
  let v884 : BitVec 1 := Scalar.cmpi .ne v2 c30_i32_757
  let v885 : BitVec 32 := Scalar.extui v884
  let c0_i32_759 : BitVec 32 := 0#32
  let v886 : BitVec 1 := Scalar.cmpi .ne v885 c0_i32_759
  v886

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_760 : BitVec 32 := 31#32
  let v887 : BitVec 1 := Scalar.cmpi .ne v2 c31_i32_760
  let v888 : BitVec 32 := Scalar.extui v887
  let c0_i32_762 : BitVec 32 := 0#32
  let v889 : BitVec 1 := Scalar.cmpi .ne v888 c0_i32_762
  v889

def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_926 : BitVec 32 := 0#32
  let c0_i32_927 : BitVec 32 := 0#32
  ![v2.toNat, 0, 0]
def k0_cond225 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_923_r0 : BitVec 32 := 0#32
  let v987_r0 : BitVec 1 := Scalar.cmpi .ne v2 c0_i32_923_r0
  let v988_r0 : BitVec 32 := Scalar.extui v987_r0
  let c0_i32_924_r0 : BitVec 32 := 0#32
  let v989_r0 : BitVec 1 := Scalar.cmpi .ne v988_r0 c0_i32_924_r0
  v989_r0

def k0_dev97 : Nat :=
  let c0_i32_992_r0 : BitVec 32 := 0#32
  let c0_i32_990_r0 : BitVec 32 := 0#32
  let c1_i32_991_r0 : BitVec 32 := 1#32
  let v1083_r0 : BitVec 32 := Scalar.muli c0_i32_990_r0 c1_i32_991_r0
  let v1084_r0 : BitVec 32 := Scalar.addi c0_i32_992_r0 v1083_r0
  v1084_r0.toNat
def k0_cond226 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_925_r0 : BitVec 32 := 1#32
  let v990_r0 : BitVec 1 := Scalar.cmpi .ne v2 c1_i32_925_r0
  let v991_r0 : BitVec 32 := Scalar.extui v990_r0
  let c0_i32_926_r0 : BitVec 32 := 0#32
  let v992_r0 : BitVec 1 := Scalar.cmpi .ne v991_r0 c0_i32_926_r0
  v992_r0

def k0_dev98 : Nat :=
  let c0_i32_992_r0 : BitVec 32 := 0#32
  let c1_i32_990_r0 : BitVec 32 := 1#32
  let c1_i32_991_r0 : BitVec 32 := 1#32
  let v1083_r0 : BitVec 32 := Scalar.muli c1_i32_990_r0 c1_i32_991_r0
  let v1084_r0 : BitVec 32 := Scalar.addi c0_i32_992_r0 v1083_r0
  v1084_r0.toNat
def k0_cond227 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_927_r0 : BitVec 32 := 2#32
  let v993_r0 : BitVec 1 := Scalar.cmpi .ne v2 c2_i32_927_r0
  let v994_r0 : BitVec 32 := Scalar.extui v993_r0
  let c0_i32_928_r0 : BitVec 32 := 0#32
  let v995_r0 : BitVec 1 := Scalar.cmpi .ne v994_r0 c0_i32_928_r0
  v995_r0

def k0_dev99 : Nat :=
  let c0_i32_992_r0 : BitVec 32 := 0#32
  let c2_i32_990_r0 : BitVec 32 := 2#32
  let c1_i32_991_r0 : BitVec 32 := 1#32
  let v1083_r0 : BitVec 32 := Scalar.muli c2_i32_990_r0 c1_i32_991_r0
  let v1084_r0 : BitVec 32 := Scalar.addi c0_i32_992_r0 v1083_r0
  v1084_r0.toNat
def k0_cond228 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_929_r0 : BitVec 32 := 3#32
  let v996_r0 : BitVec 1 := Scalar.cmpi .ne v2 c3_i32_929_r0
  let v997_r0 : BitVec 32 := Scalar.extui v996_r0
  let c0_i32_930_r0 : BitVec 32 := 0#32
  let v998_r0 : BitVec 1 := Scalar.cmpi .ne v997_r0 c0_i32_930_r0
  v998_r0

def k0_dev100 : Nat :=
  let c0_i32_992_r0 : BitVec 32 := 0#32
  let c3_i32_990_r0 : BitVec 32 := 3#32
  let c1_i32_991_r0 : BitVec 32 := 1#32
  let v1083_r0 : BitVec 32 := Scalar.muli c3_i32_990_r0 c1_i32_991_r0
  let v1084_r0 : BitVec 32 := Scalar.addi c0_i32_992_r0 v1083_r0
  v1084_r0.toNat
def k0_cond229 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_931_r0 : BitVec 32 := 4#32
  let v999_r0 : BitVec 1 := Scalar.cmpi .ne v2 c4_i32_931_r0
  let v1000_r0 : BitVec 32 := Scalar.extui v999_r0
  let c0_i32_932_r0 : BitVec 32 := 0#32
  let v1001_r0 : BitVec 1 := Scalar.cmpi .ne v1000_r0 c0_i32_932_r0
  v1001_r0

def k0_dev101 : Nat :=
  let c0_i32_992_r0 : BitVec 32 := 0#32
  let c4_i32_990_r0 : BitVec 32 := 4#32
  let c1_i32_991_r0 : BitVec 32 := 1#32
  let v1083_r0 : BitVec 32 := Scalar.muli c4_i32_990_r0 c1_i32_991_r0
  let v1084_r0 : BitVec 32 := Scalar.addi c0_i32_992_r0 v1083_r0
  v1084_r0.toNat
def k0_cond230 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_933_r0 : BitVec 32 := 5#32
  let v1002_r0 : BitVec 1 := Scalar.cmpi .ne v2 c5_i32_933_r0
  let v1003_r0 : BitVec 32 := Scalar.extui v1002_r0
  let c0_i32_934_r0 : BitVec 32 := 0#32
  let v1004_r0 : BitVec 1 := Scalar.cmpi .ne v1003_r0 c0_i32_934_r0
  v1004_r0

def k0_dev102 : Nat :=
  let c0_i32_992_r0 : BitVec 32 := 0#32
  let c5_i32_990_r0 : BitVec 32 := 5#32
  let c1_i32_991_r0 : BitVec 32 := 1#32
  let v1083_r0 : BitVec 32 := Scalar.muli c5_i32_990_r0 c1_i32_991_r0
  let v1084_r0 : BitVec 32 := Scalar.addi c0_i32_992_r0 v1083_r0
  v1084_r0.toNat
def k0_cond231 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_935_r0 : BitVec 32 := 6#32
  let v1005_r0 : BitVec 1 := Scalar.cmpi .ne v2 c6_i32_935_r0
  let v1006_r0 : BitVec 32 := Scalar.extui v1005_r0
  let c0_i32_936_r0 : BitVec 32 := 0#32
  let v1007_r0 : BitVec 1 := Scalar.cmpi .ne v1006_r0 c0_i32_936_r0
  v1007_r0

def k0_dev103 : Nat :=
  let c0_i32_992_r0 : BitVec 32 := 0#32
  let c6_i32_990_r0 : BitVec 32 := 6#32
  let c1_i32_991_r0 : BitVec 32 := 1#32
  let v1083_r0 : BitVec 32 := Scalar.muli c6_i32_990_r0 c1_i32_991_r0
  let v1084_r0 : BitVec 32 := Scalar.addi c0_i32_992_r0 v1083_r0
  v1084_r0.toNat
def k0_cond232 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_937_r0 : BitVec 32 := 7#32
  let v1008_r0 : BitVec 1 := Scalar.cmpi .ne v2 c7_i32_937_r0
  let v1009_r0 : BitVec 32 := Scalar.extui v1008_r0
  let c0_i32_938_r0 : BitVec 32 := 0#32
  let v1010_r0 : BitVec 1 := Scalar.cmpi .ne v1009_r0 c0_i32_938_r0
  v1010_r0

def k0_dev104 : Nat :=
  let c0_i32_992_r0 : BitVec 32 := 0#32
  let c7_i32_990_r0 : BitVec 32 := 7#32
  let c1_i32_991_r0 : BitVec 32 := 1#32
  let v1083_r0 : BitVec 32 := Scalar.muli c7_i32_990_r0 c1_i32_991_r0
  let v1084_r0 : BitVec 32 := Scalar.addi c0_i32_992_r0 v1083_r0
  v1084_r0.toNat
def k0_cond233 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_939_r0 : BitVec 32 := 8#32
  let v1011_r0 : BitVec 1 := Scalar.cmpi .ne v2 c8_i32_939_r0
  let v1012_r0 : BitVec 32 := Scalar.extui v1011_r0
  let c0_i32_940_r0 : BitVec 32 := 0#32
  let v1013_r0 : BitVec 1 := Scalar.cmpi .ne v1012_r0 c0_i32_940_r0
  v1013_r0

def k0_dev105 : Nat :=
  let c0_i32_992_r0 : BitVec 32 := 0#32
  let c8_i32_990_r0 : BitVec 32 := 8#32
  let c1_i32_991_r0 : BitVec 32 := 1#32
  let v1083_r0 : BitVec 32 := Scalar.muli c8_i32_990_r0 c1_i32_991_r0
  let v1084_r0 : BitVec 32 := Scalar.addi c0_i32_992_r0 v1083_r0
  v1084_r0.toNat
def k0_cond234 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_941_r0 : BitVec 32 := 9#32
  let v1014_r0 : BitVec 1 := Scalar.cmpi .ne v2 c9_i32_941_r0
  let v1015_r0 : BitVec 32 := Scalar.extui v1014_r0
  let c0_i32_942_r0 : BitVec 32 := 0#32
  let v1016_r0 : BitVec 1 := Scalar.cmpi .ne v1015_r0 c0_i32_942_r0
  v1016_r0

def k0_dev106 : Nat :=
  let c0_i32_992_r0 : BitVec 32 := 0#32
  let c9_i32_990_r0 : BitVec 32 := 9#32
  let c1_i32_991_r0 : BitVec 32 := 1#32
  let v1083_r0 : BitVec 32 := Scalar.muli c9_i32_990_r0 c1_i32_991_r0
  let v1084_r0 : BitVec 32 := Scalar.addi c0_i32_992_r0 v1083_r0
  v1084_r0.toNat
def k0_cond235 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_943_r0 : BitVec 32 := 10#32
  let v1017_r0 : BitVec 1 := Scalar.cmpi .ne v2 c10_i32_943_r0
  let v1018_r0 : BitVec 32 := Scalar.extui v1017_r0
  let c0_i32_944_r0 : BitVec 32 := 0#32
  let v1019_r0 : BitVec 1 := Scalar.cmpi .ne v1018_r0 c0_i32_944_r0
  v1019_r0

def k0_dev107 : Nat :=
  let c0_i32_992_r0 : BitVec 32 := 0#32
  let c10_i32_990_r0 : BitVec 32 := 10#32
  let c1_i32_991_r0 : BitVec 32 := 1#32
  let v1083_r0 : BitVec 32 := Scalar.muli c10_i32_990_r0 c1_i32_991_r0
  let v1084_r0 : BitVec 32 := Scalar.addi c0_i32_992_r0 v1083_r0
  v1084_r0.toNat
def k0_cond236 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_945_r0 : BitVec 32 := 11#32
  let v1020_r0 : BitVec 1 := Scalar.cmpi .ne v2 c11_i32_945_r0
  let v1021_r0 : BitVec 32 := Scalar.extui v1020_r0
  let c0_i32_946_r0 : BitVec 32 := 0#32
  let v1022_r0 : BitVec 1 := Scalar.cmpi .ne v1021_r0 c0_i32_946_r0
  v1022_r0

def k0_dev108 : Nat :=
  let c0_i32_992_r0 : BitVec 32 := 0#32
  let c11_i32_990_r0 : BitVec 32 := 11#32
  let c1_i32_991_r0 : BitVec 32 := 1#32
  let v1083_r0 : BitVec 32 := Scalar.muli c11_i32_990_r0 c1_i32_991_r0
  let v1084_r0 : BitVec 32 := Scalar.addi c0_i32_992_r0 v1083_r0
  v1084_r0.toNat
def k0_cond237 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_947_r0 : BitVec 32 := 12#32
  let v1023_r0 : BitVec 1 := Scalar.cmpi .ne v2 c12_i32_947_r0
  let v1024_r0 : BitVec 32 := Scalar.extui v1023_r0
  let c0_i32_948_r0 : BitVec 32 := 0#32
  let v1025_r0 : BitVec 1 := Scalar.cmpi .ne v1024_r0 c0_i32_948_r0
  v1025_r0

def k0_dev109 : Nat :=
  let c0_i32_992_r0 : BitVec 32 := 0#32
  let c12_i32_990_r0 : BitVec 32 := 12#32
  let c1_i32_991_r0 : BitVec 32 := 1#32
  let v1083_r0 : BitVec 32 := Scalar.muli c12_i32_990_r0 c1_i32_991_r0
  let v1084_r0 : BitVec 32 := Scalar.addi c0_i32_992_r0 v1083_r0
  v1084_r0.toNat
def k0_cond238 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_949_r0 : BitVec 32 := 13#32
  let v1026_r0 : BitVec 1 := Scalar.cmpi .ne v2 c13_i32_949_r0
  let v1027_r0 : BitVec 32 := Scalar.extui v1026_r0
  let c0_i32_950_r0 : BitVec 32 := 0#32
  let v1028_r0 : BitVec 1 := Scalar.cmpi .ne v1027_r0 c0_i32_950_r0
  v1028_r0

def k0_dev110 : Nat :=
  let c0_i32_992_r0 : BitVec 32 := 0#32
  let c13_i32_990_r0 : BitVec 32 := 13#32
  let c1_i32_991_r0 : BitVec 32 := 1#32
  let v1083_r0 : BitVec 32 := Scalar.muli c13_i32_990_r0 c1_i32_991_r0
  let v1084_r0 : BitVec 32 := Scalar.addi c0_i32_992_r0 v1083_r0
  v1084_r0.toNat
def k0_cond239 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_951_r0 : BitVec 32 := 14#32
  let v1029_r0 : BitVec 1 := Scalar.cmpi .ne v2 c14_i32_951_r0
  let v1030_r0 : BitVec 32 := Scalar.extui v1029_r0
  let c0_i32_952_r0 : BitVec 32 := 0#32
  let v1031_r0 : BitVec 1 := Scalar.cmpi .ne v1030_r0 c0_i32_952_r0
  v1031_r0

def k0_dev111 : Nat :=
  let c0_i32_992_r0 : BitVec 32 := 0#32
  let c14_i32_990_r0 : BitVec 32 := 14#32
  let c1_i32_991_r0 : BitVec 32 := 1#32
  let v1083_r0 : BitVec 32 := Scalar.muli c14_i32_990_r0 c1_i32_991_r0
  let v1084_r0 : BitVec 32 := Scalar.addi c0_i32_992_r0 v1083_r0
  v1084_r0.toNat
def k0_cond240 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_953_r0 : BitVec 32 := 15#32
  let v1032_r0 : BitVec 1 := Scalar.cmpi .ne v2 c15_i32_953_r0
  let v1033_r0 : BitVec 32 := Scalar.extui v1032_r0
  let c0_i32_954_r0 : BitVec 32 := 0#32
  let v1034_r0 : BitVec 1 := Scalar.cmpi .ne v1033_r0 c0_i32_954_r0
  v1034_r0

def k0_dev112 : Nat :=
  let c0_i32_992_r0 : BitVec 32 := 0#32
  let c15_i32_990_r0 : BitVec 32 := 15#32
  let c1_i32_991_r0 : BitVec 32 := 1#32
  let v1083_r0 : BitVec 32 := Scalar.muli c15_i32_990_r0 c1_i32_991_r0
  let v1084_r0 : BitVec 32 := Scalar.addi c0_i32_992_r0 v1083_r0
  v1084_r0.toNat
def k0_cond241 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_955_r0 : BitVec 32 := 16#32
  let v1035_r0 : BitVec 1 := Scalar.cmpi .ne v2 c16_i32_955_r0
  let v1036_r0 : BitVec 32 := Scalar.extui v1035_r0
  let c0_i32_956_r0 : BitVec 32 := 0#32
  let v1037_r0 : BitVec 1 := Scalar.cmpi .ne v1036_r0 c0_i32_956_r0
  v1037_r0

def k0_dev113 : Nat :=
  let c0_i32_992_r0 : BitVec 32 := 0#32
  let c16_i32_990_r0 : BitVec 32 := 16#32
  let c1_i32_991_r0 : BitVec 32 := 1#32
  let v1083_r0 : BitVec 32 := Scalar.muli c16_i32_990_r0 c1_i32_991_r0
  let v1084_r0 : BitVec 32 := Scalar.addi c0_i32_992_r0 v1083_r0
  v1084_r0.toNat
def k0_cond242 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_957_r0 : BitVec 32 := 17#32
  let v1038_r0 : BitVec 1 := Scalar.cmpi .ne v2 c17_i32_957_r0
  let v1039_r0 : BitVec 32 := Scalar.extui v1038_r0
  let c0_i32_958_r0 : BitVec 32 := 0#32
  let v1040_r0 : BitVec 1 := Scalar.cmpi .ne v1039_r0 c0_i32_958_r0
  v1040_r0

def k0_dev114 : Nat :=
  let c0_i32_992_r0 : BitVec 32 := 0#32
  let c17_i32_990_r0 : BitVec 32 := 17#32
  let c1_i32_991_r0 : BitVec 32 := 1#32
  let v1083_r0 : BitVec 32 := Scalar.muli c17_i32_990_r0 c1_i32_991_r0
  let v1084_r0 : BitVec 32 := Scalar.addi c0_i32_992_r0 v1083_r0
  v1084_r0.toNat
def k0_cond243 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_959_r0 : BitVec 32 := 18#32
  let v1041_r0 : BitVec 1 := Scalar.cmpi .ne v2 c18_i32_959_r0
  let v1042_r0 : BitVec 32 := Scalar.extui v1041_r0
  let c0_i32_960_r0 : BitVec 32 := 0#32
  let v1043_r0 : BitVec 1 := Scalar.cmpi .ne v1042_r0 c0_i32_960_r0
  v1043_r0

def k0_dev115 : Nat :=
  let c0_i32_992_r0 : BitVec 32 := 0#32
  let c18_i32_990_r0 : BitVec 32 := 18#32
  let c1_i32_991_r0 : BitVec 32 := 1#32
  let v1083_r0 : BitVec 32 := Scalar.muli c18_i32_990_r0 c1_i32_991_r0
  let v1084_r0 : BitVec 32 := Scalar.addi c0_i32_992_r0 v1083_r0
  v1084_r0.toNat
def k0_cond244 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_961_r0 : BitVec 32 := 19#32
  let v1044_r0 : BitVec 1 := Scalar.cmpi .ne v2 c19_i32_961_r0
  let v1045_r0 : BitVec 32 := Scalar.extui v1044_r0
  let c0_i32_962_r0 : BitVec 32 := 0#32
  let v1046_r0 : BitVec 1 := Scalar.cmpi .ne v1045_r0 c0_i32_962_r0
  v1046_r0

def k0_dev116 : Nat :=
  let c0_i32_992_r0 : BitVec 32 := 0#32
  let c19_i32_990_r0 : BitVec 32 := 19#32
  let c1_i32_991_r0 : BitVec 32 := 1#32
  let v1083_r0 : BitVec 32 := Scalar.muli c19_i32_990_r0 c1_i32_991_r0
  let v1084_r0 : BitVec 32 := Scalar.addi c0_i32_992_r0 v1083_r0
  v1084_r0.toNat
def k0_cond245 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_963_r0 : BitVec 32 := 20#32
  let v1047_r0 : BitVec 1 := Scalar.cmpi .ne v2 c20_i32_963_r0
  let v1048_r0 : BitVec 32 := Scalar.extui v1047_r0
  let c0_i32_964_r0 : BitVec 32 := 0#32
  let v1049_r0 : BitVec 1 := Scalar.cmpi .ne v1048_r0 c0_i32_964_r0
  v1049_r0

def k0_dev117 : Nat :=
  let c0_i32_992_r0 : BitVec 32 := 0#32
  let c20_i32_990_r0 : BitVec 32 := 20#32
  let c1_i32_991_r0 : BitVec 32 := 1#32
  let v1083_r0 : BitVec 32 := Scalar.muli c20_i32_990_r0 c1_i32_991_r0
  let v1084_r0 : BitVec 32 := Scalar.addi c0_i32_992_r0 v1083_r0
  v1084_r0.toNat
def k0_cond246 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_965_r0 : BitVec 32 := 21#32
  let v1050_r0 : BitVec 1 := Scalar.cmpi .ne v2 c21_i32_965_r0
  let v1051_r0 : BitVec 32 := Scalar.extui v1050_r0
  let c0_i32_966_r0 : BitVec 32 := 0#32
  let v1052_r0 : BitVec 1 := Scalar.cmpi .ne v1051_r0 c0_i32_966_r0
  v1052_r0

def k0_dev118 : Nat :=
  let c0_i32_992_r0 : BitVec 32 := 0#32
  let c21_i32_990_r0 : BitVec 32 := 21#32
  let c1_i32_991_r0 : BitVec 32 := 1#32
  let v1083_r0 : BitVec 32 := Scalar.muli c21_i32_990_r0 c1_i32_991_r0
  let v1084_r0 : BitVec 32 := Scalar.addi c0_i32_992_r0 v1083_r0
  v1084_r0.toNat
def k0_cond247 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_967_r0 : BitVec 32 := 22#32
  let v1053_r0 : BitVec 1 := Scalar.cmpi .ne v2 c22_i32_967_r0
  let v1054_r0 : BitVec 32 := Scalar.extui v1053_r0
  let c0_i32_968_r0 : BitVec 32 := 0#32
  let v1055_r0 : BitVec 1 := Scalar.cmpi .ne v1054_r0 c0_i32_968_r0
  v1055_r0

def k0_dev119 : Nat :=
  let c0_i32_992_r0 : BitVec 32 := 0#32
  let c22_i32_990_r0 : BitVec 32 := 22#32
  let c1_i32_991_r0 : BitVec 32 := 1#32
  let v1083_r0 : BitVec 32 := Scalar.muli c22_i32_990_r0 c1_i32_991_r0
  let v1084_r0 : BitVec 32 := Scalar.addi c0_i32_992_r0 v1083_r0
  v1084_r0.toNat
def k0_cond248 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_969_r0 : BitVec 32 := 23#32
  let v1056_r0 : BitVec 1 := Scalar.cmpi .ne v2 c23_i32_969_r0
  let v1057_r0 : BitVec 32 := Scalar.extui v1056_r0
  let c0_i32_970_r0 : BitVec 32 := 0#32
  let v1058_r0 : BitVec 1 := Scalar.cmpi .ne v1057_r0 c0_i32_970_r0
  v1058_r0

def k0_dev120 : Nat :=
  let c0_i32_992_r0 : BitVec 32 := 0#32
  let c23_i32_990_r0 : BitVec 32 := 23#32
  let c1_i32_991_r0 : BitVec 32 := 1#32
  let v1083_r0 : BitVec 32 := Scalar.muli c23_i32_990_r0 c1_i32_991_r0
  let v1084_r0 : BitVec 32 := Scalar.addi c0_i32_992_r0 v1083_r0
  v1084_r0.toNat
def k0_cond249 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_971_r0 : BitVec 32 := 24#32
  let v1059_r0 : BitVec 1 := Scalar.cmpi .ne v2 c24_i32_971_r0
  let v1060_r0 : BitVec 32 := Scalar.extui v1059_r0
  let c0_i32_972_r0 : BitVec 32 := 0#32
  let v1061_r0 : BitVec 1 := Scalar.cmpi .ne v1060_r0 c0_i32_972_r0
  v1061_r0

def k0_dev121 : Nat :=
  let c0_i32_992_r0 : BitVec 32 := 0#32
  let c24_i32_990_r0 : BitVec 32 := 24#32
  let c1_i32_991_r0 : BitVec 32 := 1#32
  let v1083_r0 : BitVec 32 := Scalar.muli c24_i32_990_r0 c1_i32_991_r0
  let v1084_r0 : BitVec 32 := Scalar.addi c0_i32_992_r0 v1083_r0
  v1084_r0.toNat
def k0_cond250 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_973_r0 : BitVec 32 := 25#32
  let v1062_r0 : BitVec 1 := Scalar.cmpi .ne v2 c25_i32_973_r0
  let v1063_r0 : BitVec 32 := Scalar.extui v1062_r0
  let c0_i32_974_r0 : BitVec 32 := 0#32
  let v1064_r0 : BitVec 1 := Scalar.cmpi .ne v1063_r0 c0_i32_974_r0
  v1064_r0

def k0_dev122 : Nat :=
  let c0_i32_992_r0 : BitVec 32 := 0#32
  let c25_i32_990_r0 : BitVec 32 := 25#32
  let c1_i32_991_r0 : BitVec 32 := 1#32
  let v1083_r0 : BitVec 32 := Scalar.muli c25_i32_990_r0 c1_i32_991_r0
  let v1084_r0 : BitVec 32 := Scalar.addi c0_i32_992_r0 v1083_r0
  v1084_r0.toNat
def k0_cond251 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_975_r0 : BitVec 32 := 26#32
  let v1065_r0 : BitVec 1 := Scalar.cmpi .ne v2 c26_i32_975_r0
  let v1066_r0 : BitVec 32 := Scalar.extui v1065_r0
  let c0_i32_976_r0 : BitVec 32 := 0#32
  let v1067_r0 : BitVec 1 := Scalar.cmpi .ne v1066_r0 c0_i32_976_r0
  v1067_r0

def k0_dev123 : Nat :=
  let c0_i32_992_r0 : BitVec 32 := 0#32
  let c26_i32_990_r0 : BitVec 32 := 26#32
  let c1_i32_991_r0 : BitVec 32 := 1#32
  let v1083_r0 : BitVec 32 := Scalar.muli c26_i32_990_r0 c1_i32_991_r0
  let v1084_r0 : BitVec 32 := Scalar.addi c0_i32_992_r0 v1083_r0
  v1084_r0.toNat
def k0_cond252 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_977_r0 : BitVec 32 := 27#32
  let v1068_r0 : BitVec 1 := Scalar.cmpi .ne v2 c27_i32_977_r0
  let v1069_r0 : BitVec 32 := Scalar.extui v1068_r0
  let c0_i32_978_r0 : BitVec 32 := 0#32
  let v1070_r0 : BitVec 1 := Scalar.cmpi .ne v1069_r0 c0_i32_978_r0
  v1070_r0

def k0_dev124 : Nat :=
  let c0_i32_992_r0 : BitVec 32 := 0#32
  let c27_i32_990_r0 : BitVec 32 := 27#32
  let c1_i32_991_r0 : BitVec 32 := 1#32
  let v1083_r0 : BitVec 32 := Scalar.muli c27_i32_990_r0 c1_i32_991_r0
  let v1084_r0 : BitVec 32 := Scalar.addi c0_i32_992_r0 v1083_r0
  v1084_r0.toNat
def k0_cond253 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_979_r0 : BitVec 32 := 28#32
  let v1071_r0 : BitVec 1 := Scalar.cmpi .ne v2 c28_i32_979_r0
  let v1072_r0 : BitVec 32 := Scalar.extui v1071_r0
  let c0_i32_980_r0 : BitVec 32 := 0#32
  let v1073_r0 : BitVec 1 := Scalar.cmpi .ne v1072_r0 c0_i32_980_r0
  v1073_r0

def k0_dev125 : Nat :=
  let c0_i32_992_r0 : BitVec 32 := 0#32
  let c28_i32_990_r0 : BitVec 32 := 28#32
  let c1_i32_991_r0 : BitVec 32 := 1#32
  let v1083_r0 : BitVec 32 := Scalar.muli c28_i32_990_r0 c1_i32_991_r0
  let v1084_r0 : BitVec 32 := Scalar.addi c0_i32_992_r0 v1083_r0
  v1084_r0.toNat
def k0_cond254 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_981_r0 : BitVec 32 := 29#32
  let v1074_r0 : BitVec 1 := Scalar.cmpi .ne v2 c29_i32_981_r0
  let v1075_r0 : BitVec 32 := Scalar.extui v1074_r0
  let c0_i32_982_r0 : BitVec 32 := 0#32
  let v1076_r0 : BitVec 1 := Scalar.cmpi .ne v1075_r0 c0_i32_982_r0
  v1076_r0

def k0_dev126 : Nat :=
  let c0_i32_992_r0 : BitVec 32 := 0#32
  let c29_i32_990_r0 : BitVec 32 := 29#32
  let c1_i32_991_r0 : BitVec 32 := 1#32
  let v1083_r0 : BitVec 32 := Scalar.muli c29_i32_990_r0 c1_i32_991_r0
  let v1084_r0 : BitVec 32 := Scalar.addi c0_i32_992_r0 v1083_r0
  v1084_r0.toNat
def k0_cond255 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_983_r0 : BitVec 32 := 30#32
  let v1077_r0 : BitVec 1 := Scalar.cmpi .ne v2 c30_i32_983_r0
  let v1078_r0 : BitVec 32 := Scalar.extui v1077_r0
  let c0_i32_984_r0 : BitVec 32 := 0#32
  let v1079_r0 : BitVec 1 := Scalar.cmpi .ne v1078_r0 c0_i32_984_r0
  v1079_r0

def k0_dev127 : Nat :=
  let c0_i32_992_r0 : BitVec 32 := 0#32
  let c30_i32_990_r0 : BitVec 32 := 30#32
  let c1_i32_991_r0 : BitVec 32 := 1#32
  let v1083_r0 : BitVec 32 := Scalar.muli c30_i32_990_r0 c1_i32_991_r0
  let v1084_r0 : BitVec 32 := Scalar.addi c0_i32_992_r0 v1083_r0
  v1084_r0.toNat
def k0_cond256 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_985_r0 : BitVec 32 := 31#32
  let v1080_r0 : BitVec 1 := Scalar.cmpi .ne v2 c31_i32_985_r0
  let v1081_r0 : BitVec 32 := Scalar.extui v1080_r0
  let c0_i32_986_r0 : BitVec 32 := 0#32
  let v1082_r0 : BitVec 1 := Scalar.cmpi .ne v1081_r0 c0_i32_986_r0
  v1082_r0

def k0_dev128 : Nat :=
  let c0_i32_992_r0 : BitVec 32 := 0#32
  let c31_i32_990_r0 : BitVec 32 := 31#32
  let c1_i32_991_r0 : BitVec 32 := 1#32
  let v1083_r0 : BitVec 32 := Scalar.muli c31_i32_990_r0 c1_i32_991_r0
  let v1084_r0 : BitVec 32 := Scalar.addi c0_i32_992_r0 v1083_r0
  v1084_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S8192x512 : Shape := ⟨2, ![8192, 512]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S128x32x2 : Shape := ⟨3, ![128, 32, 2]⟩
abbrev S128x64 : Shape := ⟨2, ![128, 64]⟩
abbrev S2x128x8192 : Shape := ⟨3, ![2, 128, 8192]⟩
abbrev S2x128x128x64 : Shape := ⟨4, ![2, 128, 128, 64]⟩
abbrev S2x128x128x32x2 : Shape := ⟨5, ![2, 128, 128, 32, 2]⟩
abbrev S2x128x128x32x1 : Shape := ⟨5, ![2, 128, 128, 32, 1]⟩
abbrev S2x128x128x32 : Shape := ⟨4, ![2, 128, 128, 32]⟩
abbrev S1x128x1x64 : Shape := ⟨4, ![1, 128, 1, 64]⟩
abbrev S2x128x128x128 : Shape := ⟨4, ![2, 128, 128, 128]⟩
abbrev S2x128x128 : Shape := ⟨3, ![2, 128, 128]⟩
abbrev S2x128x128x1 : Shape := ⟨4, ![2, 128, 128, 1]⟩
abbrev S2x128x64x128 : Shape := ⟨4, ![2, 128, 64, 128]⟩

abbrev nBuf : Space → Nat
  | .hbm => 101
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x8192, .bf16⟩
  | .hbm, ⟨2, _⟩ => ⟨S512x8192, .bf16⟩
  | .hbm, ⟨3, _⟩ => ⟨S512x8192, .bf16⟩
  | .hbm, ⟨4, _⟩ => ⟨S8192x512, .bf16⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S128, .i32⟩
  | .hbm, ⟨23, _⟩ => ⟨S128x1, .i32⟩
  | .hbm, ⟨24, _⟩ => ⟨S1x32, .f32⟩
  | .hbm, ⟨25, _⟩ => ⟨S128x1, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32x2, .f32⟩
  | .hbm, ⟨31, _⟩ => ⟨S128x64, .f32⟩
  | .hbm, ⟨32, _⟩ => ⟨S128x32, .f32⟩
  | .hbm, ⟨33, _⟩ => ⟨S128x32x2, .f32⟩
  | .hbm, ⟨34, _⟩ => ⟨S128x64, .f32⟩
  | .hbm, ⟨35, _⟩ => ⟨S2x128x8192, .f32⟩
  | .hbm, ⟨36, _⟩ => ⟨S2x128x8192, .bf16⟩
  | .hbm, ⟨37, _⟩ => ⟨S2x128x128x64, .bf16⟩
  | .hbm, ⟨38, _⟩ => ⟨S2x128x128x32x2, .bf16⟩
  | .hbm, ⟨39, _⟩ => ⟨S2x128x128x32x1, .bf16⟩
  | .hbm, ⟨40, _⟩ => ⟨S2x128x128x32, .bf16⟩
  | .hbm, ⟨41, _⟩ => ⟨S2x128x128x32, .bf16⟩
  | .hbm, ⟨42, _⟩ => ⟨S2x128x128x32x1, .bf16⟩
  | .hbm, ⟨43, _⟩ => ⟨S2x128x128x32, .bf16⟩
  | .hbm, ⟨44, _⟩ => ⟨S2x128x128x32x1, .bf16⟩
  | .hbm, ⟨45, _⟩ => ⟨S2x128x128x32x1, .bf16⟩
  | .hbm, ⟨46, _⟩ => ⟨S2x128x128x32x2, .bf16⟩
  | .hbm, ⟨47, _⟩ => ⟨S2x128x128x64, .bf16⟩
  | .hbm, ⟨48, _⟩ => ⟨S1x128x1x64, .f32⟩
  | .hbm, ⟨49, _⟩ => ⟨S2x128x128x64, .f32⟩
  | .hbm, ⟨50, _⟩ => ⟨S2x128x128x64, .f32⟩
  | .hbm, ⟨51, _⟩ => ⟨S2x128x128x64, .f32⟩
  | .hbm, ⟨52, _⟩ => ⟨S1x128x1x64, .f32⟩
  | .hbm, ⟨53, _⟩ => ⟨S2x128x128x64, .f32⟩
  | .hbm, ⟨54, _⟩ => ⟨S2x128x128x64, .f32⟩
  | .hbm, ⟨55, _⟩ => ⟨S2x128x128x64, .f32⟩
  | .hbm, ⟨56, _⟩ => ⟨S2x128x128x64, .f32⟩
  | .hbm, ⟨57, _⟩ => ⟨S2x128x8192, .f32⟩
  | .hbm, ⟨58, _⟩ => ⟨S2x128x8192, .bf16⟩
  | .hbm, ⟨59, _⟩ => ⟨S2x128x128x64, .bf16⟩
  | .hbm, ⟨60, _⟩ => ⟨S2x128x128x32x2, .bf16⟩
  | .hbm, ⟨61, _⟩ => ⟨S2x128x128x32x1, .bf16⟩
  | .hbm, ⟨62, _⟩ => ⟨S2x128x128x32, .bf16⟩
  | .hbm, ⟨63, _⟩ => ⟨S2x128x128x32, .bf16⟩
  | .hbm, ⟨64, _⟩ => ⟨S2x128x128x32x1, .bf16⟩
  | .hbm, ⟨65, _⟩ => ⟨S2x128x128x32, .bf16⟩
  | .hbm, ⟨66, _⟩ => ⟨S2x128x128x32x1, .bf16⟩
  | .hbm, ⟨67, _⟩ => ⟨S2x128x128x32x1, .bf16⟩
  | .hbm, ⟨68, _⟩ => ⟨S2x128x128x32x2, .bf16⟩
  | .hbm, ⟨69, _⟩ => ⟨S2x128x128x64, .bf16⟩
  | .hbm, ⟨70, _⟩ => ⟨S1x128x1x64, .f32⟩
  | .hbm, ⟨71, _⟩ => ⟨S2x128x128x64, .f32⟩
  | .hbm, ⟨72, _⟩ => ⟨S2x128x128x64, .f32⟩
  | .hbm, ⟨73, _⟩ => ⟨S2x128x128x64, .f32⟩
  | .hbm, ⟨74, _⟩ => ⟨S1x128x1x64, .f32⟩
  | .hbm, ⟨75, _⟩ => ⟨S2x128x128x64, .f32⟩
  | .hbm, ⟨76, _⟩ => ⟨S2x128x128x64, .f32⟩
  | .hbm, ⟨77, _⟩ => ⟨S2x128x128x64, .f32⟩
  | .hbm, ⟨78, _⟩ => ⟨S2x128x128x64, .f32⟩
  | .hbm, ⟨79, _⟩ => ⟨S2x128x8192, .f32⟩
  | .hbm, ⟨80, _⟩ => ⟨S2x128x8192, .bf16⟩
  | .hbm, ⟨81, _⟩ => ⟨S2x128x128x64, .bf16⟩
  | .hbm, ⟨82, _⟩ => ⟨S2x128x128x128, .f32⟩
  | .hbm, ⟨83, _⟩ => ⟨S_, .f32⟩
  | .hbm, ⟨84, _⟩ => ⟨S2x128x128x128, .f32⟩
  | .hbm, ⟨85, _⟩ => ⟨S2x128x128x128, .f32⟩
  | .hbm, ⟨86, _⟩ => ⟨S_, .f32⟩
  | .hbm, ⟨87, _⟩ => ⟨S2x128x128, .f32⟩
  | .hbm, ⟨88, _⟩ => ⟨S2x128x128x1, .f32⟩
  | .hbm, ⟨89, _⟩ => ⟨S2x128x128x128, .f32⟩
  | .hbm, ⟨90, _⟩ => ⟨S2x128x128x128, .f32⟩
  | .hbm, ⟨91, _⟩ => ⟨S2x128x128x128, .f32⟩
  | .hbm, ⟨92, _⟩ => ⟨S_, .f32⟩
  | .hbm, ⟨93, _⟩ => ⟨S2x128x128, .f32⟩
  | .hbm, ⟨94, _⟩ => ⟨S2x128x128x1, .f32⟩
  | .hbm, ⟨95, _⟩ => ⟨S2x128x128x128, .f32⟩
  | .hbm, ⟨96, _⟩ => ⟨S2x128x128x128, .f32⟩
  | .hbm, ⟨97, _⟩ => ⟨S2x128x64x128, .f32⟩
  | .hbm, ⟨98, _⟩ => ⟨S2x128x128x64, .f32⟩
  | .hbm, ⟨99, _⟩ => ⟨S2x128x8192, .f32⟩
  | .hbm, ⟨100, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_3 : Ref sig .tc := ⟨.hbm, 83, rfl⟩
abbrev main_v73 : Ref sig .tc := ⟨.hbm, 84, rfl⟩
abbrev main_v74 : Ref sig .tc := ⟨.hbm, 85, rfl⟩
abbrev main_cst_4 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_5 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Proof.Slots.lean ====
/-
The memory the devices exchange: the blocks of rows of the outgoing buffer, the landing slots of the two
receive buffers, and the semaphores of the four transfer families, each named by the device it belongs to.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Transfers
public import Idealize.ShloMosaic.Lib.Tactic

@[expose] public section

noncomputable section

namespace Cert.KernelIdeal.Mesh

open Cert.KernelIdeal Cert.KernelIdeal.Gen
open Idealize.ShloMosaic Idealize.ShloMosaic.TcCoe
open Idealize.SL Idealize.SL.Sem

/-- One device of the mesh. -/
abbrev D : Type := Dev nD

/-! ## Buffers -/

abbrev acM : Memref sig .tc .vmem S256x512 .f32 := Memref.whole cc0_scratch0
abbrev sdM : Memref sig .tc .vmem S256x512 .bf16 := Memref.whole cc0_scratch1
abbrev rvM : Memref sig .tc .vmem S32x8x512 .bf16 := Memref.whole cc0_scratch2
abbrev asM : Memref sig .tc .vmem S8x512 .bf16 := Memref.whole cc0_scratch3
abbrev avM : Memref sig .tc .vmem S32x8x512 .bf16 := Memref.whole cc0_scratch4

theorem slot_inb (j : D) : ∀ a, (![j.val, 0, 0] : Fin 3 → ℕ) a + S1x8x512.size a ≤ S32x8x512.size a := by
  revert j; decide +kernel
theorem rows_inb (j : D) : ∀ a, (![8 * j.val, 0] : Fin 2 → ℕ) a + S8x512.size a ≤ S256x512.size a := by
  revert j; decide +kernel

/-- The eight rows of the outgoing buffer meant for device `j`. -/
abbrev sdRows (j : D) : Memref sig .tc .vmem S8x512 .bf16 :=
  sdM.slice (Rect.unit (s := S256x512) ![8 * j.val, 0] S8x512.size (rows_inb j)) (fun _ => rfl)
/-- The first receive buffer's slot for device `j`. -/
abbrev rvSlot (j : D) : Memref sig .tc .vmem S8x512 .bf16 :=
  (rvM.slice (Rect.unit (s := S32x8x512) ![j.val, 0, 0] S1x8x512.size (slot_inb j)) (fun _ => rfl)).squeeze S8x512 squeezes_S1x8x512_S8x512
/-- The second receive buffer's slot for device `j`. -/
abbrev avSlot (j : D) : Memref sig .tc .vmem S8x512 .bf16 :=
  (avM.slice (Rect.unit (s := S32x8x512) ![j.val, 0, 0] S1x8x512.size (slot_inb j)) (fun _ => rfl)).squeeze S8x512 squeezes_S1x8x512_S8x512

/-! ## Indices -/

/-- The place `(row, column)` inside a slot, of a place in the whole receive buffer. -/
def inSlot (i : S32x8x512.Idx) : S8x512.Idx := fun a => match a with
  | ⟨0, _⟩ => (i 1 : Fin 8)
  | ⟨1, _⟩ => (i 2 : Fin 512)
/-- The device a place in the whole receive buffer belongs to. -/
def slotOf (i : S32x8x512.Idx) : D := (i 0 : Fin 32)
/-- The place of a slot's place in the whole receive buffer. -/
def atSlot (j : D) (y : S8x512.Idx) : S32x8x512.Idx := fun a => match a with
  | ⟨0, _⟩ => (j : Fin 32)
  | ⟨1, _⟩ => (y 0 : Fin 8)
  | ⟨2, _⟩ => (y 1 : Fin 512)
theorem slotOf_atSlot (j : D) (y : S8x512.Idx) : slotOf (atSlot j y) = j := rfl
theorem inSlot_atSlot (j : D) (y : S8x512.Idx) : inSlot (atSlot j y) = y := funext fun a => match a with
  | ⟨0, _⟩ => rfl
  | ⟨1, _⟩ => rfl
theorem atSlot_inSlot (i : S32x8x512.Idx) : atSlot (slotOf i) (inSlot i) = i := funext fun a => match a with
  | ⟨0, _⟩ => rfl
  | ⟨1, _⟩ => rfl
  | ⟨2, _⟩ => rfl
/-- The place in the outgoing buffer of row `y 0` of the block for device `j`. -/
def atRows (j : D) (y : S8x512.Idx) : S256x512.Idx := fun a => match a with
  | ⟨0, _⟩ => (⟨8 * j.val + (y 0 : Fin 8).val, by have h1 : j.val < 32 := j.isLt; have h2 : (y 0 : Fin 8).val < 8 := (y 0 : Fin 8).isLt; omega⟩ : Fin 256)
  | ⟨1, _⟩ => (y 1 : Fin 512)

theorem slot_emb (j : D) (y : S8x512.Idx) :
    (Rect.unit (s := S32x8x512) ![j.val, 0, 0] S1x8x512.size (slot_inb j)).emb (Shape.reshapeEquiv squeezes_S1x8x512_S8x512.numel_eq y) = atSlot j y := by
  rw [Shape.reshapeEquiv_cons_one]
  funext a
  apply Fin.ext
  rw [Rect.emb_apply]
  match a with
  | ⟨0, _⟩ => show j.val + 1 * 0 = j.val; omega
  | ⟨1, _⟩ => show 0 + 1 * (y 0).val = (y 0).val; omega
  | ⟨2, _⟩ => show 0 + 1 * (y 1).val = (y 1).val; omega

theorem rvSlot_emb (j : D) (y : S8x512.Idx) : (rvSlot j).view.emb y = atSlot j y := slot_emb j y
theorem avSlot_emb (j : D) (y : S8x512.Idx) : (avSlot j).view.emb y = atSlot j y := slot_emb j y
theorem sdRows_emb (j : D) (y : S8x512.Idx) : (sdRows j).view.emb y = atRows j y := by
  show (Rect.unit (s := S256x512) ![8 * j.val, 0] S8x512.size (rows_inb j)).emb y = atRows j y
  funext a
  apply Fin.ext
  rw [Rect.emb_apply]
  match a with
  | ⟨0, _⟩ => show 8 * j.val + 1 * (y 0).val = 8 * j.val + (y 0).val; omega
  | ⟨1, _⟩ => show 0 + 1 * (y 1).val = (y 1).val; omega

theorem mem_slot (j : D) (i : S32x8x512.Idx) :
    i ∈ (Rect.unit (s := S32x8x512) ![j.val, 0, 0] S1x8x512.size (slot_inb j)).set ↔ slotOf i = j := by
  rw [Rect.mem_set_unit]
  constructor
  · intro h
    have h0 := h 0
    apply Fin.ext
    have h1 : j.val ≤ (i 0).val := h0.1
    have h2 : (i 0).val < j.val + 1 := h0.2
    show (i 0).val = j.val
    omega
  · intro h a
    have hv : (i 0).val = j.val := congrArg Fin.val h
    match a with
    | ⟨0, _⟩ => exact ⟨le_of_eq hv.symm, by show (i 0).val < j.val + 1; omega⟩
    | ⟨1, _⟩ => exact ⟨Nat.zero_le _, by show (i 1).val < 0 + 8; have := (i 1).isLt; simpa using this⟩
    | ⟨2, _⟩ => exact ⟨Nat.zero_le _, by show (i 2).val < 0 + 512; have := (i 2).isLt; simpa using this⟩

theorem mem_rvSlot (j : D) (i : S32x8x512.Idx) : i ∈ (rvSlot j).view.set ↔ slotOf i = j := by
  rw [show (rvSlot j).view.set = ((View.whole cc0_scratch2).slice (Rect.unit (s := S32x8x512) ![j.val, 0, 0] S1x8x512.size (slot_inb j))).set from View.set_reshape _ _]
  exact ValueKit.mem_set_slice_whole_iff cc0_scratch2 _ i (mem_slot j i)
theorem mem_avSlot (j : D) (i : S32x8x512.Idx) : i ∈ (avSlot j).view.set ↔ slotOf i = j := by
  rw [show (avSlot j).view.set = ((View.whole cc0_scratch4).slice (Rect.unit (s := S32x8x512) ![j.val, 0, 0] S1x8x512.size (slot_inb j))).set from View.set_reshape _ _]
  exact ValueKit.mem_set_slice_whole_iff cc0_scratch4 _ i (mem_slot j i)

/-- The device whose block of rows a place in the outgoing buffer lies in. -/
def rowsOf (i : S256x512.Idx) : D := ⟨(i 0 : Fin 256).val / 8, by have h : (i 0 : Fin 256).val < 256 := (i 0 : Fin 256).isLt; show _ < 32; omega⟩
theorem mem_sdRows (j : D) (i : S256x512.Idx) : i ∈ (sdRows j).view.set ↔ rowsOf i = j := by
  refine ValueKit.mem_set_slice_whole_iff cc0_scratch1 _ i ?_
  rw [Rect.mem_set_unit]
  constructor
  · intro h
    have h1 : 8 * j.val ≤ (i 0).val := (h 0).1
    have h2 : (i 0).val < 8 * j.val + 8 := (h 0).2
    apply Fin.ext
    show (i 0).val / 8 = j.val
    omega
  · intro h a
    have hv : (i 0).val / 8 = j.val := congrArg Fin.val h
    match a with
    | ⟨0, _⟩ => exact ⟨by show 8 * j.val ≤ (i 0).val; omega, by show (i 0).val < 8 * j.val + 8; omega⟩
    | ⟨1, _⟩ => exact ⟨Nat.zero_le _, by show (i 1).val < 0 + 512; have := (i 1).isLt; simpa using this⟩

/-! ## Semaphores -/

/-- The entry barrier's semaphore (the runtime's) and the exit barrier's (the launch's own). -/
abbrev barS : Sem sig := (SemArray.scalar (sig.barrier 0 rfl) : Sems sig S_).sem
abbrev outS : Sem sig := cc0_scoped0.sem

/-- The four transfer families: outgoing blocks sent (0) and received (1), finished rows sent (2) and received (3). -/
abbrev Fam : Type := Fin 4
/-- The DMA semaphore of family `a` for the peer `j`. -/
def dq (a : Fam) (j : D) : DmaSem sig := (⟨6 + 32 * a.val + j.val, by have := a.isLt; have := j.isLt; unfold nD at this; show _ < 134; omega⟩ : Fin 134)

/-- The launch's own semaphores: the exit barrier's, and each family's for each peer; -/
abbrev OK : Type := Option (Fam × D)
/-- all of them, with the entry barrier's. -/
abbrev CK : Type := Option OK

abbrev osem : OK → SemLoc sig
  | none => .reg outS
  | some (a, j) => .dma (dq a j)
abbrev csem : CK → SemLoc sig
  | none => .reg barS
  | some k => osem k
/-- Device `c`'s cell `k`. -/
abbrev kcell (c : D) (k : CK) : GSem nD τ sig := ((c : Thread nD τ), csem k)

/-- Which of them a semaphore is. -/
def kindOf : SemLoc sig → Option CK
  | .reg s => if s = barS then some none else if s = outS then some (some none) else none
  | .dma q => if h : 6 ≤ (q : Fin 134).val then
      some (some (some (⟨((q : Fin 134).val - 6) / 32, by have h : (q : Fin 134).val < 134 := (q : Fin 134).isLt; omega⟩,
        ⟨((q : Fin 134).val - 6) % 32, Nat.mod_lt _ (by decide)⟩))) else none

theorem outS_ne_barS : outS ≠ barS := by decide

theorem kindOf_csem (k : CK) : kindOf (csem k) = some k := by
  match k with
  | none => simp [kindOf, csem]
  | some none =>
    show (if outS = barS then some none else if outS = outS then some (some none) else none) = some (some none)
    rw [if_neg outS_ne_barS, if_pos rfl]
  | some (some (a, j)) =>
    have hj : j.val < 32 := j.isLt
    have e : ((dq a j : Fin 134)).val = 6 + 32 * a.val + j.val := rfl
    show (if h : 6 ≤ ((dq a j : Fin 134)).val then _ else _) = _
    rw [dif_pos (by rw [e]; omega)]
    congr 3
    refine Prod.ext (Fin.ext ?_) (Fin.ext ?_)
    · show (((dq a j : Fin 134)).val - 6) / 32 = a.val
      rw [e]; omega
    · show (((dq a j : Fin 134)).val - 6) % 32 = j.val
      rw [e]; omega

theorem csem_injective : Function.Injective csem := fun k k' h => by
  have := congrArg kindOf h
  rw [kindOf_csem, kindOf_csem] at this
  exact Option.some.inj this

/-- The element of a semaphore array at a literal place, as a semaphore of its family. -/
theorem sem_at0 (j : D) (off : Fin 1 → ℕ) (ho : off = ![j.val]) (inb : ∀ a, off a + S1.size a ≤ S32.size a) :
    ((cc0_scratch5.slice (Rect.unit (s := S32) off S1.size inb)).squeeze S_ squeezes_S1_S_ : DmaSems sig S_).sem = dq 0 j := by
  subst ho; revert j; decide +kernel
theorem sem_at1 (j : D) (off : Fin 1 → ℕ) (ho : off = ![j.val]) (inb : ∀ a, off a + S1.size a ≤ S32.size a) :
    ((cc0_scratch6.slice (Rect.unit (s := S32) off S1.size inb)).squeeze S_ squeezes_S1_S_ : DmaSems sig S_).sem = dq 1 j := by
  subst ho; revert j; decide +kernel
theorem sem_at2 (j : D) (off : Fin 1 → ℕ) (ho : off = ![j.val]) (inb : ∀ a, off a + S1.size a ≤ S32.size a) :
    ((cc0_scratch7.slice (Rect.unit (s := S32) off S1.size inb)).squeeze S_ squeezes_S1_S_ : DmaSems sig S_).sem = dq 2 j := by
  subst ho; revert j; decide +kernel
theorem sem_at3 (j : D) (off : Fin 1 → ℕ) (ho : off = ![j.val]) (inb : ∀ a, off a + S1.size a ≤ S32.size a) :
    ((cc0_scratch8.slice (Rect.unit (s := S32) off S1.size inb)).squeeze S_ squeezes_S1_S_ : DmaSems sig S_).sem = dq 3 j := by
  subst ho; revert j; decide +kernel

theorem rv_at (j : D) (off : Fin 3 → ℕ) (ho : off = ![j.val, 0, 0]) (inb : ∀ a, off a + S1x8x512.size a ≤ S32x8x512.size a) :
    (rvM.slice (Rect.unit (s := S32x8x512) off S1x8x512.size inb) (fun _ => rfl)).squeeze S8x512 squeezes_S1x8x512_S8x512 = rvSlot j := by
  subst ho; rfl
theorem av_at (j : D) (off : Fin 3 → ℕ) (ho : off = ![j.val, 0, 0]) (inb : ∀ a, off a + S1x8x512.size a ≤ S32x8x512.size a) :
    (avM.slice (Rect.unit (s := S32x8x512) off S1x8x512.size inb) (fun _ => rfl)).squeeze S8x512 squeezes_S1x8x512_S8x512 = avSlot j := by
  subst ho; rfl
theorem sd_at (j : D) (off : Fin 2 → ℕ) (ho : off = ![8 * j.val, 0]) (inb : ∀ a, off a + S8x512.size a ≤ S256x512.size a) :
    sdM.slice (Rect.unit (s := S256x512) off S8x512.size inb) (fun _ => rfl) = sdRows j := by
  subst ho; rfl

/-! ## The amount one transfer is worth -/

def N : ℕ := (rvSlot 0).view.dmaCredit
theorem N_pos : 0 < N := View.dmaCredit_pos _ (by decide)
theorem credit_rv (j : D) : (rvSlot j).view.dmaCredit = N := rfl
theorem credit_av (j : D) : (avSlot j).view.dmaCredit = N := rfl
theorem credit_sd (j : D) : (sdRows j).view.dmaCredit = N := rfl
theorem credit_as : (asM : Memref sig .tc .vmem S8x512 .bf16).view.dmaCredit = N := rfl

end Cert.KernelIdeal.Mesh

end
-- ==== Proof.Proto.lean ====
/-
The exchange between the devices as a schedule of rounds: what each semaphore is raised by, what each raise hands
over, and what every buffer holds when it is handed over. All of it takes one round.
-/
module

public import proofs.«01_k».proof.Proof.Slots

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the pipeline's own cells beside those of the exchange, whose duties are named by who pays them. -/
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What the buffers hold -/

/-- The product of the attention over a device's heads with its rows of the output weights, of the staged inputs. -/
def accOf (x : Vec F S2x128x512 .bf16) (wq wk wv : Vec F S512x256 .bf16) (wo : Vec F S256x512 .bf16) : Vec F S256x512 .f32 :=
  let v105 := k0_pay2 x wq
  let v108 := k0_pay3 x wk
  let v111 := k0_pay4 x wv
  let v113 : IVec S256x256 32 := iota .tc S256x256 32 [1] iota_S256x256_d1_w32
  let v115 : BitVec 32 := Scalar.select (Scalar.cmpi .eq 128#32 0#32) 1#32 128#32
  let v130 : FVec F S256x256 .f32 := k0_pay8 (F := F) v115 k0_pay5 k0_pay6 k0_pay7
  let v148 := k0_pay10 v113
  let v167 := k0_pay11 v113
  let v179 := k0_pay13 v130 v148 v167
  let v180 := k0_pay14 v130 v148 v167
  let v181 : IVec S256x256 32 := iota .tc S256x256 32 [0] iota_S256x256_d0_w32
  let v207 : FVec F S256x256 .f32 := k0_pay15 (F := F)
  let v211 : BitVec 1 := Scalar.cmpi .eq 2#32 0#32
  let v237 := k0_pay18 v105 v179 v180 v181 v207 k0_pay16 2#32 v211
  let v241 := k0_pay19 v108 v179 v180 v181 v207 k0_pay16 2#32 v211
  let v257 := k0_pay20 v105 v108 v111 v179 v180 v181 v207 k0_pay16 2#32 v211
  let v273 := k0_pay21 v111 v237 v241
  let v289 := k0_pay22 v111 v237 v241
  let v292 := k0_pay23 v111
  let v300 := k0_pay24 v237 v241
  let v303 := k0_pay25 v237 v241
  k0_pay31 v111 v237 v241 (k0_pay26 v257 v273 v289 v292 v300 v303) (k0_pay27 v111 v237 v241) (k0_pay28 v111 v237 v241) (k0_pay29 v111)
    (k0_pay30 v237 v241) wo

/-- A device's staged blocks of the arguments. -/
def xV (c : D) : Vec F S2x128x512 .bf16 := (win0_0.blk (0 : Fin 1)).view.read (Elt F) (m ((c : Thread nD τ).loc main_arg0))
def wqV (c : D) : Vec F S512x256 .bf16 := (win0_1.blk (0 : Fin 1)).view.read (Elt F) (m ((c : Thread nD τ).loc main_arg1))
def wkV (c : D) : Vec F S512x256 .bf16 := (win0_2.blk (0 : Fin 1)).view.read (Elt F) (m ((c : Thread nD τ).loc main_arg2))
def wvV (c : D) : Vec F S512x256 .bf16 := (win0_3.blk (0 : Fin 1)).view.read (Elt F) (m ((c : Thread nD τ).loc main_arg3))
def woV (c : D) : Vec F S256x512 .bf16 := (win0_4.blk (0 : Fin 1)).view.read (Elt F) (m ((c : Thread nD τ).loc main_arg4))

/-- A device's own product, over all the rows; -/
def accV (c : D) : Vec F S256x512 .f32 := accOf (xV m c) (wqV m c) (wkV m c) (wvV m c) (woV m c)
/-- the outgoing buffer: it, rounded; -/
def sdV (c : D) : Vec F S256x512 .bf16 := k0_pay32 (accV m c)
/-- the place in a block of one slot alone. -/
def atOne (y : S8x512.Idx) : S1x8x512.Idx := Fin.cons (⟨0, by decide⟩ : Fin 1) y
/-- The first receive buffer: from every other device its rows for this one, and the blank written in the own slot. -/
def rvV (c : D) : Vec F S32x8x512 .bf16 := fun i =>
  if slotOf i = c then k0_pay34 (k0_pay33 (F := F)) (atOne (inSlot i)) else sdV m (slotOf i) (atRows c (inSlot i))
/-- The finished rows of device `c`: its own rows added to those received. -/
def redV (c : D) : Vec F S8x512 .bf16 := k0_pay35 (fun y => accV m c (atRows c y)) (rvV m c)
/-- The second receive buffer: every device's finished rows, the same on each. -/
def avV : Vec F S32x8x512 .bf16 := fun i => redV m (slotOf i) (inSlot i)
/-- The result. -/
def outV : Vec F S2x128x512 .f32 := k0_pay37 (avV m)

/-! ## The schedule -/

section Payloads
omit [FloatOps F]

def sdP (c j : D) (f : Vec F S256x512 .bf16) : sProp 𝕄 := (sdRows j).view.loc (c : Thread nD τ) ↦[(sdRows j).view.set]{fullShare} f
def rvP (c j : D) (f : Vec F S32x8x512 .bf16) : sProp 𝕄 := (rvSlot j).view.loc (c : Thread nD τ) ↦[(rvSlot j).view.set]{fullShare} f
def avP (c j : D) (f : Vec F S32x8x512 .bf16) : sProp 𝕄 := (avSlot j).view.loc (c : Thread nD τ) ↦[(avSlot j).view.set]{fullShare} f
def asP (c : D) (q : PosShare TreeShare) (f : Vec F S8x512 .bf16) : sProp 𝕄 := asM.view.loc (c : Thread nD τ) ↦[asM.view.set]{q} f

instance sdP_storable (c j : D) (f) : BI.Storable (upEmb : UEmb _ 𝕄) (sdP (F := F) c j f) := by unfold sdP; infer_instance
instance rvP_storable (c j : D) (f) : BI.Storable (upEmb : UEmb _ 𝕄) (rvP (F := F) c j f) := by unfold rvP; infer_instance
instance avP_storable (c j : D) (f) : BI.Storable (upEmb : UEmb _ 𝕄) (avP (F := F) c j f) := by unfold avP; infer_instance
instance asP_storable (c : D) (q) (f) : BI.Storable (upEmb : UEmb _ 𝕄) (asP (F := F) c q f) := by unfold asP; infer_instance

end Payloads

/-- The share of the finished rows lent to the transfer to device `j`. -/
abbrev lent (j : D) : PosShare TreeShare := Transfers.shareTok fullShare 32 (j : Fin 32)

/-- Who raises device `c`'s cell `k`. -/
def dutiesOf (c : D) : CK → Finset D
  | none => Finset.univ.erase c
  | some none => Finset.univ.erase c
  | some (some (a, j)) => if j = c then ∅ else {if a.val % 2 = 0 then c else j}

/-- What the raise of device `c`'s cell `k` by device `d` hands over. -/
def payOf (c : D) (k : CK) (d : D) : sProp 𝕄 := match k with
  | none => iprop((∃ f, rvP d c f) ∗ (∃ f, avP d c f))
  | some none => iprop(emp)
  | some (some (⟨0, _⟩, j)) => sdP c j (sdV m c)
  | some (some (⟨1, _⟩, j)) => rvP c j (rvV m c)
  | some (some (⟨2, _⟩, j)) => asP c (lent j) (redV m c)
  | some (some (⟨_ + 3, _⟩, j)) => avP c j (avV m)

instance payOf_storable (c : D) (k : CK) (d : D) : BI.Storable (upEmb : UEmb _ 𝕄) (payOf (F := F) m c k d) := by
  unfold payOf; split <;> infer_instance

/-- What a raise of a semaphore is worth. -/
def worth : SemLoc sig → ℕ
  | .reg _ => 1
  | .dma _ => N
theorem worth_dma (q : DmaSem sig) : worth (.dma q) = N := rfl
theorem worth_pos (s : SemLoc sig) : 0 < worth s := by cases s; exacts [Nat.one_pos, N_pos]

/-- The exchange: one round, round 0. -/
def Rd : Rounds.Schedule (GSem nD τ sig) D 𝕄 where
  duties g r := if r = 0 ∧ g.1.2 = .tc then (kindOf g.2).elim ∅ (dutiesOf g.1.1) else ∅
  unitless _ := False
  amount g _ _ := worth g.2
  payload g _ d := (kindOf g.2).elim iprop(emp) (fun k => payOf m g.1.1 k d)
  amount_pos g _ _ _ := worth_pos g.2

instance Rd_payload_storable (g : GSem nD τ sig) (r : ℕ) (d : D) :
    BI.Storable (upEmb : UEmb _ 𝕄) ((Rd (F := F) m).payload g r d) := by
  show BI.Storable upEmb ((kindOf g.2).elim iprop(emp) (fun k => payOf m g.1.1 k d))
  cases kindOf g.2
  · exact (inferInstance : BI.Storable upEmb (iprop(emp) : sProp 𝕄))
  · exact payOf_storable m _ _ _

theorem duties_cell (c : D) (k : CK) : (Rd (F := F) m).duties (kcell c k) 0 = dutiesOf c k := by
  show (if (0 : ℕ) = 0 ∧ (Dev.tc c : Thread nD τ).2 = .tc then (kindOf (csem k)).elim ∅ (dutiesOf c) else ∅) = _
  rw [if_pos ⟨rfl, rfl⟩, kindOf_csem]; rfl
theorem duties_later (g : GSem nD τ sig) : ∀ r, 1 ≤ r → (Rd (F := F) m).duties g r = ∅ :=
  fun r hr => if_neg fun h => by have := h.1; omega
theorem amount_cell (c : D) (k : CK) (r : ℕ) (d : D) : (Rd (F := F) m).amount (kcell c k) r d = worth (csem k) := rfl
theorem payload_cell (c : D) (k : CK) (r : ℕ) (d : D) : (Rd (F := F) m).payload (kcell c k) r d = payOf m c k d := by
  show (kindOf (csem k)).elim iprop(emp) (fun k => payOf m c k d) = _
  rw [kindOf_csem]; rfl
theorem expect_cell (c : D) (k : CK) : (Rd (F := F) m).expect (kcell c k) 0 = (dutiesOf c k).card * worth (csem k) := by
  unfold Schedule.expect Schedule.amountOf
  rw [duties_cell, Finset.sum_congr rfl fun d _ => amount_cell m c k 0 d, Finset.sum_const, smul_eq_mul]
theorem rest_cell (c : D) (k : CK) :
    bigSep ((Rd (F := F) m).duties (kcell c k) 0 \ ∅) (fun d => (Rd (F := F) m).payload (kcell c k) 0 d) = bigSep (dutiesOf c k) (payOf m c k) := by
  rw [Finset.sdiff_empty, duties_cell]
  exact bigSep_congr fun d _ => payload_cell m c k 0 d

theorem card_others (c : D) : (Finset.univ.erase c : Finset D).card = 31 := by
  rw [Finset.card_erase_of_mem (Finset.mem_univ _), Finset.card_univ]; rfl
theorem dutiesOf_fam (c : D) (a : Fam) (j : D) (h : j ≠ c) : dutiesOf c (some (some (a, j))) = {if a.val % 2 = 0 then c else j} := if_neg h
theorem dutiesOf_own (c : D) (a : Fam) : dutiesOf c (some (some (a, c))) = ∅ := if_pos rfl

theorem expect_one (c : D) (a : Fam) (j : D) (h : j ≠ c) : (Rd (F := F) m).expect (kcell c (some (some (a, j)))) 0 = N := by
  rw [expect_cell, dutiesOf_fam c a j h, Finset.card_singleton, Nat.one_mul]; exact worth_dma _

/-! ## Levels -/

def L (g : GSem nD τ sig) : Finset Unit := if g.1.2 = .tc then {()} else ∅
/-- The order of the waits: staging and sends, the entry barrier, the two receptions, the exit barrier. -/
def lv (g : GSem nD τ sig) (_ : Unit) : ℕ := match kindOf g.2 with
  | none => 0
  | some none => 1
  | some (some none) => 4
  | some (some (some (a, _))) => if a.val = 1 then 2 else if a.val = 3 then 3 else 0
def lvFam (a : Fam) : ℕ := if a.val = 1 then 2 else if a.val = 3 then 3 else 0
def lvOf : CK → ℕ
  | none => 1
  | some none => 4
  | some (some (a, _)) => lvFam a
theorem lv_cell (c : D) (k : CK) : lv (kcell c k) () = lvOf k := by
  unfold lv; rw [show (kcell c k).2 = csem k from rfl, kindOf_csem]; rcases k with _ | _ | _ <;> rfl
theorem L_of_ne (g : GSem nD τ sig) (h : g.1.2 ≠ .tc) : L g = ∅ := if_neg h

/-- Everything owed lies on cells above level `n`. -/
def Above (n : ℕ) (O : CellTallies nD τ sig Unit) : Prop := ∀ g u, 0 < O g u → g.1.2 = .tc ∧ n < lv g ()

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.at (n : ℕ) (c : D) (k : CK) (v : ℕ) (h : n < lvOf k) : Above n (tallyAt (kcell c k) () v) := fun g u hg => by
  rw [tallyAt_apply] at hg
  by_cases hh : g = kcell c k ∧ u = ()
  · rw [hh.1, lv_cell]; exact ⟨rfl, h⟩
  · rw [if_neg hh] at hg; exact absurd hg (Nat.lt_irrefl 0)
theorem Above.sum {n : ℕ} (S : Finset D) (f : D → CellTallies nD τ sig Unit) (h : ∀ j, Above n (f j)) : Above n (∑ j ∈ S, f j) := by
  induction S using Finset.induction_on with
  | empty => rw [Finset.sum_empty]; exact Above.zero n
  | insert a s ha ih => rw [Finset.sum_insert ha]; exact (h a).add ih

theorem mayWait_of {n : ℕ} {O : CellTallies nD τ sig Unit} (h : Above n O) (c : D) (sm : SemLoc sig) (hs : lv ((c : Thread nD τ), sm) () ≤ n) :
    (levAts L lv : sProp 𝕄) ⊢ MayWait (c : Thread nD τ) sm () O :=
  MayOwe.of_cut (L := L) (lev := lv) n (fun p hp => by rw [Finset.mem_singleton.mp hp, show L ((c : Thread nD τ), sm) = {()} from if_pos rfl]; exact Finset.mem_singleton_self _)
    (fun g u hg => by rw [show L g = {()} from if_pos (h g u hg).1]; exact Finset.mem_singleton_self _)
    (fun p hp => by rw [Finset.mem_singleton.mp hp]; exact hs)
    (fun g u hg => (h g u hg).2)

/-! ## What is owed -/

/-- The devices from `J` on other than `c`, and those before. -/
def rem (c : D) (J : ℕ) : Finset D := Finset.univ.filter fun j => J ≤ j.val ∧ j ≠ c
def done (c : D) (J : ℕ) : Finset D := Finset.univ.filter fun j => j.val < J ∧ j ≠ c

theorem rem_zero (c : D) : rem c 0 = Finset.univ.erase c := by
  ext j; simp [rem]
theorem done_zero (c : D) : done c 0 = ∅ := by ext j; simp [done]
theorem rem_all (c : D) : rem c 32 = ∅ := by
  ext j; have : j.val < 32 := j.isLt; simp [rem]
theorem done_all (c : D) : done c 32 = Finset.univ.erase c := by
  ext j; have : j.val < 32 := j.isLt; simp [done]
theorem rem_skip (c : D) : rem c c.val = rem c (c.val + 1) := by
  ext j; simp only [rem, Finset.mem_filter, Finset.mem_univ, true_and]
  refine ⟨fun h => ⟨?_, h.2⟩, fun h => ⟨by omega, h.2⟩⟩
  have : j.val ≠ c.val := fun e => h.2 (Fin.ext e)
  omega
theorem done_skip (c : D) : done c c.val = done c (c.val + 1) := by
  ext j; simp only [done, Finset.mem_filter, Finset.mem_univ, true_and]
  refine ⟨fun h => ⟨by omega, h.2⟩, fun h => ⟨?_, h.2⟩⟩
  have : j.val ≠ c.val := fun e => h.2 (Fin.ext e)
  omega
theorem rem_step (c j : D) (h : j ≠ c) : rem c j.val = insert j (rem c (j.val + 1)) := by
  ext i; simp only [rem, Finset.mem_filter, Finset.mem_univ, true_and, Finset.mem_insert]
  refine ⟨fun hi => ?_, fun hi => ?_⟩
  · by_cases e : i = j
    · exact Or.inl e
    · have : i.val ≠ j.val := fun e' => e (Fin.ext e')
      exact Or.inr ⟨by omega, hi.2⟩
  · rcases hi with rfl | hi
    · exact ⟨le_rfl, h⟩
    · exact ⟨by omega, hi.2⟩
theorem done_step (c j : D) (h : j ≠ c) : done c (j.val + 1) = insert j (done c j.val) := by
  ext i; simp only [done, Finset.mem_filter, Finset.mem_univ, true_and, Finset.mem_insert]
  refine ⟨fun hi => ?_, fun hi => ?_⟩
  · by_cases e : i = j
    · exact Or.inl e
    · have : i.val ≠ j.val := fun e' => e (Fin.ext e')
      exact Or.inr ⟨by omega, hi.2⟩
  · rcases hi with rfl | hi
    · exact ⟨by omega, h⟩
    · exact ⟨by omega, hi.2⟩
theorem not_mem_rem (c j : D) : j ∉ rem c (j.val + 1) := by simp [rem]
theorem not_mem_done (c j : D) : j ∉ done c j.val := by simp [done]

/-- Owed on the devices still to be reached: on each one's cell `k j`. -/
def owe (c : D) (k : CK) (J : ℕ) : CellTallies nD τ sig Unit := ∑ j ∈ rem c J, tallyAt (kcell j k) () (worth (csem k))

theorem owe_all (c : D) (k : CK) : owe c k 32 = 0 := by unfold owe; rw [rem_all, Finset.sum_empty]
theorem owe_skip (c : D) (k : CK) : owe c k c.val = owe c k (c.val + 1) := by unfold owe; rw [rem_skip]
theorem owe_step (c j : D) (k : CK) (h : j ≠ c) :
    owe c k j.val = owe c k (j.val + 1) + tallyAt (kcell j k) () (worth (csem k)) := by
  unfold owe; rw [rem_step c j h, Finset.sum_insert (not_mem_rem c j), add_comm]
theorem Above.owe {n : ℕ} (c : D) (k : CK) (J : ℕ) (h : n < lvOf k) : Above n (owe c k J) :=
  Above.sum _ _ fun j => Above.at n j k _ h

/-- What device `c` owes at launch. -/
def O₀ (c : D) : CellTallies nD τ sig Unit :=
  owe c none 0 + (owe c (some (some (1, c))) 0 + (owe c (some (some (3, c))) 0 + owe c (some none) 0))

end Cert.KernelIdeal.Mesh

end
-- ==== Proof.Steps.lean ====
/-
One guarded step of the exchange at an arbitrary peer: a signal, a transfer, a wait. The guard compares the
peer's number with the device's own; the step moves what is kept per peer past that peer.
-/
module

public import proofs.«01_k».proof.Proof.Proto

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program `p` on device `c`, to the post `Q`. -/
abbrev run {α : Type} (c : D) (p : Prog (TpuEff nD τ sig (Elt F) Λ₀ .tc) α) (Q : α → sProp 𝕄) : sProp 𝕄 :=
  wp frame (wpE (defs₀ (F := F)) 𝒱₀ (c : Thread nD τ) none) Set.univ p Q

/-- What every device knows throughout: the invariants of all the cells, that each is at its round, the levels. -/
def ctx (K : D × CK → ℕ) : sProp 𝕄 :=
  iprop((bigSep Finset.univ fun ck : D × CK => cellInv ER (Rd m) (K ck) (kcell ck.1 ck.2))
    ∗ (bigSep Finset.univ fun ck : D × CK => reached ER (kcell ck.1 ck.2) 0) ∗ levAts L lv)

instance ctx_persistent (K : D × CK → ℕ) : BI.Persistent (ctx (F := F) m K) := by unfold ctx; infer_instance

omit [FloatOps F] in
theorem all_at {Φ : D × CK → sProp 𝕄} (ck : D × CK) : bigSep Finset.univ Φ ⊢ Φ ck := bigSep_elim (Finset.mem_univ ck)

theorem ctx_inv (K : D × CK → ℕ) (c : D) (k : CK) : ctx (F := F) m K ⊢ cellInv ER (Rd m) (K (c, k)) (kcell c k) := by
  unfold ctx
  iintro ⟨#H, -, -⟩
  iapply (all_at (Φ := fun ck : D × CK => (cellInv ER (Rd m) (K ck) (kcell ck.1 ck.2) : sProp 𝕄)) (c, k))
  iexact H
theorem ctx_reached (K : D × CK → ℕ) (c : D) (k : CK) : ctx (F := F) m K ⊢ reached ER (kcell c k) 0 := by
  unfold ctx
  iintro ⟨-, #H, -⟩
  iapply (all_at (Φ := fun ck : D × CK => (reached ER (kcell ck.1 ck.2) 0 : sProp 𝕄)) (c, k))
  iexact H
theorem ctx_lev (K : D × CK → ℕ) : ctx (F := F) m K ⊢ levAts L lv := by
  unfold ctx
  iintro ⟨-, -, #H⟩
  iexact H

/-- A moment of device `c`'s run: what it knows, what it owes, what it holds. -/
def Stp (K : D × CK → ℕ) (c : D) (O : CellTallies nD τ sig Unit) (X : sProp 𝕄) : sProp 𝕄 :=
  iprop(ctx m K ∗ (∃ W, owes (c : Thread nD τ) O W) ∗ X)

theorem Stp_mono (K : D × CK → ℕ) (c : D) (O : CellTallies nD τ sig Unit) {X Y : sProp 𝕄} (h : X ⊢ Y) : Stp m K c O X ⊢ Stp m K c O Y := by
  unfold Stp
  iintro ⟨#H, Ho, HX⟩
  isplitr; · iexact H
  isplitl [Ho]; · iexact Ho
  iapply h; iexact HX

omit [FloatOps F] in
theorem rem_take (c j : D) (h : j ≠ c) (Φ : D → sProp 𝕄) : bigSep (rem c j.val) Φ = iprop(Φ j ∗ bigSep (rem c (j.val + 1)) Φ) := by
  rw [rem_step c j h]; exact BI.bigSep_insert (not_mem_rem c j)
omit [FloatOps F] in
theorem done_put (c j : D) (h : j ≠ c) (Φ : D → sProp 𝕄) : bigSep (done c (j.val + 1)) Φ = iprop(Φ j ∗ bigSep (done c j.val) Φ) := by
  rw [done_step c j h]; exact BI.bigSep_insert (not_mem_done c j)

/-! ## Signals -/

/-- For each peer still to be signalled: the right to raise its cell `k`, and what the raise hands over. -/
def sigX (c : D) (k : CK) (J : ℕ) : sProp 𝕄 := bigSep (rem c J) fun j => iprop(dutyTok ER (kcell j k) 0 c ∗ payOf m j k c)

theorem step_signal (K : D × CK → ℕ) (c : D) (k : CK) {s : Sem sig} (hs : csem k = .reg s) (hduty : ∀ j, dutiesOf j k = Finset.univ.erase j)
    {J : ℕ} (hJ : J < 32) {w : D → BitVec 1} (hP : ∀ c : D, w c = 1#1 ↔ c.val ≠ J)
    {dn : ℕ} {hlt : w c = 1#1 → dn < nD} (hdn : dn = J) {O' : CellTallies nD τ sig Unit} {R : sProp 𝕄} {α : Type}
    {rest : Prog (TpuEff nD τ sig (Elt F) Λ₀ .tc) α} {Q : α → sProp 𝕄}
    (hk : Stp m K c (owe c k (J + 1) + O') iprop(sigX m c k (J + 1) ∗ R) ⊢ run c rest Q) :
    Stp m K c (owe c k J + O') iprop(sigX m c k J ∗ R)
      ⊢ run c (dite (w c = 1#1) (fun h => do semSignalWord (⟨dn, hlt h⟩ : Dev nD) s 1#32; rest) (fun _ => rest)) Q := by
  subst hdn
  by_cases h : w c = 1#1
  · rw [dif_pos h]
    have hne : (⟨dn, hJ⟩ : D) ≠ c := fun e => (hP c).mp h (congrArg Fin.val e).symm
    have hsum : owe c k dn + O' = (owe c k (dn + 1) + O') + tallyAt (kcell ⟨dn, hJ⟩ k) () (worth (csem k)) := by
      rw [show owe c k dn = _ from owe_step c ⟨dn, hJ⟩ k hne]; exact add_right_comm _ _ _
    show _ ⊢ run c (.op (.semSignal ((⟨dn, hJ⟩ : D) : Thread nD τ) s (1#32 : BitVec 32).toInt) fun _ => rest) Q
    have hcell : kcell (⟨dn, hJ⟩ : D) k = (((⟨dn, hJ⟩ : D) : Thread nD τ), .reg s) := by show (_, csem k) = _; rw [hs]
    unfold Stp at hk ⊢
    iintro ⟨#Hc, ⟨%W, Ho⟩, HX, HR⟩
    unfold sigX at hk ⊢
    ihave HX' := (Entails.of_eq (rem_take c ⟨dn, hJ⟩ hne _)) $$ HX
    icases HX' with ⟨⟨Ht, Hp⟩, HX⟩
    iapply (Rounds.wp_signal 𝒱₀ ER (Rd m) (c : Thread nD τ) none (dst := ((⟨dn, hJ⟩ : D) : Thread nD τ)) (κ := K (⟨dn, hJ⟩, k)) (r := 0)
        (d := c) (by rw [← hs]; rw [show (Rd (F := F) m).duties _ 0 = _ from duties_cell m ⟨dn, hJ⟩ k, hduty]; exact Finset.mem_erase.mpr ⟨hne.symm, Finset.mem_univ _⟩)
        (show _ = _ from rfl) () (O₀ := owe c k dn + O') (owe c k (dn + 1) + O') (by rw [hsum, hs, hcell]; rfl)) $$ [Ho Ht Hp]
    · rw [← hs]
      isplitr; · iapply (ctx_inv m K ⟨dn, hJ⟩ k); iexact Hc
      isplitl [Ho]; · iexact Ho
      isplitl [Ht]; · iexact Ht
      isplitl [Hp]; · rw [show (Rd (F := F) m).payload _ 0 c = _ from payload_cell m ⟨dn, hJ⟩ k 0 c]; iexact Hp
      iapply (ctx_reached m K ⟨dn, hJ⟩ k); iexact Hc
    iintro Ho
    iapply hk
    isplitr; · iexact Hc
    isplitl [Ho]; · iexists W; iexact Ho
    isplitl [HX]; · iexact HX
    iexact HR
  · rw [dif_neg h]
    have he : dn = c.val := by by_contra hc; exact h ((hP c).mpr fun e => hc e.symm)
    subst he
    rw [owe_skip]; unfold sigX at hk ⊢; rw [rem_skip]; exact hk

/-! ## Waits for one transfer -/

/-- For each peer not yet waited for, the credit and the position; for each waited for, what was handed over. -/
def waitX (c : D) (a : Fam) (J : ℕ) : sProp 𝕄 :=
  iprop((bigSep (rem c J) fun j => iprop(cred (tallyAt (kcell c (some (some (a, j)))) () N) ∗ atPos ER (kcell c (some (some (a, j)))) 0 ∅ 0))
    ∗ bigSep (done c J) fun j => iprop(payOf m c (some (some (a, j))) c ∗ atPos ER (kcell c (some (some (a, j)))) 1 ∅ 0))

theorem payOf_any (c : D) (a : Fam) (j d d' : D) : payOf (F := F) m c (some (some (a, j))) d = payOf m c (some (some (a, j))) d' := by
  match a with
  | ⟨0, _⟩ => rfl
  | ⟨1, _⟩ => rfl
  | ⟨2, _⟩ => rfl
  | ⟨3, _⟩ => rfl

theorem mayWait_fam (K : D × CK → ℕ) {a : Fam} {O : CellTallies nD τ sig Unit} (hO : Above (lvFam a) O) (c j : D) :
    ctx (F := F) m K ⊢ MayWait (c : Thread nD τ) (.dma (dq a j)) () O :=
  by
  have h : lv ((c : Thread nD τ), .dma (dq a j)) () = lvFam a := lv_cell c (some (some (a, j)))
  have h2 := mayWait_of (F := F) hO c (.dma (dq a j)) (by rw [h])
  set_option maxRecDepth 100000 in
  refine BIBase.Entails.trans ?_ h2
  exact ctx_lev m K

theorem rest_one (c : D) (a : Fam) (j : D) (h : j ≠ c) :
    bigSep ((Rd (F := F) m).duties (kcell c (some (some (a, j)))) 0 \ ∅) (fun d => (Rd (F := F) m).payload (kcell c (some (some (a, j)))) 0 d)
      = payOf m c (some (some (a, j))) c := by
  rw [rest_cell, dutiesOf_fam c a j h, bigSep_singleton]
  exact payOf_any m c a j _ c

theorem step_wait (K : D × CK → ℕ) (c : D) (a : Fam) {O : CellTallies nD τ sig Unit} (hO : Above (lvFam a) O)
    {J : ℕ} (hJ : J < 32) {w : D → BitVec 1} (hP : ∀ c : D, w c = 1#1 ↔ c.val ≠ J)
    {sem : DmaSem sig} (hsem : sem = dq a ⟨J, hJ⟩)
    {s s' : Shape} {e e' : EltTy} {src : w c = 1#1 → Memref sig .tc .vmem s' e'} {dst : w c = 1#1 → Memref sig .tc .vmem s e}
    {hsrc : ∀ h, (src h).view.WordExact} {hdst : ∀ h, (dst h).view.WordExact} (hN : ∀ h, (dst h).view.dmaCredit = N)
    {R : sProp 𝕄} {α : Type} {rest : Prog (TpuEff nD τ sig (Elt F) Λ₀ .tc) α} {Q : α → sProp 𝕄}
    (hk : Stp m K c O iprop(waitX m c a (J + 1) ∗ R) ⊢ run c rest Q) :
    Stp m K c O iprop(waitX m c a J ∗ R)
      ⊢ run c (dite (w c = 1#1) (fun h => do Prog.lift (.waitDma2 sem (src h) (dst h) (hsrc h) (hdst h)); rest) (fun _ => rest)) Q := by
  subst hsem
  by_cases h : w c = 1#1
  · rw [dif_pos h]
    have hne : (⟨J, hJ⟩ : D) ≠ c := fun e => (hP c).mp h (congrArg Fin.val e).symm
    show _ ⊢ run c (.op (.waitDma2 (dq a ⟨J, hJ⟩) (src h) (dst h) (hsrc h) (hdst h)) fun _ => rest) Q
    unfold Stp at hk ⊢
    iintro ⟨#Hc, ⟨%W, Ho⟩, HX, HR⟩
    unfold waitX at hk ⊢
    icases HX with ⟨HX, HD⟩
    ihave HX' := (Entails.of_eq (rem_take c ⟨J, hJ⟩ hne _)) $$ HX
    icases HX' with ⟨⟨Ht, Hp⟩, HX⟩
    iapply (Rounds.wp_wait_rest_token 𝒱₀ ER (Rd m) (c : Thread nD τ) none (κ := K (c, some (some (a, ⟨J, hJ⟩))))
        (wpE_waitDma2_eq 𝒱₀ (c : Thread nD τ) none Set.univ) (Set.mem_univ _) () (O := O) (W := W) (R := 0) (m := 0) (T := ∅)
        (((Nat.zero_add _).trans (hN h)).trans (expect_one m c a _ hne).symm)) $$ [Ht Ho Hp]
    · rw [hN h]
      isplitr; · iapply (ctx_inv m K c (some (some (a, ⟨J, hJ⟩)))); iexact Hc
      isplitl [Ht]; · iexact Ht
      isplitl [Ho]; · iexact Ho
      isplitr
      · iapply (mayWait_fam m K hO c ⟨J, hJ⟩); iexact Hc
      iexact Hp
    iintro ⟨Ho, Hat, -, Hpay⟩
    ihave Hpay' := (Entails.of_eq (rest_one m c a ⟨J, hJ⟩ hne)) $$ Hpay
    iapply hk
    isplitr; · iexact Hc
    isplitl [Ho]; · iexists _; iexact Ho
    isplitr [HR]
    · isplitl [HX]; · iexact HX
      iapply (Entails.of_eq (done_put c ⟨J, hJ⟩ hne _).symm)
      isplitl [Hpay' Hat]
      · isplitl [Hpay']; · iexact Hpay'
        iexact Hat
      iexact HD
    iexact HR
  · rw [dif_neg h]
    have he : J = c.val := by by_contra hc; exact h ((hP c).mpr fun e => hc e.symm)
    subst he
    unfold waitX at hk ⊢; rw [rem_skip, done_skip]; exact hk

/-! ## Transfers -/

/-- Families 0 and 2 are sent, into families 1 and 3 of the receiver. -/
theorem send_core (K : D × CK → ℕ) (c j : D) (hne : j ≠ c) (a b : Fam) (ha : a.val % 2 = 0) (hb : b.val % 2 = 1)
    {src dst : Memref sig .tc .vmem S8x512 .bf16} (hN : dst.view.dmaCredit = N)
    {q : PosShare TreeShare} {fs : Buf (Elt F) (src.view.loc (c : Thread nD τ))} {fd : Buf (Elt F) (dst.view.loc (j : Thread nD τ))}
    (hpay₁ : (src.view.loc (c : Thread nD τ) ↦[src.view.set]{q} fs) ⊢ payOf m c (some (some (a, j))) c)
    (hpay₂ : (dst.view.loc (j : Thread nD τ) ↦[dst.view.set]{fullShare} (dst.view.write (Elt F) fd (src.view.read (Elt F) fs) Finset.univ))
      ⊢ payOf m j (some (some (b, c))) c)
    {O' : CellTallies nD τ sig Unit} {hsc : dst.view.ref.isScScratch = false} {hsrc : src.view.WordExact} {hdst : dst.view.WordExact}
    {hsem : DmaTarget.Typed .vmem (.dma (dq b c)) (.remote (Dev.tc j : Thread nD τ) dst (.dma (dq a j)) hsc)}
    {α : Type} {Q : α → sProp 𝕄} {rest : Prog (TpuEff nD τ sig (Elt F) Λ₀ .tc) α} (W : Waits sig Unit) :
    iprop(ctx m K ∗ (src.view.loc (c : Thread nD τ) ↦[src.view.set]{q} fs) ∗ (dst.view.loc (j : Thread nD τ) ↦[dst.view.set]{fullShare} fd)
        ∗ owes (c : Thread nD τ) (owe c (some (some (b, c))) j.val + O') W
        ∗ dutyTok ER (kcell c (some (some (a, j)))) 0 c ∗ dutyTok ER (kcell j (some (some (b, c)))) 0 c)
      ⊢ iprop(((cred (tallyAt (kcell c (some (some (a, j)))) () N) ∗ owes (c : Thread nD τ) (owe c (some (some (b, c))) (j.val + 1) + O') W) -∗ run c rest Q)
          -∗ run c (do Prog.lift (.enqueueDma src (.remote (Dev.tc j : Thread nD τ) dst (.dma (dq a j)) hsc) (.dma (dq b c)) hsrc hdst hsem); rest) Q) := by
  refine BIBase.Entails.trans ?_ (Rounds.wp_send_pointsTo 𝒱₀ ER (Rd m) (c : Thread nD τ) none (κ₁ := K (c, some (some (a, j)))) (κ₂ := K (j, some (some (b, c))))
    (c' := (Dev.tc j : Thread nD τ)) (r₁ := 0) (r₂ := 0) (d₁ := c) (d₂ := c) (src := src) (dst := dst) (fs := fs) (fd := fd) (q := q) (k := fun _ => rest)
    (sS := .dma (dq a j)) (sem := .dma (dq b c))
    (by rw [show (Rd (F := F) m).duties _ 0 = _ from duties_cell m c (some (some (a, j))), dutiesOf_fam c a j hne, if_pos ha]; exact Finset.mem_singleton_self _)
    (by rw [show (Rd (F := F) m).duties _ 0 = _ from duties_cell m j (some (some (b, c))), dutiesOf_fam j b c hne.symm, if_neg (by omega)]; exact Finset.mem_singleton_self _)
    () () N hN (worth_dma (dq a j)) (worth_dma (dq b c)) (O₀ := owe c (some (some (b, c))) j.val + O') (owe c (some (some (b, c))) (j.val + 1) + O')
    (by rw [owe_step c j (some (some (b, c))) hne]; exact add_right_comm _ _ _) (W := W)
    (hpay₁.trans (Entails.of_eq (payload_cell m c (some (some (a, j))) 0 c).symm))
    (hpay₂.trans (Entails.of_eq (payload_cell m j (some (some (b, c))) 0 c).symm)))
  iintro ⟨#Hc, Hs, Hd, Ho, Ht, Ht'⟩
  isplitr; · iapply (ctx_inv m K c (some (some (a, j)))); iexact Hc
  isplitr; · iapply (ctx_inv m K j (some (some (b, c)))); iexact Hc
  isplitl [Hs]; · iexact Hs
  isplitl [Hd]; · iexact Hd
  isplitl [Ho]; · iexact Ho
  isplitl [Ht]; · iexact Ht
  isplitr; · iapply (ctx_reached m K c (some (some (a, j)))); iexact Hc
  isplitl [Ht']; · iexact Ht'
  iapply (ctx_reached m K j (some (some (b, c)))); iexact Hc

/-- For each peer still to be sent to: the rights to both ends' credits, what is read, and where it lands; for each
sent to, the credit of the sending end. -/
def sendX (c : D) (a b : Fam) (srcM dstM : D → Memref sig .tc .vmem S8x512 .bf16) (q : D → PosShare TreeShare)
    (fs : ∀ j, Buf (Elt F) ((srcM j).view.loc (c : Thread nD τ))) (J : ℕ) : sProp 𝕄 :=
  iprop((bigSep (rem c J) fun j => iprop(dutyTok ER (kcell c (some (some (a, j)))) 0 c ∗ dutyTok ER (kcell j (some (some (b, c)))) 0 c
      ∗ ((srcM j).view.loc (c : Thread nD τ) ↦[(srcM j).view.set]{q j} fs j)
      ∗ ∃ fd, ((dstM c).view.loc (j : Thread nD τ) ↦[(dstM c).view.set]{fullShare} fd)))
    ∗ bigSep (done c J) fun j => iprop(cred (tallyAt (kcell c (some (some (a, j)))) () N)))

theorem step_send (K : D × CK → ℕ) (c : D) (a b : Fam) (ha : a.val % 2 = 0) (hb : b.val % 2 = 1)
    (srcM dstM : D → Memref sig .tc .vmem S8x512 .bf16) (q : D → PosShare TreeShare)
    (fs : ∀ j, Buf (Elt F) ((srcM j).view.loc (c : Thread nD τ))) (hN : ∀ j, (dstM j).view.dmaCredit = N)
    (hpay₁ : ∀ j, j ≠ c → ((srcM j).view.loc (c : Thread nD τ) ↦[(srcM j).view.set]{q j} fs j) ⊢ payOf m c (some (some (a, j))) c)
    (hpay₂ : ∀ j, j ≠ c → ∀ fd : Buf (Elt F) ((dstM c).view.loc (j : Thread nD τ)),
      ((dstM c).view.loc (j : Thread nD τ) ↦[(dstM c).view.set]{fullShare} ((dstM c).view.write (Elt F) fd ((srcM j).view.read (Elt F) (fs j)) Finset.univ))
        ⊢ payOf m j (some (some (b, c))) c)
    {O' : CellTallies nD τ sig Unit} {J : ℕ} (hJ : J < 32) {w : D → BitVec 1} (hP : ∀ c : D, w c = 1#1 ↔ c.val ≠ J)
    {dn : ℕ} {hlt : w c = 1#1 → dn < nD} (hdn : dn = J)
    {src dst : w c = 1#1 → Memref sig .tc .vmem S8x512 .bf16} (hs : ∀ h, src h = srcM ⟨J, hJ⟩) (hd : ∀ h, dst h = dstM c)
    {sS sR : w c = 1#1 → DmaSem sig} (hsS : ∀ h, sS h = dq a ⟨J, hJ⟩) (hsR : ∀ h, sR h = dq b c)
    {hsc : ∀ h, (dst h).view.ref.isScScratch = false} {hx₁ : ∀ h, (src h).view.WordExact} {hx₂ : ∀ h, (dst h).view.WordExact}
    {ht : ∀ h, DmaTarget.Typed .vmem (.dma (sR h)) (.remote (Dev.tc (⟨dn, hlt h⟩ : Dev nD) : Thread nD τ) (dst h) (.dma (sS h)) (hsc h))}
    {R : sProp 𝕄} {α : Type} {rest : Prog (TpuEff nD τ sig (Elt F) Λ₀ .tc) α} {Q : α → sProp 𝕄}
    (hk : Stp m K c (owe c (some (some (b, c))) (J + 1) + O') iprop(sendX c a b srcM dstM q fs (J + 1) ∗ R) ⊢ run c rest Q) :
    Stp m K c (owe c (some (some (b, c))) J + O') iprop(sendX c a b srcM dstM q fs J ∗ R)
      ⊢ run c (dite (w c = 1#1) (fun h => do Prog.lift (.enqueueDma (src h) (.remote (Dev.tc (⟨dn, hlt h⟩ : Dev nD)) (dst h) (.dma (sS h)) (hsc h)) (.dma (sR h)) (hx₁ h) (hx₂ h) (ht h)); rest)
          (fun _ => rest)) Q := by
  subst hdn
  by_cases h : w c = 1#1
  · rw [dif_pos h]
    have hne : (⟨dn, hJ⟩ : D) ≠ c := fun e => (hP c).mp h (congrArg Fin.val e).symm
    have e1 := hs h; have e2 := hd h; have e3 := hsS h; have e4 := hsR h
    revert e1 e2 e3 e4
    generalize hsc h = w1; generalize hx₁ h = w2; generalize hx₂ h = w3; generalize ht h = w4
    revert w1 w2 w3 w4
    generalize src h = src'; generalize dst h = dst'; generalize sS h = sS'; generalize sR h = sR'
    intro w1 w2 w3 w4 e1 e2 e3 e4
    subst e1 e2 e3 e4
    unfold Stp at hk ⊢
    iintro ⟨#Hc, ⟨%W, Ho⟩, HX, HR⟩
    unfold sendX at hk ⊢
    icases HX with ⟨HX, HD⟩
    ihave HX' := (Entails.of_eq (rem_take c ⟨dn, hJ⟩ hne _)) $$ HX
    icases HX' with ⟨⟨Ht, Ht', Hs, ⟨%fd, Hd⟩⟩, HX⟩
    iapply (send_core m K c ⟨dn, hJ⟩ hne a b ha hb (hN c) (hpay₁ _ hne) (hpay₂ _ hne fd) (O' := O') W) $$ [Hs Hd Ho Ht Ht']
    · isplitr; · iexact Hc
      isplitl [Hs]; · iexact Hs
      isplitl [Hd]; · iexact Hd
      isplitl [Ho]; · iexact Ho
      isplitl [Ht]; · iexact Ht
      iexact Ht'
    iintro ⟨Hcr, Ho⟩
    iapply hk
    isplitr; · iexact Hc
    isplitl [Ho]; · iexists W; iexact Ho
    isplitr [HR]
    · isplitl [HX]; · iexact HX
      iapply (Entails.of_eq (done_put c ⟨dn, hJ⟩ hne _).symm)
      isplitl [Hcr]; · iexact Hcr
      iexact HD
    iexact HR
  · rw [dif_neg h]
    have he : dn = c.val := by by_contra hc; exact h ((hP c).mpr fun e => hc e.symm)
    subst he
    rw [owe_skip]; unfold sendX at hk ⊢; rw [rem_skip, done_skip]; exact hk

/-- The blocks of the outgoing buffer, sent to the devices' first receive buffers; -/
def rsX (c : D) (J : ℕ) : sProp 𝕄 := sendX c 0 1 sdRows rvSlot (fun _ => fullShare) (fun _ => sdV m c) J
/-- the finished rows, sent to their second. -/
def agX (c : D) (J : ℕ) : sProp 𝕄 := sendX c 2 3 (fun _ => asM) avSlot lent (fun _ => redV m c) J

theorem rs_lands (c j : D) (hne : j ≠ c) (fd : Buf (Elt F) ((rvSlot c).view.loc (j : Thread nD τ))) :
    ((rvSlot c).view.loc (j : Thread nD τ) ↦[(rvSlot c).view.set]{fullShare} ((rvSlot c).view.write (Elt F) fd ((sdRows j).view.read (Elt F) (sdV m c)) Finset.univ))
      ⊢ (rvP j c (rvV m j) : sProp 𝕄) := by
  unfold rvP
  refine Entails.of_eq (pointsTo_congr fun i hi => ?_)
  have hs : slotOf i = c := (mem_rvSlot c i).mp hi
  have he : i = (rvSlot c).view.emb (inSlot i) := by rw [rvSlot_emb, ← hs, atSlot_inSlot]
  conv_lhs => rw [he]
  rw [View.write_emb_of_mem _ _ (Finset.mem_univ _), View.read_apply, sdRows_emb]
  unfold rvV
  rw [if_neg (by rw [hs]; exact hne.symm), hs]
  rfl

theorem ag_lands (c j : D) (fd : Buf (Elt F) ((avSlot c).view.loc (j : Thread nD τ))) :
    ((avSlot c).view.loc (j : Thread nD τ) ↦[(avSlot c).view.set]{fullShare} ((avSlot c).view.write (Elt F) fd (asM.view.read (Elt F) (redV m c)) Finset.univ))
      ⊢ (avP j c (avV m) : sProp 𝕄) := by
  unfold avP
  refine Entails.of_eq (pointsTo_congr fun i hi => ?_)
  have hs : slotOf i = c := (mem_avSlot c i).mp hi
  have he : i = (avSlot c).view.emb (inSlot i) := by rw [avSlot_emb, ← hs, atSlot_inSlot]
  conv_lhs => rw [he]
  rw [View.write_emb_of_mem _ _ (Finset.mem_univ _), View.read_apply]
  unfold avV
  rw [hs]; rfl

theorem step_rs (K : D × CK → ℕ) (c : D)
    {O' : CellTallies nD τ sig Unit} {J : ℕ} (hJ : J < 32) {w : D → BitVec 1} (hP : ∀ c : D, w c = 1#1 ↔ c.val ≠ J)
    {dn : ℕ} {hlt : w c = 1#1 → dn < nD} (hdn : dn = J)
    {o₁ : Fin 1 → ℕ} {i₁ : w c = 1#1 → ∀ a, o₁ a + S1.size a ≤ S32.size a} (h₁ : o₁ = ![J])
    {o₂ : D → Fin 1 → ℕ} {i₂ : w c = 1#1 → ∀ a, o₂ c a + S1.size a ≤ S32.size a} (h₂ : ∀ c : D, o₂ c = ![c.val])
    {o₃ : D → Fin 3 → ℕ} {i₃ : w c = 1#1 → ∀ a, o₃ c a + S1x8x512.size a ≤ S32x8x512.size a} (h₃ : ∀ c : D, o₃ c = ![c.val, 0, 0])
    {o₄ : Fin 2 → ℕ} {i₄ : w c = 1#1 → ∀ a, o₄ a + S8x512.size a ≤ S256x512.size a} (h₄ : o₄ = ![8 * J, 0])
    {hx₁ : ∀ h, (sdM.slice (Rect.unit (s := S256x512) o₄ S8x512.size (i₄ h)) (fun _ => rfl)).view.WordExact}
    {hsc : ∀ h, ((rvM.slice (Rect.unit (s := S32x8x512) (o₃ c) S1x8x512.size (i₃ h)) (fun _ => rfl)).squeeze S8x512 squeezes_S1x8x512_S8x512).view.ref.isScScratch = false}
    {hx₂ : ∀ h, ((rvM.slice (Rect.unit (s := S32x8x512) (o₃ c) S1x8x512.size (i₃ h)) (fun _ => rfl)).squeeze S8x512 squeezes_S1x8x512_S8x512).view.WordExact}
    {ht : ∀ h, DmaTarget.Typed .vmem (.dma ((cc0_scratch6.slice (Rect.unit (s := S32) (o₂ c) S1.size (i₂ h))).squeeze S_ squeezes_S1_S_).sem)
      (.remote (Dev.tc (⟨dn, hlt h⟩ : Dev nD) : Thread nD τ) ((rvM.slice (Rect.unit (s := S32x8x512) (o₃ c) S1x8x512.size (i₃ h)) (fun _ => rfl)).squeeze S8x512 squeezes_S1x8x512_S8x512)
        (.dma ((cc0_scratch5.slice (Rect.unit (s := S32) o₁ S1.size (i₁ h))).squeeze S_ squeezes_S1_S_).sem) (hsc h))}
    {R : sProp 𝕄} {α : Type} {rest : Prog (TpuEff nD τ sig (Elt F) Λ₀ .tc) α} {Q : α → sProp 𝕄}
    (hk : Stp m K c (owe c (some (some (1, c))) (J + 1) + O') iprop(rsX m c (J + 1) ∗ R) ⊢ run c rest Q) :
    Stp m K c (owe c (some (some (1, c))) J + O') iprop(rsX m c J ∗ R)
      ⊢ run c (dite (w c = 1#1) (fun h => do Prog.lift (.enqueueDma (sdM.slice (Rect.unit (s := S256x512) o₄ S8x512.size (i₄ h)) (fun _ => rfl))
            (.remote (Dev.tc (⟨dn, hlt h⟩ : Dev nD)) ((rvM.slice (Rect.unit (s := S32x8x512) (o₃ c) S1x8x512.size (i₃ h)) (fun _ => rfl)).squeeze S8x512 squeezes_S1x8x512_S8x512)
              (.dma ((cc0_scratch5.slice (Rect.unit (s := S32) o₁ S1.size (i₁ h))).squeeze S_ squeezes_S1_S_).sem) (hsc h))
            (.dma ((cc0_scratch6.slice (Rect.unit (s := S32) (o₂ c) S1.size (i₂ h))).squeeze S_ squeezes_S1_S_).sem) (hx₁ h) (hx₂ h) (ht h)); rest)
          (fun _ => rest)) Q :=
  step_send m K c 0 1 rfl rfl sdRows rvSlot (fun _ => fullShare) (fun _ => sdV m c) (fun j => credit_rv j) (fun j _ => Entails.refl)
    (fun j hne fd => rs_lands m c j hne fd) hJ hP hdn (fun h => sd_at ⟨J, hJ⟩ o₄ h₄ (i₄ h)) (fun h => rv_at c (o₃ c) (h₃ c) (i₃ h))
    (fun h => sem_at0 ⟨J, hJ⟩ o₁ h₁ (i₁ h)) (fun h => sem_at1 c (o₂ c) (h₂ c) (i₂ h)) hk

theorem step_ag (K : D × CK → ℕ) (c : D)
    {O' : CellTallies nD τ sig Unit} {J : ℕ} (hJ : J < 32) {w : D → BitVec 1} (hP : ∀ c : D, w c = 1#1 ↔ c.val ≠ J)
    {dn : ℕ} {hlt : w c = 1#1 → dn < nD} (hdn : dn = J)
    {o₁ : Fin 1 → ℕ} {i₁ : w c = 1#1 → ∀ a, o₁ a + S1.size a ≤ S32.size a} (h₁ : o₁ = ![J])
    {o₂ : D → Fin 1 → ℕ} {i₂ : w c = 1#1 → ∀ a, o₂ c a + S1.size a ≤ S32.size a} (h₂ : ∀ c : D, o₂ c = ![c.val])
    {o₃ : D → Fin 3 → ℕ} {i₃ : w c = 1#1 → ∀ a, o₃ c a + S1x8x512.size a ≤ S32x8x512.size a} (h₃ : ∀ c : D, o₃ c = ![c.val, 0, 0])
    {hx₁ : ∀ h : w c = 1#1, asM.view.WordExact}
    {hsc : ∀ h, ((avM.slice (Rect.unit (s := S32x8x512) (o₃ c) S1x8x512.size (i₃ h)) (fun _ => rfl)).squeeze S8x512 squeezes_S1x8x512_S8x512).view.ref.isScScratch = false}
    {hx₂ : ∀ h, ((avM.slice (Rect.unit (s := S32x8x512) (o₃ c) S1x8x512.size (i₃ h)) (fun _ => rfl)).squeeze S8x512 squeezes_S1x8x512_S8x512).view.WordExact}
    {ht : ∀ h, DmaTarget.Typed .vmem (.dma ((cc0_scratch8.slice (Rect.unit (s := S32) (o₂ c) S1.size (i₂ h))).squeeze S_ squeezes_S1_S_).sem)
      (.remote (Dev.tc (⟨dn, hlt h⟩ : Dev nD) : Thread nD τ) ((avM.slice (Rect.unit (s := S32x8x512) (o₃ c) S1x8x512.size (i₃ h)) (fun _ => rfl)).squeeze S8x512 squeezes_S1x8x512_S8x512)
        (.dma ((cc0_scratch7.slice (Rect.unit (s := S32) o₁ S1.size (i₁ h))).squeeze S_ squeezes_S1_S_).sem) (hsc h))}
    {R : sProp 𝕄} {α : Type} {rest : Prog (TpuEff nD τ sig (Elt F) Λ₀ .tc) α} {Q : α → sProp 𝕄}
    (hk : Stp m K c (owe c (some (some (3, c))) (J + 1) + O') iprop(agX m c (J + 1) ∗ R) ⊢ run c rest Q) :
    Stp m K c (owe c (some (some (3, c))) J + O') iprop(agX m c J ∗ R)
      ⊢ run c (dite (w c = 1#1) (fun h => do Prog.lift (.enqueueDma asM
            (.remote (Dev.tc (⟨dn, hlt h⟩ : Dev nD)) ((avM.slice (Rect.unit (s := S32x8x512) (o₃ c) S1x8x512.size (i₃ h)) (fun _ => rfl)).squeeze S8x512 squeezes_S1x8x512_S8x512)
              (.dma ((cc0_scratch7.slice (Rect.unit (s := S32) o₁ S1.size (i₁ h))).squeeze S_ squeezes_S1_S_).sem) (hsc h))
            (.dma ((cc0_scratch8.slice (Rect.unit (s := S32) (o₂ c) S1.size (i₂ h))).squeeze S_ squeezes_S1_S_).sem) (hx₁ h) (hx₂ h) (ht h)); rest)
          (fun _ => rest)) Q :=
  step_send m K c 2 3 rfl rfl (fun _ => asM) avSlot lent (fun _ => redV m c) (fun j => credit_av j) (fun j _ => Entails.refl)
    (fun j hne fd => ag_lands m c j fd) hJ hP hdn (fun h => rfl) (fun h => av_at c (o₃ c) (h₃ c) (i₃ h))
    (fun h => sem_at2 ⟨J, hJ⟩ o₁ h₁ (i₁ h)) (fun h => sem_at3 c (o₂ c) (h₂ c) (i₂ h)) hk

end Cert.KernelIdeal.Mesh

end
-- ==== Proof.Body.lean ====
/-
The kernel's body on one device, part by part.
-/
module

public import proofs.«01_k».proof.Proof.Steps

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body at the buffers and semaphores it runs on. -/
abbrev here.{u} {β : Type u} (f : (arg0 : Memref sig .tc .vmem S2x128x512 .bf16) → arg0.IsWhole → (arg1 : Memref sig .tc .vmem S512x256 .bf16) → arg1.IsWhole
    → (arg2 : Memref sig .tc .vmem S512x256 .bf16) → arg2.IsWhole → (arg3 : Memref sig .tc .vmem S512x256 .bf16) → arg3.IsWhole
    → (arg4 : Memref sig .tc .vmem S256x512 .bf16) → arg4.IsWhole → (arg5 : Memref sig .tc .vmem S2x128x512 .f32) → arg5.IsWhole
    → (arg6 : Memref sig .tc .vmem S256x512 .f32) → arg6.IsWhole → (arg7 : Memref sig .tc .vmem S256x512 .bf16) → arg7.IsWhole
    → (arg8 : Memref sig .tc .vmem S32x8x512 .bf16) → arg8.IsWhole → (arg9 : Memref sig .tc .vmem S8x512 .bf16) → arg9.IsWhole
    → (arg10 : Memref sig .tc .vmem S32x8x512 .bf16) → arg10.IsWhole
    → DmaSems sig S32 → DmaSems sig S32 → DmaSems sig S32 → DmaSems sig S32 → Sems sig S_ → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    acM (Memref.isWhole_whole _) sdM (Memref.isWhole_whole _) rvM (Memref.isWhole_whole _) asM (Memref.isWhole_whole _) avM (Memref.isWhole_whole _)
    cc0_scratch5 cc0_scratch6 cc0_scratch7 cc0_scratch8 cc0_scoped0

/-- A device's number as the kernel computes it. -/
abbrev me (c : D) : BitVec 32 := Scalar.remsi (Scalar.divsi (Dev.word c) 1#32) 32#32
abbrev barA : Sems sig S_ := SemArray.scalar (sig.barrier 0 rfl)

theorem bar_duty (j : D) : dutiesOf j none = Finset.univ.erase j := rfl
theorem out_duty (j : D) : dutiesOf j (some none) = Finset.univ.erase j := rfl

/-- Part way through: the program is done and hands its value on. -/
theorem Stp_done (K : D × CK → ℕ) (c : D) (O : CellTallies nD τ sig Unit) (X : sProp 𝕄) {α : Type} (a : α) (Q : α → sProp 𝕄)
    (h : Stp m K c O X ⊢ Q a) : Stp m K c O X ⊢ run c (pure a) Q := by
  rw [show run c (pure a) Q = iprop(|={Set.univ}=> Q a) from wp_pure _ _ _ _ _]
  exact h.trans fupd_intro

theorem run_deviceId (c : D) {α : Type} (k : D → Prog (TpuEff nD τ sig (Elt F) Λ₀ .tc) α) (Q : α → sProp 𝕄) :
    run c (Prog.lift .deviceId >>= k) Q = run c (k c) Q := wp_deviceId 𝒱₀ (c : Thread nD τ) none Set.univ

/-- What a device asks before it waits for its `J`-th counterpart: is that not myself? -/
theorem other_iff (J : Fin 32) (c : D) :
    Scalar.cmpi .ne (Scalar.extui (Scalar.cmpi .ne (me c) (BitVec.ofNat 32 J.val)) : BitVec 32) 0#32 = 1#1 ↔ c.val ≠ J.val := by
  revert J c; decide +kernel

/-- A guarded wait, with the question spelled out. -/
theorem step_await (K : D × CK → ℕ) (c : D) (a : Fam) {O : CellTallies nD τ sig Unit} (hO : Above (lvFam a) O)
    {J : ℕ} (hJ : J < 32) {sem : DmaSem sig} (hsem : sem = dq a ⟨J, hJ⟩)
    {s s' : Shape} {e e' : EltTy}
    {src : Scalar.cmpi .ne (Scalar.extui (Scalar.cmpi .ne (me c) (BitVec.ofNat 32 J)) : BitVec 32) 0#32 = 1#1 → Memref sig .tc .vmem s' e'}
    {dst : Scalar.cmpi .ne (Scalar.extui (Scalar.cmpi .ne (me c) (BitVec.ofNat 32 J)) : BitVec 32) 0#32 = 1#1 → Memref sig .tc .vmem s e}
    {hsrc : ∀ h, (src h).view.WordExact} {hdst : ∀ h, (dst h).view.WordExact} (hN : ∀ h, (dst h).view.dmaCredit = N)
    {R : sProp 𝕄} {α : Type} {rest : Prog (TpuEff nD τ sig (Elt F) Λ₀ .tc) α} {Q : α → sProp 𝕄}
    (hk : Stp m K c O iprop(waitX m c a (J + 1) ∗ R) ⊢ run c rest Q) :
    Stp m K c O iprop(waitX m c a J ∗ R)
      ⊢ run c (dite (Scalar.cmpi .ne (Scalar.extui (Scalar.cmpi .ne (me c) (BitVec.ofNat 32 J)) : BitVec 32) 0#32 = 1#1)
          (fun h => do Prog.lift (.waitDma2 sem (src h) (dst h) (hsrc h) (hdst h)); rest) (fun _ => rest)) Q :=
  step_wait m K c a hO hJ (w := fun c => Scalar.cmpi .ne (Scalar.extui (Scalar.cmpi .ne (me c) (BitVec.ofNat 32 J)) : BitVec 32) 0#32)
    (other_iff ⟨J, hJ⟩) hsem hN hk

theorem Stp_swap (K : D × CK → ℕ) (c : D) (O : CellTallies nD τ sig Unit) (A B R : sProp 𝕄) :
    Stp m K c O iprop(A ∗ B ∗ R) ⊢ Stp m K c O iprop(B ∗ A ∗ R) := by
  refine Stp_mono m K c O ?_
  iintro ⟨HA, HB, HR⟩
  isplitl [HB]; · iexact HB
  isplitl [HA]; · iexact HA
  iexact HR

/-- The whole buffer `b` of device `c` holding `X`. -/
abbrev hold (c : D) (b : Ref sig .tc) (X : b.ty.Contents (Elt F)) : sProp 𝕄 := (((c : Thread nD τ).loc b) ↦{fullShare} X)

theorem zero2 : (![0, 0] : Fin 2 → ℕ) = fun _ => 0 := funext fun a => by fin_cases a <;> rfl
theorem zero3 : (![0, 0, 0] : Fin 3 → ℕ) = fun _ => 0 := funext fun a => by fin_cases a <;> rfl

/-- A load of a whole buffer that reads `v`. -/
theorem run_load (c : D) {s : Shape} {e : EltTy} (M : Memref sig .tc .vmem s e) {r : LoadRect s} {f : Buf (Elt F) (M.view.loc (c : Thread nD τ))} {v : r.shape.Idx → Elt F e}
    (hv : M.view.readAt (Elt F) r f = v) {hl : M.view.LoadsAt r} {α : Type}
    {rest : (r.shape.Idx → Elt F e) → Prog (TpuEff nD τ sig (Elt F) Λ₀ .tc) α} {Q : α → sProp 𝕄} :
    (M.view.loc (c : Thread nD τ) ↦{fullShare} f : sProp 𝕄) ⊢ iprop(((M.view.loc (c : Thread nD τ) ↦{fullShare} f) -∗ run c (rest v) Q)
      -∗ run c (Prog.lift (.load M r hl) >>= rest) Q) := by
  subst hv
  exact wp_load (defs := defs₀ (F := F)) 𝒱₀ (c : Thread nD τ) none Set.univ (m := M) (S := Finset.univ) (q := fullShare) (f := f)
    (r := r) (hl := hl) (k := rest) (Q := Q) (Finset.subset_univ _)

/-- A store to a whole buffer that leaves `v`. -/
theorem run_store (c : D) {s : Shape} {e : EltTy} (M : Memref sig .tc .vmem s e) {r : Rect s} {w : r.shape.Idx → Elt F e}
    {f v : Buf (Elt F) ((M.access r).loc (c : Thread nD τ))} (hv : (M.access r).write (Elt F) f w Finset.univ = v)
    {hx : (M.access r).Stores Finset.univ} {hm} {α : Type} {rest : Prog (TpuEff nD τ sig (Elt F) Λ₀ .tc) α} {Q : α → sProp 𝕄} :
    ((M.access r).loc (c : Thread nD τ) ↦{fullShare} f : sProp 𝕄) ⊢ iprop((((M.access r).loc (c : Thread nD τ) ↦{fullShare} v) -∗ run c rest Q)
      -∗ run c (do Prog.lift (.store M r w Finset.univ hx hm); rest) Q) := by
  subst hv
  exact wp_store (defs := defs₀ (F := F)) 𝒱₀ (c : Thread nD τ) none Set.univ (m := M) (S := Finset.univ) (f := f)
    (r := r) (w := w) (Mk := Finset.univ) (hx := hx) (hm := hm) (k := fun _ => rest) (Q := Q) (Finset.subset_univ _)

/-- The wait for all the other devices at a barrier. -/
theorem step_barrier (K : D × CK → ℕ) (c : D) (k : CK) {s : Sem sig} (hs : csem k = .reg s) (hduty : ∀ j, dutiesOf j k = Finset.univ.erase j)
    {n : ℕ} (hn : lvOf k = n) {O : CellTallies nD τ sig Unit} (hO : Above n O) {R : sProp 𝕄} {α : Type}
    {rest : Prog (TpuEff nD τ sig (Elt F) Λ₀ .tc) α} {Q : α → sProp 𝕄}
    (hk : Stp m K c O iprop(bigSep (Finset.univ.erase c) (payOf m c k) ∗ atPos ER (kcell c k) 1 ∅ 0 ∗ R) ⊢ run c rest Q) :
    Stp m K c O iprop(cred (tallyAt (kcell c k) () 31) ∗ atPos ER (kcell c k) 0 ∅ 0 ∗ R) ⊢ run c (do semWaitWord s 31#32; rest) Q := by
  show _ ⊢ run c (.op (.semWait s (31#32 : BitVec 32).toInt) fun _ => rest) Q
  have hcell : kcell c k = ((c : Thread nD τ), .reg s) := by show (_, csem k) = _; rw [hs]
  have hexp : (Rd (F := F) m).expect (kcell c k) 0 = 31 := by
    rw [expect_cell, hduty, card_others, hs]; rfl
  have hmay : ctx (F := F) m K ⊢ MayWait (c : Thread nD τ) (.reg s) () O := by
    have h2 := mayWait_of (F := F) hO c (.reg s) (by rw [← hcell, lv_cell, hn])
    set_option maxRecDepth 100000 in
    refine BIBase.Entails.trans ?_ h2
    exact ctx_lev m K
  have hrest : bigSep ((Rd (F := F) m).duties (kcell c k) 0 \ ∅) (fun d => (Rd (F := F) m).payload (kcell c k) 0 d) = bigSep (Finset.univ.erase c) (payOf m c k) := by
    rw [rest_cell, hduty]
  rw [hcell] at hexp hrest hk ⊢
  have hinv := ctx_inv m K c k
  rw [hcell] at hinv
  unfold Stp at hk ⊢
  iintro ⟨#Hc, ⟨%W, Ho⟩, Ht, Hp, HR⟩
  iapply (Rounds.wp_wait_rest_token 𝒱₀ ER (Rd m) (c : Thread nD τ) none (κ := K (c, k))
      (wpE_semWait_eq 𝒱₀ (c : Thread nD τ) none Set.univ) (Set.mem_univ _) () (O := O) (W := W) (R := 0) (m := 0) (T := ∅)
      (by rw [hexp]; decide)) $$ [Ht Ho Hp]
  · isplitr; · iapply hinv; iexact Hc
    isplitl [Ht]; · iexact Ht
    isplitl [Ho]; · iexact Ho
    isplitr; · iapply hmay; iexact Hc
    iexact Hp
  iintro ⟨Ho, Hat, -, Hpay⟩
  ihave Hpay' := (Entails.of_eq hrest) $$ Hpay
  iapply hk
  isplitr; · iexact Hc
  isplitl [Ho]; · iexists _; iexact Ho
  isplitl [Hpay']; · iexact Hpay'
  isplitl [Hat]; · iexact Hat
  iexact HR

/-! ## The own slot of a receive buffer -/

theorem one_emb (j : D) (y : S8x512.Idx) :
    (Rect.unit (s := S32x8x512) ![j.val, 0, 0] S1x8x512.size (slot_inb j)).emb (atOne y) = atSlot j y := by
  have h := slot_emb j y
  rw [Shape.reshapeEquiv_cons_one] at h
  exact h

theorem eq_atSlot {i : S32x8x512.Idx} {c : D} (h : slotOf i = c) : i = atSlot c (inSlot i) := by subst h; exact (atSlot_inSlot i).symm

/-- What a store of `w` to a slot alone leaves there. -/
abbrev spread (w : Vec F S1x8x512 .bf16) : Vec F S32x8x512 .bf16 := fun i => w (atOne (inSlot i))

theorem run_load_rv (c : D) {o : Fin 3 → ℕ} (ho : o = ![c.val, 0, 0]) {inb : ∀ a, o a + S1x8x512.size a ≤ S32x8x512.size a} {f : Vec F S32x8x512 .bf16}
    {hl : rvM.view.LoadsAt (Rect.unit (s := S32x8x512) o S1x8x512.size inb).toLoadRect} {α : Type}
    {rest : Prog (TpuEff nD τ sig (Elt F) Λ₀ .tc) α} {Q : α → sProp 𝕄} :
    rvP c c f ⊢ iprop((rvP c c f -∗ run c rest Q)
      -∗ run c (Prog.lift (.load rvM (Rect.unit (s := S32x8x512) o S1x8x512.size inb).toLoadRect hl) >>= fun _ => rest) Q) := by
  subst ho
  unfold rvP
  exact wp_load_rect (defs := defs₀ (F := F)) 𝒱₀ (c : Thread nD τ) none Set.univ (m := rvM) (S := (rvSlot c).view.set) (f := f)
    (r := Rect.unit (s := S32x8x512) ![c.val, 0, 0] S1x8x512.size inb) (hl := hl) (k := fun _ => rest) (Q := Q) (le_of_eq (View.set_reshape _ _).symm)

theorem run_load_av (c : D) {o : Fin 3 → ℕ} (ho : o = ![c.val, 0, 0]) {inb : ∀ a, o a + S1x8x512.size a ≤ S32x8x512.size a} {f : Vec F S32x8x512 .bf16}
    {hl : avM.view.LoadsAt (Rect.unit (s := S32x8x512) o S1x8x512.size inb).toLoadRect} {α : Type}
    {rest : Prog (TpuEff nD τ sig (Elt F) Λ₀ .tc) α} {Q : α → sProp 𝕄} :
    avP c c f ⊢ iprop((avP c c f -∗ run c rest Q)
      -∗ run c (Prog.lift (.load avM (Rect.unit (s := S32x8x512) o S1x8x512.size inb).toLoadRect hl) >>= fun _ => rest) Q) := by
  subst ho
  unfold avP
  exact wp_load_rect (defs := defs₀ (F := F)) 𝒱₀ (c : Thread nD τ) none Set.univ (m := avM) (S := (avSlot c).view.set) (f := f)
    (r := Rect.unit (s := S32x8x512) ![c.val, 0, 0] S1x8x512.size inb) (hl := hl) (k := fun _ => rest) (Q := Q) (le_of_eq (View.set_reshape _ _).symm)

theorem run_store_rv (c : D) {o : Fin 3 → ℕ} (ho : o = ![c.val, 0, 0]) {inb : ∀ a, o a + S1x8x512.size a ≤ S32x8x512.size a} {f : Vec F S32x8x512 .bf16}
    {w : Vec F S1x8x512 .bf16} {hx : (rvM.access (Rect.unit (s := S32x8x512) o S1x8x512.size inb)).Stores Finset.univ} {hm} {α : Type}
    {rest : Prog (TpuEff nD τ sig (Elt F) Λ₀ .tc) α} {Q : α → sProp 𝕄} :
    rvP c c f ⊢ iprop((rvP c c (spread w) -∗ run c rest Q)
      -∗ run c (do Prog.lift (.store rvM (Rect.unit (s := S32x8x512) o S1x8x512.size inb) w Finset.univ hx hm); rest) Q) := by
  subst ho
  have hc : (((rvM.access (Rect.unit (s := S32x8x512) ![c.val, 0, 0] S1x8x512.size inb)).loc (c : Thread nD τ)) ↦[(rvSlot c).view.set]{fullShare}
      ((rvM.access (Rect.unit (s := S32x8x512) ![c.val, 0, 0] S1x8x512.size inb)).write (Elt F) f w Finset.univ)) = (rvP c c (spread w) : sProp 𝕄) := by
    unfold rvP
    refine pointsTo_congr fun i hi => ?_
    have hs : slotOf i = c := (mem_rvSlot c i).mp hi
    have he : i = (rvM.access (Rect.unit (s := S32x8x512) ![c.val, 0, 0] S1x8x512.size inb)).emb (atOne (inSlot i)) := by
      exact (eq_atSlot hs).trans (one_emb c (inSlot i)).symm
    conv_lhs => rw [he]
    rw [View.write_emb_of_mem _ _ (Finset.mem_univ _)]
    rfl
  rw [← hc]
  unfold rvP
  exact wp_store (defs := defs₀ (F := F)) 𝒱₀ (c : Thread nD τ) none Set.univ (m := rvM) (S := (rvSlot c).view.set) (f := f)
    (r := Rect.unit (s := S32x8x512) ![c.val, 0, 0] S1x8x512.size inb) (w := w) (Mk := Finset.univ) (hx := hx) (hm := hm) (k := fun _ => rest) (Q := Q) (le_of_eq (View.set_reshape _ _).symm)

theorem run_store_av (c : D) {o : Fin 3 → ℕ} (ho : o = ![c.val, 0, 0]) {inb : ∀ a, o a + S1x8x512.size a ≤ S32x8x512.size a} {f : Vec F S32x8x512 .bf16}
    {w : Vec F S1x8x512 .bf16} {hx : (avM.access (Rect.unit (s := S32x8x512) o S1x8x512.size inb)).Stores Finset.univ} {hm} {α : Type}
    {rest : Prog (TpuEff nD τ sig (Elt F) Λ₀ .tc) α} {Q : α → sProp 𝕄} :
    avP c c f ⊢ iprop((avP c c (spread w) -∗ run c rest Q)
      -∗ run c (do Prog.lift (.store avM (Rect.unit (s := S32x8x512) o S1x8x512.size inb) w Finset.univ hx hm); rest) Q) := by
  subst ho
  have hc : (((avM.access (Rect.unit (s := S32x8x512) ![c.val, 0, 0] S1x8x512.size inb)).loc (c : Thread nD τ)) ↦[(avSlot c).view.set]{fullShare}
      ((avM.access (Rect.unit (s := S32x8x512) ![c.val, 0, 0] S1x8x512.size inb)).write (Elt F) f w Finset.univ)) = (avP c c (spread w) : sProp 𝕄) := by
    unfold avP
    refine pointsTo_congr fun i hi => ?_
    have hs : slotOf i = c := (mem_avSlot c i).mp hi
    have he : i = (avM.access (Rect.unit (s := S32x8x512) ![c.val, 0, 0] S1x8x512.size inb)).emb (atOne (inSlot i)) := by
      exact (eq_atSlot hs).trans (one_emb c (inSlot i)).symm
    conv_lhs => rw [he]
    rw [View.write_emb_of_mem _ _ (Finset.mem_univ _)]
    rfl
  rw [← hc]
  unfold avP
  exact wp_store (defs := defs₀ (F := F)) 𝒱₀ (c : Thread nD τ) none Set.univ (m := avM) (S := (avSlot c).view.set) (f := f)
    (r := Rect.unit (s := S32x8x512) ![c.val, 0, 0] S1x8x512.size inb) (w := w) (Mk := Finset.univ) (hx := hx) (hm := hm) (k := fun _ => rest) (Q := Q) (le_of_eq (View.set_reshape _ _).symm)

theorem rv_own (c : D) : rvP c c (spread (k0_pay34 (k0_pay33 (F := F)))) = rvP c c (rvV m c) := by
  unfold rvP
  refine pointsTo_congr fun i hi => ?_
  unfold rvV
  rw [if_pos ((mem_rvSlot c i).mp hi)]

theorem av_own (c : D) (h : ∀ y, k0_pay36 (redV m c) (atOne y) = redV m c y) : avP c c (spread (k0_pay36 (redV m c))) = avP c c (avV m) := by
  unfold avP
  refine pointsTo_congr fun i hi => ?_
  unfold avV
  rw [(mem_avSlot c i).mp hi]
  exact h _

/-! ## Slots and rows put together -/

theorem univ_split (c : D) (Φ : D → sProp 𝕄) : bigSep Finset.univ Φ = iprop(Φ c ∗ bigSep (Finset.univ.erase c) Φ) := by
  conv_lhs => rw [← Finset.insert_erase (Finset.mem_univ c)]
  exact BI.bigSep_insert (Finset.notMem_erase c _)

theorem rv_whole (c : D) (f : Vec F S32x8x512 .bf16) : hold c cc0_scratch2 f = bigSep Finset.univ fun j => rvP c j f := by
  have h := pointsTo_biUnion (Ix := Unit) (Name := ℕ) (U := UU) (Lvl := ℕ) (Val := Elt F) (ℓ := (c : Thread nD τ).loc cc0_scratch2) (q := fullShare) (f := f) Finset.univ (fun j : D => (rvSlot j).view.set)
    (fun i _ j _ hij => Finset.disjoint_left.mpr fun x hx hx' => hij (((mem_rvSlot i x).mp hx).symm.trans ((mem_rvSlot j x).mp hx')))
  rw [show (Finset.univ.biUnion fun j : D => (rvSlot j).view.set) = Finset.univ from
    Finset.eq_univ_iff_forall.mpr fun x => Finset.mem_biUnion.mpr ⟨slotOf x, Finset.mem_univ _, (mem_rvSlot _ x).mpr rfl⟩] at h
  exact h
theorem av_whole (c : D) (f : Vec F S32x8x512 .bf16) : hold c cc0_scratch4 f = bigSep Finset.univ fun j => avP c j f := by
  have h := pointsTo_biUnion (Ix := Unit) (Name := ℕ) (U := UU) (Lvl := ℕ) (Val := Elt F) (ℓ := (c : Thread nD τ).loc cc0_scratch4) (q := fullShare) (f := f) Finset.univ (fun j : D => (avSlot j).view.set)
    (fun i _ j _ hij => Finset.disjoint_left.mpr fun x hx hx' => hij (((mem_avSlot i x).mp hx).symm.trans ((mem_avSlot j x).mp hx')))
  rw [show (Finset.univ.biUnion fun j : D => (avSlot j).view.set) = Finset.univ from
    Finset.eq_univ_iff_forall.mpr fun x => Finset.mem_biUnion.mpr ⟨slotOf x, Finset.mem_univ _, (mem_avSlot _ x).mpr rfl⟩] at h
  exact h
theorem sd_whole (c : D) (f : Vec F S256x512 .bf16) : hold c cc0_scratch1 f = bigSep Finset.univ fun j => sdP c j f := by
  have h := pointsTo_biUnion (Ix := Unit) (Name := ℕ) (U := UU) (Lvl := ℕ) (Val := Elt F) (ℓ := (c : Thread nD τ).loc cc0_scratch1) (q := fullShare) (f := f) Finset.univ (fun j : D => (sdRows j).view.set)
    (fun i _ j _ hij => Finset.disjoint_left.mpr fun x hx hx' => hij (((mem_sdRows i x).mp hx).symm.trans ((mem_sdRows j x).mp hx')))
  rw [show (Finset.univ.biUnion fun j : D => (sdRows j).view.set) = Finset.univ from
    Finset.eq_univ_iff_forall.mpr fun x => Finset.mem_biUnion.mpr ⟨rowsOf x, Finset.mem_univ _, (mem_sdRows _ x).mpr rfl⟩] at h
  exact h
theorem as_whole (c : D) (f : Vec F S8x512 .bf16) :
    hold c cc0_scratch3 f ⊣⊢ iprop(asP c (Transfers.shareDrop fullShare 32) f ∗ bigSep Finset.univ fun j : D => asP c (lent j) f) := by
  have h := Transfers.pointsTo_toks (Ix := Unit) (Name := ℕ) (U := UU) (Lvl := ℕ) (Val := Elt F) (ℓ := (c : Thread nD τ).loc cc0_scratch3) (S := asM.view.set) (f := f) fullShare 32
  have hs : asM.view.set = Finset.univ := View.set_whole _
  unfold asP
  rw [hs] at h ⊢
  exact h

end Cert.KernelIdeal.Mesh

end
-- ==== Proof.PartsB.lean ====
/-
The entry barrier's end and the loads of the inputs; the product and its rounding.
-/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem above_rs (c : D) : Above 1 (owe c (some (some (1, c))) 0 + (owe c (some (some (3, c))) 0 + owe c (some none) 0)) :=
  (Above.owe c _ 0 (by show 1 < lvFam 1; decide)).add ((Above.owe c _ 0 (by show 1 < lvFam 3; decide)).add (Above.owe c _ 0 (by show 1 < 4; decide)))

/-- The staged inputs of a device. -/
def stgs (c : D) : sProp 𝕄 :=
  iprop(hold c cc0_stg0_0 (xV m c) ∗ hold c cc0_stg1_0 (wqV m c) ∗ hold c cc0_stg2_0 (wkV m c) ∗ hold c cc0_stg3_0 (wvV m c) ∗ hold c cc0_stg4_0 (woV m c))

set_option maxRecDepth 65536 in
theorem part4 (K : D × CK → ℕ) (c : D) (v : BitVec 32) (O : CellTallies nD τ sig Unit) (hO : Above 1 O) (X : sProp 𝕄) {Q : _ → sProp 𝕄}
    (hk : Stp m K c O iprop(bigSep (Finset.univ.erase c) (payOf m c none) ∗ atPos ER (kcell c none) 1 ∅ 0 ∗ stgs m c ∗ X)
      ⊢ Q (⟨k0_pay2 (xV m c) (wqV m c), k0_pay3 (xV m c) (wkV m c), k0_pay4 (xV m c) (wvV m c), iota .tc S256x256 32 [1] iota_S256x256_d1_w32,
        Scalar.select (Scalar.cmpi .eq 128#32 0#32) 1#32 128#32, k0_pay5, k0_pay6, k0_pay7⟩
        : Σ' (_ : FVec F S256x256 .f32) (_ : FVec F S256x256 .f32) (_ : FVec F S256x256 .f32) (_ : IVec S256x256 32) (_ : BitVec 32) (_ : IVec S256x256 32) (_ : IVec S256x256 1), IVec S256x256 32)) :
    Stp m K c (owe c none 28 + O) iprop(sigX m c none 28 ∗ cred (tallyAt (kcell c none) () 31) ∗ atPos ER (kcell c none) 0 ∅ 0 ∗ stgs m c ∗ X)
      ⊢ run c (here (k0_part4 (F := F)) c v barA) Q := by
  unfold here
  rw [k0_part4_eq_skeleton]
  unfold k0_part4_skel
  iterate 4 refine step_signal m K c none rfl bar_duty (by decide) (by decide +kernel) (by decide +kernel) ?_
  rw [show owe c none (28 + 1 + 1 + 1 + 1) = 0 from owe_all c none, zero_add]
  refine BIBase.Entails.trans (Stp_mono m K c _ sep_elim_right) ?_
  refine step_barrier m K c none rfl bar_duty (n := 1) rfl hO ?_
  unfold Stp at hk ⊢
  unfold stgs at hk ⊢
  iintro ⟨#Hc, Ho, Hpay, Hat, ⟨Hx, Hq, Hk, Hv, Hw⟩, HX⟩
  iapply (run_load c (Memref.whole cc0_stg0_0) (f := xV m c) (v := xV m c) (Memref.readAt_unit_zero (Elt F) cc0_stg0_0 zero3 _ _)) $$ Hx; iintro Hx
  iapply (run_load c (Memref.whole cc0_stg1_0) (f := wqV m c) (v := wqV m c) (Memref.readAt_unit_zero (Elt F) cc0_stg1_0 zero2 _ _)) $$ Hq; iintro Hq
  iapply (run_load c (Memref.whole cc0_stg2_0) (f := wkV m c) (v := wkV m c) (Memref.readAt_unit_zero (Elt F) cc0_stg2_0 zero2 _ _)) $$ Hk; iintro Hk
  iapply (run_load c (Memref.whole cc0_stg3_0) (f := wvV m c) (v := wvV m c) (Memref.readAt_unit_zero (Elt F) cc0_stg3_0 zero2 _ _)) $$ Hv; iintro Hv
  iapply (BIBase.Entails.trans hk (Entails.of_eq (wp_pure _ _ _ _ _).symm |> fun h => fupd_intro.trans h))
  isplitr; · iexact Hc
  isplitl [Ho]; · iexact Ho
  isplitl [Hpay]; · iexact Hpay
  isplitl [Hat]; · iexact Hat
  isplitr [HX]
  · isplitl [Hx]; · iexact Hx
    isplitl [Hq]; · iexact Hq
    isplitl [Hk]; · iexact Hk
    isplitl [Hv]; · iexact Hv
    iexact Hw
  iexact HX

end Cert.KernelIdeal.Mesh

end
-- ==== Proof.PartsI.lean ====
/-
The parts that work on the buffers.
-/
module

public import proofs.«01_k».proof.Proof.PartsB

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What is left of a family's cells after all the waits. -/
def ats (c : D) (a : Fam) : sProp 𝕄 := bigSep (Finset.univ.erase c) fun j => atPos ER (kcell c (some (some (a, j)))) 1 ∅ 0

theorem wait_all (c : D) (a : Fam) : waitX m c a 32 ⊢ iprop((bigSep (Finset.univ.erase c) fun j => payOf m c (some (some (a, j))) c) ∗ ats c a) := by
  unfold waitX ats
  rw [done_all, rem_all]
  exact sep_elim_right.trans (Entails.of_eq (bigSep_sep' _ _ _))

theorem rv_all (c : D) : iprop(waitX m c 1 32 ∗ rvP c c (rvV m c)) ⊢ iprop(ats c 1 ∗ hold c cc0_scratch2 (rvV m c)) := by
  rw [rv_whole, univ_split c]
  iintro ⟨HW, HR⟩
  ihave HW' := (wait_all m c 1) $$ HW
  icases HW' with ⟨HP, HA⟩
  isplitl [HA]; · iexact HA
  isplitl [HR]; · iexact HR
  iexact HP

theorem av_all (c : D) : iprop(waitX m c 3 32 ∗ avP c c (avV m)) ⊢ iprop(ats c 3 ∗ hold c cc0_scratch4 (avV m)) := by
  rw [av_whole, univ_split c]
  iintro ⟨HW, HR⟩
  ihave HW' := (wait_all m c 3) $$ HW
  icases HW' with ⟨HP, HA⟩
  isplitl [HA]; · iexact HA
  isplitl [HR]; · iexact HR
  iexact HP

theorem own_rows (c : D) {o : Fin 2 → ℕ} (ho : o = ![8 * c.val, 0]) (inb : ∀ a, o a + S8x512.size a ≤ S256x512.size a) (f : Vec F S256x512 .f32) :
    acM.view.readAt (Elt F) (Rect.unit (s := S256x512) o S8x512.size inb).toLoadRect f = fun y => f (atRows c y) := by
  subst ho
  funext y
  refine congrArg f ?_
  show (Rect.unit (s := S256x512) ![8 * c.val, 0] S8x512.size inb).emb y = atRows c y
  funext a
  apply Fin.ext
  rw [Rect.emb_apply]
  match a with
  | ⟨0, _⟩ => show 8 * c.val + 1 * (y 0).val = 8 * c.val + (y 0).val; omega
  | ⟨1, _⟩ => show 0 + 1 * (y 1).val = (y 1).val; omega

theorem run_load_rows (c : D) {o : Fin 2 → ℕ} (ho : o = ![8 * c.val, 0]) {inb : ∀ a, o a + S8x512.size a ≤ S256x512.size a} {f : Vec F S256x512 .f32}
    {hl : acM.view.LoadsAt (Rect.unit (s := S256x512) o S8x512.size inb).toLoadRect} {α : Type}
    {rest : Vec F S8x512 .f32 → Prog (TpuEff nD τ sig (Elt F) Λ₀ .tc) α} {Q : α → sProp 𝕄} :
    hold c cc0_scratch0 f ⊢ iprop((hold c cc0_scratch0 f -∗ run c (rest fun y => f (atRows c y)) Q)
      -∗ run c (Prog.lift (.load acM (Rect.unit (s := S256x512) o S8x512.size inb).toLoadRect hl) >>= rest) Q) :=
  run_load c acM (own_rows c ho inb f)

theorem widen (v : Vec F S8x512 .bf16) (y : S8x512.Idx) : k0_pay36 v (atOne y) = v y :=
  shapeCast_addUnit_apply ![8, 512] v shapeCasts_S8x512_S1x8x512 (atOne y)

set_option maxHeartbeats 2000000 in
set_option maxRecDepth 65536 in
theorem part10 (K : D × CK → ℕ) (c : D) (v₂ : BitVec 32) (v₁₁₁ v₂₃₇ v₂₄₁ : FVec F S256x256 .f32) (v₃₀₆ : FVec F S128x256 .f32) (v₃₂₂ v₃₃₈ v₃₄₁ : FVec F S128x64 .f32)
    (v₃₄₉ : FVec F S128x128 .f32) (hv : k0_pay31 v₁₁₁ v₂₃₇ v₂₄₁ v₃₀₆ v₃₂₂ v₃₃₈ v₃₄₁ v₃₄₉ (woV m c) = accV m c)
    (O : CellTallies nD τ sig Unit) (X : sProp 𝕄) (f₂ : Vec F S32x8x512 .bf16) {Q : FVec F S8x512 .bf16 → sProp 𝕄}
    (hk : Stp m K c O iprop(stgs m c ∗ hold c cc0_scratch0 (accV m c) ∗ hold c cc0_scratch1 (sdV m c) ∗ rvP c c f₂ ∗ X) ⊢ Q (k0_pay33 (F := F))) :
    Stp m K c O iprop(stgs m c ∗ (∃ f, hold c cc0_scratch0 f) ∗ (∃ f, hold c cc0_scratch1 f) ∗ rvP c c f₂ ∗ X)
      ⊢ run c (here (k0_part10 (F := F)) c v₂ v₁₁₁ v₂₃₇ v₂₄₁ v₃₀₆ v₃₂₂ v₃₃₈ v₃₄₁ v₃₄₉) Q := by
  unfold here
  rw [k0_part10_eq_skeleton]
  unfold k0_part10_skel
  unfold Stp at hk ⊢
  unfold stgs at hk ⊢
  iintro ⟨#Hc, Ho, ⟨Hx, Hq, Hk, Hv, Hw⟩, ⟨%f₀, Hac⟩, ⟨%f₁, Hsd⟩, Hr, HX⟩
  iapply (run_load c (Memref.whole cc0_stg4_0) (f := woV m c) (v := woV m c) (Memref.readAt_unit_zero (Elt F) cc0_stg4_0 zero2 _ _)) $$ Hw; iintro Hw
  iapply (run_load c acM (f := f₀) (v := f₀) (Memref.readAt_unit_zero (Elt F) cc0_scratch0 zero2 _ _)) $$ Hac; iintro Hac
  iapply (run_store c acM (r := Rect.unit (s := S256x512) ![0, 0] S256x512.size inb_S256x512_S256x512_0_0) (w := k0_pay31 v₁₁₁ v₂₃₇ v₂₄₁ v₃₀₆ v₃₂₂ v₃₃₈ v₃₄₁ v₃₄₉ (woV m c)) (f := f₀) (v := accV m c) ((Memref.write_access_unit_zero_univ (Elt F) cc0_scratch0 zero2 _ _ _).trans hv)) $$ Hac; iintro Hac
  iapply (run_load c acM (f := accV m c) (v := accV m c) (Memref.readAt_unit_zero (Elt F) cc0_scratch0 zero2 _ _)) $$ Hac; iintro Hac
  iapply (run_load c sdM (f := f₁) (v := f₁) (Memref.readAt_unit_zero (Elt F) cc0_scratch1 zero2 _ _)) $$ Hsd; iintro Hsd
  iapply (run_store c sdM (r := Rect.unit (s := S256x512) ![0, 0] S256x512.size inb_S256x512_S256x512_0_0) (w := sdV m c) (f := f₁) (v := sdV m c) (Memref.write_access_unit_zero_univ (Elt F) cc0_scratch1 zero2 _ _ _)) $$ Hsd; iintro Hsd
  iapply (run_load_rv c (k0_off1_eq c)) $$ Hr; iintro Hr
  iapply (BIBase.Entails.trans hk (Entails.of_eq (wp_pure _ _ _ _ _).symm |> fun h => fupd_intro.trans h))
  isplitr; · iexact Hc
  isplitl [Ho]; · iexact Ho
  isplitl [Hx Hq Hk Hv Hw]
  · isplitl [Hx]; · iexact Hx
    isplitl [Hq]; · iexact Hq
    isplitl [Hk]; · iexact Hk
    isplitl [Hv]; · iexact Hv
    iexact Hw
  isplitl [Hac]; · iexact Hac
  isplitl [Hsd]; · iexact Hsd
  isplitl [Hr]; · iexact Hr
  iexact HX

end Cert.KernelIdeal.Mesh

end
-- ==== Proof.Gather.lean ====
/-
What a device holds between the steps of the body.
-/
module

public import proofs.«01_k».proof.Proof.PartsI

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Joining families of resources -/

section Join
omit [FloatOps F]

theorem join_send (s : Finset D) (A B C E : D → sProp 𝕄) :
    iprop((bigSep s fun j => iprop(A j ∗ B j)) ∗ bigSep s C ∗ bigSep s E) ⊢ bigSep s fun j => iprop(A j ∗ B j ∗ C j ∗ E j) := by
  have h1 := bigSep_sep' s A B
  have h2 := bigSep_sep' s A fun j => iprop(B j ∗ C j ∗ E j)
  have h3 := bigSep_sep' s B fun j => iprop(C j ∗ E j)
  have h4 := bigSep_sep' s C E
  rw [h2, h3, h4, h1]
  iintro ⟨⟨HA, HB⟩, HC, HE⟩
  isplitl [HA]; · iexact HA
  isplitl [HB]; · iexact HB
  isplitl [HC]; · iexact HC
  iexact HE

theorem join_two (s : Finset D) (A B : D → sProp 𝕄) : iprop(bigSep s A ∗ bigSep s B) ⊢ bigSep s fun j => iprop(A j ∗ B j) :=
  Entails.of_eq (bigSep_sep' s A B).symm

theorem part_two (s : Finset D) (A B : D → sProp 𝕄) : (bigSep s fun j => iprop(A j ∗ B j)) ⊢ iprop(bigSep s A ∗ bigSep s B) :=
  Entails.of_eq (bigSep_sep' s A B)

end Join

/-- The rights to raise a family's cells: the own ones, on completion, and the peers', on arrival. -/
def tk (c : D) (a b : Fam) : sProp 𝕄 := bigSep (Finset.univ.erase c) fun j =>
  iprop(dutyTok ER (kcell c (some (some (a, j)))) 0 c ∗ dutyTok ER (kcell j (some (some (b, c)))) 0 c)
/-- The start of a family's cells. -/
def at0 (c : D) (a : Fam) : sProp 𝕄 := bigSep (Finset.univ.erase c) fun j => atPos ER (kcell c (some (some (a, j)))) 0 ∅ 0
/-- The slots of the peers' second buffers, to be written by device `c`. -/
def avs (c : D) : sProp 𝕄 := bigSep (Finset.univ.erase c) fun j => iprop(∃ f, avP (F := F) j c f)

theorem pay_parts (c : D) : bigSep (Finset.univ.erase c) (payOf m c none)
    ⊢ iprop((bigSep (Finset.univ.erase c) fun d => iprop(∃ f, rvP (F := F) d c f)) ∗ bigSep (Finset.univ.erase c) fun d => iprop(∃ f, avP (F := F) d c f)) :=
  part_two (Finset.univ.erase c) (fun d => iprop(∃ f, rvP (F := F) d c f)) (fun d => iprop(∃ f, avP (F := F) d c f))

theorem mk_rs (c : D) : iprop(hold c cc0_scratch1 (sdV m c) ∗ tk (F := F) c 0 1 ∗ bigSep (Finset.univ.erase c) (payOf m c none))
    ⊢ iprop(rsX m c 0 ∗ sdP c c (sdV m c) ∗ avs (F := F) c) := by
  unfold rsX sendX avs tk
  rw [sd_whole, univ_split c, rem_zero, done_zero, BI.bigSep_empty]
  iintro ⟨⟨Hown, Hsd⟩, Htk, Hpay⟩
  ihave Hpay' := (pay_parts m c) $$ Hpay
  icases Hpay' with ⟨Hrv, Hav⟩
  isplitl [Hsd Htk Hrv]
  · isplitl [Hsd Htk Hrv]
    · iapply (join_send (Finset.univ.erase c) (fun j => dutyTok ER (kcell c (some (some (0, j)))) 0 c) (fun j => dutyTok ER (kcell j (some (some (1, c)))) 0 c)
        (fun j => sdP c j (sdV m c)) (fun d => iprop(∃ f, rvP (F := F) d c f)))
      isplitl [Htk]; · iexact Htk
      isplitl [Hsd]; · iexact Hsd
      iexact Hrv
    · iempintro
  isplitl [Hown]; · iexact Hown
  iexact Hav

/-- The finished rows' shares that no transfer takes. -/
def kept (c : D) : sProp 𝕄 := iprop(asP c (Transfers.shareDrop fullShare 32) (redV m c) ∗ asP c (lent c) (redV m c))

theorem mk_ag (c : D) : iprop(hold c cc0_scratch3 (redV m c) ∗ tk (F := F) c 2 3 ∗ avs (F := F) c) ⊢ iprop(agX m c 0 ∗ kept m c) := by
  unfold agX sendX avs tk kept
  rw [rem_zero, done_zero, BI.bigSep_empty]
  iintro ⟨Has, Htk, Hav⟩
  ihave Has' := (as_whole c (redV m c)).1 $$ Has
  icases Has' with ⟨Hdrop, Has⟩
  ihave Has' := (Entails.of_eq (univ_split c (fun j => asP c (lent j) (redV m c)))) $$ Has
  icases Has' with ⟨Hown, Has⟩
  isplitl [Has Htk Hav]
  · isplitl [Has Htk Hav]
    · iapply (join_send (Finset.univ.erase c) (fun j => dutyTok ER (kcell c (some (some (2, j)))) 0 c) (fun j => dutyTok ER (kcell j (some (some (3, c)))) 0 c)
        (fun j => asP c (lent j) (redV m c)) (fun d => iprop(∃ f, avP (F := F) d c f)))
      isplitl [Htk]; · iexact Htk
      isplitl [Has]; · iexact Has
      iexact Hav
    · iempintro
  isplitl [Hdrop]; · iexact Hdrop
  iexact Hown

theorem mk_wait0 (c : D) : iprop(rsX m c 32 ∗ at0 (F := F) c 0) ⊢ waitX m c 0 0 := by
  unfold rsX sendX waitX at0
  rw [rem_zero, done_zero, rem_all, done_all, BI.bigSep_empty, BI.bigSep_empty]
  iintro ⟨⟨-, Hc⟩, Ha⟩
  isplitl
  · iapply (join_two (Finset.univ.erase c) (fun j => cred (tallyAt (kcell c (some (some (0, j)))) () N)) (fun j => atPos ER (kcell c (some (some (0, j)))) 0 ∅ 0))
    isplitl [Hc]; · iexact Hc
    iexact Ha
  · iempintro

theorem mk_wait2 (c : D) : iprop(agX m c 32 ∗ at0 (F := F) c 2) ⊢ waitX m c 2 0 := by
  unfold agX sendX waitX at0
  rw [rem_zero, done_zero, rem_all, done_all, BI.bigSep_empty, BI.bigSep_empty]
  iintro ⟨⟨-, Hc⟩, Ha⟩
  isplitl
  · iapply (join_two (Finset.univ.erase c) (fun j => cred (tallyAt (kcell c (some (some (2, j)))) () N)) (fun j => atPos ER (kcell c (some (some (2, j)))) 0 ∅ 0))
    isplitl [Hc]; · iexact Hc
    iexact Ha
  · iempintro

theorem sd_all (c : D) : iprop(waitX m c 0 32 ∗ sdP c c (sdV m c)) ⊢ iprop(ats c 0 ∗ hold c cc0_scratch1 (sdV m c)) := by
  rw [sd_whole, univ_split c]
  iintro ⟨HW, HR⟩
  ihave HW' := (wait_all m c 0) $$ HW
  icases HW' with ⟨HP, HA⟩
  isplitl [HA]; · iexact HA
  isplitl [HR]; · iexact HR
  iexact HP

theorem as_all (c : D) : iprop(waitX m c 2 32 ∗ kept m c) ⊢ iprop(ats c 2 ∗ hold c cc0_scratch3 (redV m c)) := by
  unfold kept
  iintro ⟨HW, HD, HR⟩
  ihave HW' := (wait_all m c 2) $$ HW
  icases HW' with ⟨HP, HA⟩
  isplitl [HA]; · iexact HA
  iapply (as_whole c (redV m c)).2
  isplitl [HD]; · iexact HD
  iapply (Entails.of_eq (univ_split c (fun j => asP c (lent j) (redV m c))).symm)
  isplitl [HR]; · iexact HR
  iexact HP

end Cert.KernelIdeal.Mesh

end
-- ==== Proof.Order.lean ====
/-
What a device holds before and after each group of parts, in the order they ask for it.
-/
module

public import proofs.«01_k».proof.Proof.Gather

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem run_bind (c : D) {α β : Type} (p : Prog (TpuEff nD τ sig (Elt F) Λ₀ .tc) α) (k : α → Prog (TpuEff nD τ sig (Elt F) Λ₀ .tc) β) (Q : β → sProp 𝕄) :
    run c (p >>= k) Q = run c p fun v => run c (k v) Q := wp_bind _ _ _ _ _ _

/-- One part of the body, and then the others. -/
theorem run_then (c : D) {α β : Type} {p : Prog (TpuEff nD τ sig (Elt F) Λ₀ .tc) α} {k : α → Prog (TpuEff nD τ sig (Elt F) Λ₀ .tc) β} {Q : β → sProp 𝕄} {P : sProp 𝕄}
    (h : P ⊢ run c p fun v => run c (k v) Q) : P ⊢ run c (p >>= k) Q := by
  rw [run_bind]; exact h

theorem run_pure_then (c : D) {α β : Type} (a : α) {k : α → Prog (TpuEff nD τ sig (Elt F) Λ₀ .tc) β} {Q : β → sProp 𝕄} {P : sProp 𝕄}
    (h : P ⊢ run c (k a) Q) : P ⊢ run c (pure a >>= k) Q := h

theorem Stp_swap2 (K : D × CK → ℕ) (c : D) (O : CellTallies nD τ sig Unit) (A B C R : sProp 𝕄) :
    Stp m K c O iprop(A ∗ B ∗ C ∗ R) ⊢ Stp m K c O iprop(A ∗ C ∗ B ∗ R) := by
  refine Stp_mono m K c O ?_
  iintro ⟨HA, HB, HC, HR⟩
  isplitl [HA]; · iexact HA
  isplitl [HC]; · iexact HC
  isplitl [HB]; · iexact HB
  iexact HR

/-- What a device starts the body with besides its obligations: the cells and rights, and its buffers. -/
def begun (c : D) (f₂ f₄ : Vec F S32x8x512 .bf16) : sProp 𝕄 :=
  iprop(sigX m c none 0 ∗ cred (tallyAt (kcell c none) () 31) ∗ atPos ER (kcell c none) 0 ∅ 0 ∗ stgs m c
    ∗ (∃ f, hold c cc0_scratch0 f) ∗ (∃ f, hold c cc0_scratch1 f) ∗ rvP c c f₂
    ∗ tk (F := F) c 0 1 ∗ waitX m c 1 0 ∗ (∃ f, hold c cc0_scratch3 f) ∗ tk (F := F) c 2 3 ∗ avP c c f₄ ∗ waitX m c 3 0
    ∗ at0 (F := F) c 0 ∗ (∃ f, hold c cc0_stg5_0 f) ∗ at0 (F := F) c 2
    ∗ sigX m c (some none) 0 ∗ cred (tallyAt (kcell c (some none)) () 31) ∗ atPos ER (kcell c (some none)) 0 ∅ 0)

/-- What it ends the body with. -/
def ended (c : D) : sProp 𝕄 :=
  iprop(atPos ER (kcell c none) 1 ∅ 0 ∗ atPos ER (kcell c (some none)) 1 ∅ 0 ∗ ats (F := F) c 0 ∗ ats (F := F) c 1 ∗ ats (F := F) c 2 ∗ ats (F := F) c 3
    ∗ hold c cc0_scratch0 (accV m c) ∗ hold c cc0_scratch1 (sdV m c) ∗ hold c cc0_scratch2 (rvV m c) ∗ hold c cc0_scratch3 (redV m c)
    ∗ hold c cc0_scratch4 (avV m) ∗ stgs m c ∗ hold c cc0_stg5_0 (outV m))

theorem above_ag (c : D) : Above 2 (owe c (some (some (3, c))) 0 + owe c (some none) 0) :=
  (Above.owe c _ 0 (by show 2 < lvFam 3; decide)).add (Above.owe c _ 0 (by show 2 < 4; decide))
theorem above_out (c : D) (n : ℕ) (h : n < 4) : Above n (owe c (some none) 0) := Above.owe c _ 0 h

theorem to10 (c : D) (f₂ f₄ : Vec F S32x8x512 .bf16) (Z : sProp 𝕄) : iprop(bigSep (Finset.univ.erase c) (payOf m c none) ∗ atPos ER (kcell c none) 1 ∅ 0 ∗ stgs m c ∗ (∃ f, hold c cc0_scratch0 f) ∗ (∃ f, hold c cc0_scratch1 f) ∗ rvP c c f₂ ∗ tk (F := F) c 0 1 ∗ waitX m c 1 0 ∗ (∃ f, hold c cc0_scratch3 f) ∗ tk (F := F) c 2 3 ∗ avP c c f₄ ∗ waitX m c 3 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z)
    ⊢ iprop(stgs m c ∗ (∃ f, hold c cc0_scratch0 f) ∗ (∃ f, hold c cc0_scratch1 f) ∗ rvP c c f₂ ∗ bigSep (Finset.univ.erase c) (payOf m c none) ∗ atPos ER (kcell c none) 1 ∅ 0 ∗ tk (F := F) c 0 1 ∗ waitX m c 1 0 ∗ (∃ f, hold c cc0_scratch3 f) ∗ tk (F := F) c 2 3 ∗ avP c c f₄ ∗ waitX m c 3 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z) := by
  iintro ⟨H0, H1, H2, H3, H4, H5, H6, H7, H8, H9, H10, H11, H12, H13, H14, H15, H16, H17, H18⟩
  isplitl [H2]; · iexact H2
  isplitl [H3]; · iexact H3
  isplitl [H4]; · iexact H4
  isplitl [H5]; · iexact H5
  isplitl [H0]; · iexact H0
  isplitl [H1]; · iexact H1
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem to11 (c : D) (f₂ f₄ : Vec F S32x8x512 .bf16) (Z : sProp 𝕄) : iprop(stgs m c ∗ hold c cc0_scratch0 (accV m c) ∗ hold c cc0_scratch1 (sdV m c) ∗ rvP c c f₂ ∗ bigSep (Finset.univ.erase c) (payOf m c none) ∗ atPos ER (kcell c none) 1 ∅ 0 ∗ tk (F := F) c 0 1 ∗ waitX m c 1 0 ∗ (∃ f, hold c cc0_scratch3 f) ∗ tk (F := F) c 2 3 ∗ avP c c f₄ ∗ waitX m c 3 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z)
    ⊢ iprop(rsX m c 0 ∗ rvP c c f₂ ∗ waitX m c 1 0 ∗ sdP c c (sdV m c) ∗ avs (F := F) c ∗ stgs m c ∗ hold c cc0_scratch0 (accV m c) ∗ atPos ER (kcell c none) 1 ∅ 0 ∗ (∃ f, hold c cc0_scratch3 f) ∗ tk (F := F) c 2 3 ∗ avP c c f₄ ∗ waitX m c 3 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z) := by
  iintro ⟨H0, H1, H2, H3, H4, H5, H6, H7, H8, H9, H10, H11, H12, H13, H14, H15, H16, H17, H18⟩
  ihave HM1 := (mk_rs m c) $$ [H2 H6 H4]
  · isplitl [H2]; · iexact H2
    isplitl [H6]; · iexact H6
    iexact H4
  icases HM1 with ⟨M1_0, M1_1, M1_2⟩
  isplitl [M1_0]; · iexact M1_0
  isplitl [H3]; · iexact H3
  isplitl [H7]; · iexact H7
  isplitl [M1_1]; · iexact M1_1
  isplitl [M1_2]; · iexact M1_2
  isplitl [H0]; · iexact H0
  isplitl [H1]; · iexact H1
  isplitl [H5]; · iexact H5
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem to19 (c : D) (f₂ f₄ : Vec F S32x8x512 .bf16) (Z : sProp 𝕄) : iprop(waitX m c 1 28 ∗ rsX m c 32 ∗ rvP c c (rvV m c) ∗ sdP c c (sdV m c) ∗ avs (F := F) c ∗ stgs m c ∗ hold c cc0_scratch0 (accV m c) ∗ atPos ER (kcell c none) 1 ∅ 0 ∗ (∃ f, hold c cc0_scratch3 f) ∗ tk (F := F) c 2 3 ∗ avP c c f₄ ∗ waitX m c 3 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z)
    ⊢ iprop(waitX m c 1 28 ∗ rvP c c (rvV m c) ∗ hold c cc0_scratch0 (accV m c) ∗ (∃ f, hold c cc0_scratch3 f) ∗ rsX m c 32 ∗ sdP c c (sdV m c) ∗ avs (F := F) c ∗ stgs m c ∗ atPos ER (kcell c none) 1 ∅ 0 ∗ tk (F := F) c 2 3 ∗ avP c c f₄ ∗ waitX m c 3 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z) := by
  iintro ⟨H0, H1, H2, H3, H4, H5, H6, H7, H8, H9, H10, H11, H12, H13, H14, H15, H16, H17, H18⟩
  isplitl [H0]; · iexact H0
  isplitl [H2]; · iexact H2
  isplitl [H6]; · iexact H6
  isplitl [H8]; · iexact H8
  isplitl [H1]; · iexact H1
  isplitl [H3]; · iexact H3
  isplitl [H4]; · iexact H4
  isplitl [H5]; · iexact H5
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem to20 (c : D) (f₂ f₄ : Vec F S32x8x512 .bf16) (Z : sProp 𝕄) : iprop(ats (F := F) c 1 ∗ hold c cc0_scratch2 (rvV m c) ∗ hold c cc0_scratch0 (accV m c) ∗ hold c cc0_scratch3 (redV m c) ∗ rsX m c 32 ∗ sdP c c (sdV m c) ∗ avs (F := F) c ∗ stgs m c ∗ atPos ER (kcell c none) 1 ∅ 0 ∗ tk (F := F) c 2 3 ∗ avP c c f₄ ∗ waitX m c 3 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z)
    ⊢ iprop(agX m c 0 ∗ avP c c f₄ ∗ waitX m c 3 0 ∗ kept m c ∗ ats (F := F) c 1 ∗ hold c cc0_scratch2 (rvV m c) ∗ hold c cc0_scratch0 (accV m c) ∗ rsX m c 32 ∗ sdP c c (sdV m c) ∗ stgs m c ∗ atPos ER (kcell c none) 1 ∅ 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z) := by
  iintro ⟨H0, H1, H2, H3, H4, H5, H6, H7, H8, H9, H10, H11, H12, H13, H14, H15, H16, H17, H18⟩
  ihave HM1 := (mk_ag m c) $$ [H3 H9 H6]
  · isplitl [H3]; · iexact H3
    isplitl [H9]; · iexact H9
    iexact H6
  icases HM1 with ⟨M1_0, M1_1⟩
  isplitl [M1_0]; · iexact M1_0
  isplitl [H10]; · iexact H10
  isplitl [H11]; · iexact H11
  isplitl [M1_1]; · iexact M1_1
  isplitl [H0]; · iexact H0
  isplitl [H1]; · iexact H1
  isplitl [H2]; · iexact H2
  isplitl [H4]; · iexact H4
  isplitl [H5]; · iexact H5
  isplitl [H7]; · iexact H7
  isplitl [H8]; · iexact H8
  isplitl [H12]; · iexact H12
  isplitl [H13]; · iexact H13
  isplitl [H14]; · iexact H14
  isplitl [H15]; · iexact H15
  isplitl [H16]; · iexact H16
  isplitl [H17]; · iexact H17
  iexact H18

theorem to28 (c : D) (f₂ f₄ : Vec F S32x8x512 .bf16) (Z : sProp 𝕄) : iprop(waitX m c 3 28 ∗ agX m c 32 ∗ avP c c (avV m) ∗ kept m c ∗ ats (F := F) c 1 ∗ hold c cc0_scratch2 (rvV m c) ∗ hold c cc0_scratch0 (accV m c) ∗ rsX m c 32 ∗ sdP c c (sdV m c) ∗ stgs m c ∗ atPos ER (kcell c none) 1 ∅ 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z)
    ⊢ iprop(waitX m c 3 28 ∗ waitX m c 0 0 ∗ avP c c (avV m) ∗ (∃ f, hold c cc0_stg5_0 f) ∗ agX m c 32 ∗ kept m c ∗ ats (F := F) c 1 ∗ hold c cc0_scratch2 (rvV m c) ∗ hold c cc0_scratch0 (accV m c) ∗ sdP c c (sdV m c) ∗ stgs m c ∗ atPos ER (kcell c none) 1 ∅ 0 ∗ at0 (F := F) c 2 ∗ sigX m c (some none) 0 ∗ cred (tallyAt (kcell c (some none)) () 31) ∗ atPos ER (kcell c (some none)) 0 ∅ 0 ∗ Z) := by
  iintro ⟨H0, H1, H2, H3, H4, H5, H6, H7, H8, H9, H10, H11, H12, H13, H14, H15, H16, H17⟩
  ihave HM1 := (mk_wait0 m c) $$ [H7 H11]
  · isplitl [H7]; · iexact H7
    iexact H11
  isplitl [H0]; · iexact H0
  isplitl [HM1]; · iexact HM1
  isplitl [H2]; · iexact H2
  isplitl [H12]; · iexact H12
  isplitl [H1]; · iexact H1
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H13]; · iexact H13
  isplitl [H14]; · iexact H14
  isplitl [H15]; · iexact H15
  isplitl [H16]; · iexact H16
  iexact H17

theorem to29 (c : D) (f₂ f₄ : Vec F S32x8x512 .bf16) (Z : sProp 𝕄) : iprop(waitX m c 0 1 ∗ ats (F := F) c 3 ∗ hold c cc0_scratch4 (avV m) ∗ hold c cc0_stg5_0 (outV m) ∗ agX m c 32 ∗ kept m c ∗ ats (F := F) c 1 ∗ hold c cc0_scratch2 (rvV m c) ∗ hold c cc0_scratch0 (accV m c) ∗ sdP c c (sdV m c) ∗ stgs m c ∗ atPos ER (kcell c none) 1 ∅ 0 ∗ at0 (F := F) c 2 ∗ sigX m c (some none) 0 ∗ cred (tallyAt (kcell c (some none)) () 31) ∗ atPos ER (kcell c (some none)) 0 ∅ 0 ∗ Z)
    ⊢ iprop(waitX m c 0 1 ∗ waitX m c 2 0 ∗ sigX m c (some none) 0 ∗ cred (tallyAt (kcell c (some none)) () 31) ∗ atPos ER (kcell c (some none)) 0 ∅ 0 ∗ ats (F := F) c 3 ∗ hold c cc0_scratch4 (avV m) ∗ hold c cc0_stg5_0 (outV m) ∗ kept m c ∗ ats (F := F) c 1 ∗ hold c cc0_scratch2 (rvV m c) ∗ hold c cc0_scratch0 (accV m c) ∗ sdP c c (sdV m c) ∗ stgs m c ∗ atPos ER (kcell c none) 1 ∅ 0 ∗ Z) := by
  iintro ⟨H0, H1, H2, H3, H4, H5, H6, H7, H8, H9, H10, H11, H12, H13, H14, H15, H16⟩
  ihave HM1 := (mk_wait2 m c) $$ [H4 H12]
  · isplitl [H4]; · iexact H4
    iexact H12
  isplitl [H0]; · iexact H0
  isplitl [HM1]; · iexact HM1
  isplitl [H13]; · iexact H13
  isplitl [H14]; · iexact H14
  isplitl [H15]; · iexact H15
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H16

theorem toW (c : D) (f₂ f₄ : Vec F S32x8x512 .bf16) (Z : sProp 𝕄) : iprop(sigX m c (some none) 32 ∗ waitX m c 2 32 ∗ waitX m c 0 32 ∗ cred (tallyAt (kcell c (some none)) () 31) ∗ atPos ER (kcell c (some none)) 0 ∅ 0 ∗ ats (F := F) c 3 ∗ hold c cc0_scratch4 (avV m) ∗ hold c cc0_stg5_0 (outV m) ∗ kept m c ∗ ats (F := F) c 1 ∗ hold c cc0_scratch2 (rvV m c) ∗ hold c cc0_scratch0 (accV m c) ∗ sdP c c (sdV m c) ∗ stgs m c ∗ atPos ER (kcell c none) 1 ∅ 0 ∗ Z)
    ⊢ iprop(cred (tallyAt (kcell c (some none)) () 31) ∗ atPos ER (kcell c (some none)) 0 ∅ 0 ∗ waitX m c 2 32 ∗ waitX m c 0 32 ∗ ats (F := F) c 3 ∗ hold c cc0_scratch4 (avV m) ∗ hold c cc0_stg5_0 (outV m) ∗ kept m c ∗ ats (F := F) c 1 ∗ hold c cc0_scratch2 (rvV m c) ∗ hold c cc0_scratch0 (accV m c) ∗ sdP c c (sdV m c) ∗ stgs m c ∗ atPos ER (kcell c none) 1 ∅ 0 ∗ Z) := by
  iintro ⟨H0, H1, H2, H3, H4, H5, H6, H7, H8, H9, H10, H11, H12, H13, H14, H15⟩
  isplitl [H3]; · iexact H3
  isplitl [H4]; · iexact H4
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem toEnd (c : D) (f₂ f₄ : Vec F S32x8x512 .bf16) (Z : sProp 𝕄) : iprop(bigSep (Finset.univ.erase c) (payOf m c (some none)) ∗ atPos ER (kcell c (some none)) 1 ∅ 0 ∗ waitX m c 2 32 ∗ waitX m c 0 32 ∗ ats (F := F) c 3 ∗ hold c cc0_scratch4 (avV m) ∗ hold c cc0_stg5_0 (outV m) ∗ kept m c ∗ ats (F := F) c 1 ∗ hold c cc0_scratch2 (rvV m c) ∗ hold c cc0_scratch0 (accV m c) ∗ sdP c c (sdV m c) ∗ stgs m c ∗ atPos ER (kcell c none) 1 ∅ 0 ∗ Z)
    ⊢ iprop(ended m c ∗ Z) := by
  unfold ended
  iintro ⟨H0, H1, H2, H3, H4, H5, H6, H7, H8, H9, H10, H11, H12, H13, H14⟩
  ihave HM1 := (sd_all m c) $$ [H3 H11]
  · isplitl [H3]; · iexact H3
    iexact H11
  icases HM1 with ⟨M1_0, M1_1⟩
  ihave HM2 := (as_all m c) $$ [H2 H7]
  · isplitl [H2]; · iexact H2
    iexact H7
  icases HM2 with ⟨M2_0, M2_1⟩
  isplitr [H14]
  · isplitl [H13]; · iexact H13
    isplitl [H1]; · iexact H1
    isplitl [M1_0]; · iexact M1_0
    isplitl [H8]; · iexact H8
    isplitl [M2_0]; · iexact M2_0
    isplitl [H4]; · iexact H4
    isplitl [H10]; · iexact H10
    isplitl [M1_1]; · iexact M1_1
    isplitl [H9]; · iexact H9
    isplitl [M2_1]; · iexact M2_1
    isplitl [H5]; · iexact H5
    isplitl [H12]; · iexact H12
    iexact H6
  iexact H14

theorem fromBegun (c : D) (f₂ f₄ : Vec F S32x8x512 .bf16) (Z : sProp 𝕄) : iprop(begun m c f₂ f₄ ∗ Z)
    ⊢ iprop(sigX m c none 0 ∗ cred (tallyAt (kcell c none) () 31) ∗ atPos ER (kcell c none) 0 ∅ 0 ∗ stgs m c ∗ (∃ f, hold c cc0_scratch0 f) ∗ (∃ f, hold c cc0_scratch1 f) ∗ rvP c c f₂ ∗ tk (F := F) c 0 1 ∗ waitX m c 1 0 ∗ (∃ f, hold c cc0_scratch3 f) ∗ tk (F := F) c 2 3 ∗ avP c c f₄ ∗ waitX m c 3 0 ∗ at0 (F := F) c 0 ∗ (∃ f, hold c cc0_stg5_0 f) ∗ at0 (F := F) c 2 ∗ sigX m c (some none) 0 ∗ cred (tallyAt (kcell c (some none)) () 31) ∗ atPos ER (kcell c (some none)) 0 ∅ 0 ∗ Z) := by
  unfold begun
  iintro ⟨⟨H0, H1, H2, H3, H4, H5, H6, H7, H8, H9, H10, H11, H12, H13, H14, H15, H16, H17, H18⟩, HZ⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HZ

end Cert.KernelIdeal.Mesh

end
-- ==== Proof.Deal.lean ====
/-
The launch: the cells set up, the rights and credits dealt to the devices.
-/
module

public import proofs.«01_k».proof.Proof.Order

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells of a device, one family after another -/

omit [FloatOps F] in
theorem some_split {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map Function.Embedding.some) from by
    ext o; cases o <;> simp, BI.bigSep_insert (by simp), bigSep_map]
  rfl

omit [FloatOps F] in
theorem fin4_split (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem fin6_split (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The cells of a family. -/
def fam (Φ : CK → sProp 𝕄) (a : Fam) : sProp 𝕄 := bigSep Finset.univ fun j : D => Φ (some (some (a, j)))

omit [FloatOps F] in
theorem ck_split (Φ : CK → sProp 𝕄) :
    bigSep Finset.univ Φ = iprop(Φ none ∗ Φ (some none) ∗ fam Φ 0 ∗ fam Φ 1 ∗ fam Φ 2 ∗ fam Φ 3) := by
  rw [some_split, some_split (fun i => Φ (some i)), bigSep_univ_prod (fun p : Fam × D => Φ (some (some p))), fin4_split]
  rfl

/-! ## The launch element -/

theorem kcell_injective : Function.Injective (fun ck : D × CK => kcell ck.1 ck.2) := by
  rintro ⟨c, k⟩ ⟨c', k'⟩ h
  have h1 : c = c' := congrArg (fun g : GSem nD τ sig => g.1.1) h
  have h2 : k = k' := csem_injective (congrArg Prod.snd h)
  rw [h1, h2]

theorem kcell_eq_iff {c c' : D} {k k' : CK} : kcell c k = kcell c' k' ↔ c = c' ∧ k = k' :=
  ⟨fun h => Prod.ext_iff.mp (kcell_injective (a₁ := (c, k)) (a₂ := (c', k')) h), fun h => by rw [h.1, h.2]⟩

def allCells : Finset (GSem nD τ sig) := Finset.univ.map ⟨fun ck : D × CK => kcell ck.1 ck.2, kcell_injective⟩

/-- The cell the `i`-th of a device's raises for the peer `j` goes to. -/
def paid (c : D) (i : Fin 6) (j : D) : D × CK := match i with
  | 0 => (j, none)
  | 1 => (j, some none)
  | 2 => (c, some (some (0, j)))
  | 3 => (j, some (some (1, c)))
  | 4 => (c, some (some (2, j)))
  | 5 => (j, some (some (3, c)))
/-- Which of the raises, and for which peer. -/
def paidBack (ck : D × CK) : Fin 6 × D := match ck.2 with
  | none => (0, ck.1)
  | some none => (1, ck.1)
  | some (some (0, j)) => (2, j)
  | some (some (1, _)) => (3, ck.1)
  | some (some (2, j)) => (4, j)
  | some (some (3, _)) => (5, ck.1)
theorem paidBack_paid (c : D) (i : Fin 6) (j : D) : paidBack (paid c i j) = (i, j) := by fin_cases i <;> rfl

def tokOf (x : D × Fin 6 × D) : GSem nD τ sig × ℕ × D := (kcell (paid x.1 x.2.1 x.2.2).1 (paid x.1 x.2.1 x.2.2).2, 0, x.1)
theorem tokOf_injective : Function.Injective tokOf := by
  rintro ⟨c, i, j⟩ ⟨c', i', j'⟩ h
  have h1 : c = c' := congrArg (fun x : GSem nD τ sig × ℕ × D => x.2.2) h
  subst h1
  have h2 : paid c i j = paid c i' j' := kcell_injective (congrArg Prod.fst h)
  have h3 := congrArg paidBack h2
  rw [paidBack_paid, paidBack_paid] at h3
  rw [h3]
def allToks : Finset (GSem nD τ sig × ℕ × D) := Finset.univ.map ⟨tokOf, tokOf_injective⟩

def u₀ : UU :=
  (initOf (Pipeline.cells cfgs cellOf_inj) (Pipeline.launchToks cfgs cellOf_inj), initOf allCells allToks)

/-- The right to the `i`-th raise, for each peer. -/
def pays (c : D) (i : Fin 6) : sProp 𝕄 :=
  bigSep Finset.univ fun j : D => dutyTok ER (kcell (paid c i j).1 (paid c i j).2) 0 c
def payToks (c : D) : sProp 𝕄 := bigSep Finset.univ (pays (F := F) c)
/-- The starts of all of a device's cells. -/
def atStart (c : D) : sProp 𝕄 := bigSep Finset.univ fun k : CK => atPos ER (kcell c k) 0 ∅ 0

/-- What the launch element deals device `c`; -/
def G (c : D) : sProp 𝕄 :=
  iprop((bigSep Finset.univ fun k : CK => roundState ER (Rd m) (kcell c k) 0)
    ∗ (bigSep Finset.univ fun k : CK => reached ER (kcell c k) 0) ∗ atStart (F := F) c ∗ payToks (F := F) c)

/-- what every device knows of the cells, at the names `K`; -/
def records (K : D × CK → ℕ) : sProp 𝕄 :=
  iprop((bigSep Finset.univ fun ck : D × CK => cellInv ER (Rd m) (K ck) (kcell ck.1 ck.2))
    ∗ bigSep Finset.univ fun ck : D × CK => reached ER (kcell ck.1 ck.2) 0)
instance records_persistent (K : D × CK → ℕ) : BI.Persistent (records (F := F) m K) := by unfold records; infer_instance

/-- what device `c` has once the cells are set up. -/
def G' (c : D) : sProp 𝕄 := iprop(∃ K, records m K ∗ atStart (F := F) c ∗ payToks (F := F) c)

theorem fund_all : BI.own (ER (initOf allCells allToks)) ⊢ (|==> bigSep Finset.univ (G (F := F) m) : sProp 𝕄) := by
  have hX (Φ : GSem nD τ sig → sProp 𝕄) : bigSep allCells Φ = bigSep Finset.univ fun c : D => bigSep Finset.univ fun k : CK => Φ (kcell c k) := by
    unfold allCells; rw [bigSep_map, bigSep_univ_prod]; rfl
  have hT : bigSep allToks (fun x => (dutyTok ER x.1 x.2.1 x.2.2 : sProp 𝕄)) = bigSep Finset.univ fun c : D => payToks (F := F) c := by
    unfold allToks; rw [bigSep_map, bigSep_univ_prod]
    refine bigSep_congr fun c _ => ?_
    unfold payToks
    rw [bigSep_univ_prod]
    rfl
  iintro HX
  imod (Rounds.fund ER (Rd (F := F) m) allCells allToks) $$ HX with ⟨Hst, Hr, Hat, Htok⟩
  imodintro
  ihave Hst' := (Entails.of_eq (hX fun g => roundState ER (Rd (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

omit [FloatOps F] in
theorem unscopedSems0_eq (c : D) : (unscopedSems0 c : sProp 𝕄) = semVal (kcell c none) 0 := by
  unfold unscopedSems0; rw [bigSep_eq_bigSepL_of_eq [SemLoc.reg barS] (by decide +kernel) (by decide +kernel)]; rfl

omit [FloatOps F] in
/-- A device's semaphores at zero: the launch's own and the entry barrier's. -/
theorem sems0_eq (c : D) : (bigSep Finset.univ fun k : CK => semVal (kcell c k) 0 : sProp 𝕄)
    = iprop(unscopedSems0 c ∗ Pipeline.ownSems0 (Ix := Unit) (Name := ℕ) (U := UU) (Lvl := ℕ) (Val := Elt F) (τ := τ) osem c) := by
  rw [some_split, unscopedSems0_eq]; rfl

theorem core_alloc (c : D) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd (F := F) m) κ (kcell c k)))
          ∗ (bigSep Finset.univ fun k : CK => reached ER (kcell c k) 0) ∗ atStart (F := F) c ∗ payToks (F := F) c) := by
  unfold G
  iintro ⟨Hos, Hus, Hst, Hr, Hat, Htok⟩
  ihave Hv := (Entails.of_eq (sems0_eq (F := F) c).symm) $$ [Hos Hus]
  · isplitl [Hus]; · iexact Hus
    iexact Hos
  imod (show iprop((bigSep Finset.univ fun k : CK => semVal (kcell c k) 0) ∗ bigSep Finset.univ fun k : CK => roundState ER (Rd (F := F) m) (kcell c k) 0)
      ⊢ (|={Set.univ}=> bigSep Finset.univ fun k => iprop(∃ κ : ℕ, cellInv ER (Rd (F := F) m) κ (kcell c k)) : sProp 𝕄) from by
        rw [← bigSep_sep']
        exact (bigSep_mono fun k _ => (Rounds.body_intro ER (Rd (F := F) m) (kcell c k)).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  iexact Htok

omit [FloatOps F] in
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : D => iprop((bigSep Finset.univ fun k : CK => iprop(∃ κ : ℕ, cellInv ER (Rd (F := F) m) κ (kcell c k)))
          ∗ (bigSep Finset.univ fun k : CK => reached ER (kcell c k) 0) ∗ atStart (F := F) c ∗ payToks (F := F) c) : sProp 𝕄)
      ⊢ bigSep Finset.univ (G' (F := F) m) := by
  rw [bigSep_sep', bigSep_sep', ← bigSep_univ_prod (fun ck : D × CK => iprop(∃ κ : ℕ, cellInv ER (Rd (F := F) m) κ (kcell ck.1 ck.2))),
    ← bigSep_univ_prod (fun ck : D × CK => (reached ER (kcell ck.1 ck.2) 0 : sProp 𝕄))]
  iintro ⟨HI, #HR, Hlin⟩
  ihave HK := (BI.bigSep_exists_pi Finset.univ (fun (ck : D × CK) (κ : ℕ) => (cellInv ER (Rd (F := F) m) κ (kcell ck.1 ck.2) : sProp 𝕄))) $$ HI
  icases HK with ⟨%K, #HI⟩
  iapply (with_all (R := records m K) (Φ := fun c => iprop(atStart (F := F) c ∗ payToks (F := F) c)) fun c _ => by
    unfold G'
    iintro ⟨#H, Hl⟩
    iexists K
    isplitr; · iexact H
    iexact Hl)
  isplitr
  · unfold records; isplitl; · iexact HI
    iexact HR
  · iexact Hlin

/-- Every device's cells set up at once. -/
theorem glob : (bigSep Finset.univ fun c => iprop(Pipeline.ownSems0 (Ix := Unit) (Name := ℕ) (U := UU) (Lvl := ℕ) (Val := Elt F) (τ := τ) osem c ∗ unscopedSems0 c ∗ G (F := F) m c) : sProp 𝕄)
    ⊢ |={Set.univ}=> bigSep Finset.univ (G' (F := F) m) :=
  ((bigSep_mono fun c _ => core_alloc m c).trans (bigSep_fupd _ _)).trans (BI.fupd_mono (regroup m))

/-! ## The launch credit -/

theorem owe_at (d : D) (k' : CK) (c : D) (k : CK) : owe d k' 0 (kcell c k) () = if k = k' ∧ c ≠ d then worth (csem k) else 0 := by
  have hz : ∀ (S : Finset D), (∑ j ∈ S, tallyAt (kcell j k') () (worth (csem k')) : CellTallies nD τ sig Unit) (kcell c k) ()
      = ∑ j ∈ S, if c = j then (if k = k' then worth (csem k) else 0) else 0 := fun S => by
    rw [Finset.sum_apply, Finsupp.finset_sum_apply]
    refine Finset.sum_congr rfl fun j _ => ?_
    rw [tallyAt_apply]
    by_cases h1 : c = j
    · by_cases h2 : k = k'
      · rw [if_pos h1, if_pos h2, if_pos ⟨kcell_eq_iff.mpr ⟨h1, h2⟩, rfl⟩, h2]
      · rw [if_pos h1, if_neg h2, if_neg fun h => h2 (kcell_eq_iff.mp h.1).2]
    · rw [if_neg h1, if_neg fun h => h1 (kcell_eq_iff.mp h.1).1]
  unfold owe
  rw [hz, rem_zero, Finset.sum_ite_eq]
  by_cases h1 : c = d
  · rw [if_neg (by simp [h1]), if_neg fun h => h.2 h1]
  · rw [if_pos (by simp [h1])]
    by_cases h2 : k = k'
    · rw [if_pos h2, if_pos ⟨h2, h1⟩]
    · rw [if_neg h2, if_neg fun h => h2 h.1]

theorem O₀_at (d c : D) (k : CK) : O₀ d (kcell c k) () = (if k = none ∧ c ≠ d then worth (csem k) else 0)
    + ((if k = some (some (1, d)) ∧ c ≠ d then worth (csem k) else 0) + ((if k = some (some (3, d)) ∧ c ≠ d then worth (csem k) else 0)
      + (if k = some none ∧ c ≠ d then worth (csem k) else 0))) := by
  unfold O₀
  rw [Pi.add_apply, Finsupp.add_apply, Pi.add_apply, Finsupp.add_apply, Pi.add_apply, Finsupp.add_apply, owe_at, owe_at, owe_at, owe_at]

theorem sum_others (c : D) (v : ℕ) : (∑ d : D, if c ≠ d then v else 0) = 31 * v := by
  rw [← Finset.sum_filter, Finset.sum_const, smul_eq_mul, show (Finset.univ.filter fun d : D => c ≠ d) = Finset.univ.erase c from by
    ext d; simp [eq_comm], card_others]

theorem launch_at (c : D) (k : CK) (v : ℕ) (h : (∑ d : D, O₀ d (kcell c k) ()) = v) :
    tallyOn (kcell c k) (launchCredit (Pipeline.owing O₀) 0 (kcell c k)) = (tallyAt (kcell c k) () v : CellTallies nD τ sig Unit) := by
  unfold tallyAt; refine congrArg _ (Finsupp.ext fun u => ?_); cases u
  rw [Pipeline.launchCredit_owing, Finsupp.single_eq_same, h]

theorem launch_bar (c : D) : (∑ d : D, O₀ d (kcell c none) ()) = 31 := by
  rw [Finset.sum_congr rfl fun d _ => show _ = (if c ≠ d then 1 else 0) by
    rw [O₀_at]; simp [worth]]
  exact sum_others c 1
theorem launch_out (c : D) : (∑ d : D, O₀ d (kcell c (some none)) ()) = 31 := by
  rw [Finset.sum_congr rfl fun d _ => show _ = (if c ≠ d then 1 else 0) by
    rw [O₀_at]; simp [worth]]
  exact sum_others c 1
theorem launch_fam (c : D) (a : Fam) (ha : a.val % 2 = 1) (j : D) (hj : j ≠ c) : (∑ d : D, O₀ d (kcell c (some (some (a, j)))) ()) = N := by
  have h13 : a = 1 ∨ a = 3 := by revert ha; revert a; decide
  rw [Finset.sum_congr rfl fun d _ => show _ = (if d = j then N else 0) by
    rw [O₀_at]
    by_cases hd : d = j
    · subst hd
      rcases h13 with rfl | rfl <;> simp [worth, hj.symm]
    · have hd' : j ≠ d := fun e => hd e.symm
      rcases h13 with rfl | rfl <;> simp [hd, hd'] ]
  rw [Finset.sum_ite_eq' Finset.univ j fun _ => N, if_pos (Finset.mem_univ _)]

/-- What a device may collect: the two barriers' units and each peer's two transfers. -/
def creds (c : D) : sProp 𝕄 :=
  iprop(cred (tallyAt (kcell c none) () 31) ∗ cred (tallyAt (kcell c (some none)) () 31)
    ∗ (bigSep (Finset.univ.erase c) fun j => cred (tallyAt (kcell c (some (some (1, j)))) () N))
    ∗ bigSep (Finset.univ.erase c) fun j => cred (tallyAt (kcell c (some (some (3, j)))) () N))

theorem fam_others (c : D) (Φ : CK → sProp 𝕄) (a : Fam) : fam Φ a = iprop(Φ (some (some (a, c))) ∗ bigSep (Finset.univ.erase c) fun j => Φ (some (some (a, j)))) :=
  univ_split c fun j => Φ (some (some (a, j)))

theorem creds_intro (c : D) : (Pipeline.launchCred O₀ c : sProp 𝕄) ⊢ creds (F := F) c := by
  let Φ : SemLoc sig → sProp 𝕄 := fun sm => cred (tallyOn ((c : Thread nD τ), sm) (launchCredit (Pipeline.owing O₀) 0 ((c : Thread nD τ), sm)))
  have h1 : (Pipeline.launchCred O₀ c : sProp 𝕄) ⊢ bigSep (Finset.univ.map ⟨csem, csem_injective⟩) Φ := by
    unfold Pipeline.launchCred
    exact bigSep_subset (Finset.subset_univ _)
  have hf (a : Fam) (ha : a.val % 2 = 1) : fam (fun k : CK => Φ (csem k)) a ⊢ bigSep (Finset.univ.erase c) fun j => cred (tallyAt (kcell c (some (some (a, j)))) () N) := by
    rw [fam_others c]
    refine sep_elim_right.trans (Entails.of_eq (bigSep_congr fun j hj => ?_))
    show cred (tallyOn (kcell c (some (some (a, j)))) _) = _
    rw [launch_at c _ N (launch_fam c a ha j (Finset.ne_of_mem_erase hj))]
  refine h1.trans ?_
  rw [bigSep_map]
  refine BIBase.Entails.trans (Entails.of_eq (ck_split (fun k : CK => Φ (csem k)))) ?_
  unfold creds
  iintro ⟨Hb, Ho, -, H1, -, H3⟩
  isplitl [Hb]
  · iapply (Entails.of_eq (show Φ (csem none) = cred (tallyAt (kcell c none) () 31) by
      show cred (tallyOn (kcell c none) _) = _
      rw [launch_at c _ 31 (launch_bar c)]))
    iexact Hb
  isplitl [Ho]
  · iapply (Entails.of_eq (show Φ (csem (some none)) = cred (tallyAt (kcell c (some none)) () 31) by
      show cred (tallyOn (kcell c (some none)) _) = _
      rw [launch_at c _ 31 (launch_out c)]))
    iexact Ho
  isplitl [H1]; · iapply (hf 1 rfl); iexact H1
  iapply (hf 3 rfl); iexact H3

end Cert.KernelIdeal.Mesh

end
-- ==== Proof.PartsA.lean ====
/-
The parts of the body that only signal.
-/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
theorem part1 (K : D × CK → ℕ) (c : D) (O : CellTallies nD τ sig Unit) (X : sProp 𝕄) {Q : (Σ' (_ : Dev nD) (_ : BitVec 32), Sems sig S_) → sProp 𝕄}
    (hk : Stp m K c (owe c none 8 + O) iprop(sigX m c none 8 ∗ X) ⊢ Q ⟨c, me c, barA⟩) :
    Stp m K c (owe c none 0 + O) iprop(sigX m c none 0 ∗ X) ⊢ run c (here (k0_part1 (F := F))) Q := by
  unfold here
  rw [k0_part1_eq_skeleton]
  unfold k0_part1_skel
  refine BIBase.Entails.trans ?_ (Entails.of_eq (run_deviceId c _ Q).symm)
  beta_reduce
  iterate 8 refine step_signal m K c none rfl bar_duty (by decide) (by decide +kernel) (by decide +kernel) ?_
  exact Stp_done m K c _ _ _ _ hk

set_option maxRecDepth 65536 in
theorem part2 (K : D × CK → ℕ) (c : D) (v : BitVec 32) (O : CellTallies nD τ sig Unit) (X : sProp 𝕄) {Q : PUnit → sProp 𝕄}
    (hk : Stp m K c (owe c none 18 + O) iprop(sigX m c none 18 ∗ X) ⊢ Q ⟨⟩) :
    Stp m K c (owe c none 8 + O) iprop(sigX m c none 8 ∗ X) ⊢ run c (here (k0_part2 (F := F)) c v barA) Q := by
  unfold here
  rw [k0_part2_eq_skeleton]
  unfold k0_part2_skel
  iterate 10 refine step_signal m K c none rfl bar_duty (by decide) (by decide +kernel) (by decide +kernel) ?_
  exact Stp_done m K c _ _ _ _ hk

set_option maxRecDepth 65536 in
theorem part3 (K : D × CK → ℕ) (c : D) (v : BitVec 32) (O : CellTallies nD τ sig Unit) (X : sProp 𝕄) {Q : PUnit → sProp 𝕄}
    (hk : Stp m K c (owe c none 28 + O) iprop(sigX m c none 28 ∗ X) ⊢ Q ⟨⟩) :
    Stp m K c (owe c none 18 + O) iprop(sigX m c none 18 ∗ X) ⊢ run c (here (k0_part3 (F := F)) c v barA) Q := by
  unfold here
  rw [k0_part3_eq_skeleton]
  unfold k0_part3_skel
  iterate 10 refine step_signal m K c none rfl bar_duty (by decide) (by decide +kernel) (by decide +kernel) ?_
  exact Stp_done m K c _ _ _ _ hk

set_option maxRecDepth 65536 in
theorem part38 (K : D × CK → ℕ) (c : D) (v : BitVec 32) (O : CellTallies nD τ sig Unit) (X : sProp 𝕄) {Q : PUnit → sProp 𝕄}
    (hk : Stp m K c (owe c (some none) 16 + O) iprop(sigX m c (some none) 16 ∗ X) ⊢ Q ⟨⟩) :
    Stp m K c (owe c (some none) 6 + O) iprop(sigX m c (some none) 6 ∗ X) ⊢ run c (here (k0_part38 (F := F)) c v) Q := by
  unfold here
  rw [k0_part38_eq_skeleton]
  unfold k0_part38_skel
  iterate 10 refine step_signal m K c (some none) rfl out_duty (by decide) (by decide +kernel) (by decide +kernel) ?_
  exact Stp_done m K c _ _ _ _ hk

set_option maxRecDepth 65536 in
theorem part39 (K : D × CK → ℕ) (c : D) (v : BitVec 32) (O : CellTallies nD τ sig Unit) (X : sProp 𝕄) {Q : PUnit → sProp 𝕄}
    (hk : Stp m K c (owe c (some none) 26 + O) iprop(sigX m c (some none) 26 ∗ X) ⊢ Q ⟨⟩) :
    Stp m K c (owe c (some none) 16 + O) iprop(sigX m c (some none) 16 ∗ X) ⊢ run c (here (k0_part39 (F := F)) c v) Q := by
  unfold here
  rw [k0_part39_eq_skeleton]
  unfold k0_part39_skel
  iterate 10 refine step_signal m K c (some none) rfl out_duty (by decide) (by decide +kernel) (by decide +kernel) ?_
  exact Stp_done m K c _ _ _ _ hk

end Cert.KernelIdeal.Mesh

end
-- ==== Proof.PartsC.lean ====
/-
The first exchange's transfers.
-/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 2000000 in
set_option maxRecDepth 65536 in
theorem part11 (K : D × CK → ℕ) (c : D) (v₂ : BitVec 32) (f : Vec F S32x8x512 .bf16) (O : CellTallies nD τ sig Unit) (X : sProp 𝕄) {Q : BitVec 1 → sProp 𝕄}
    (hk : ∀ v, Stp m K c (owe c (some (some (1, c))) 8 + O) iprop(rsX m c 8 ∗ rvP c c (rvV m c) ∗ X) ⊢ Q v) :
    Stp m K c (owe c (some (some (1, c))) 0 + O) iprop(rsX m c 0 ∗ rvP c c f ∗ X) ⊢ run c (here (k0_part11 (F := F)) c v₂ (k0_pay33 (F := F))) Q := by
  unfold here
  rw [k0_part11_eq_skeleton]
  unfold k0_part11_skel
  suffices h : Stp m K c (owe c (some (some (1, c))) 0 + O) iprop(rsX m c 0 ∗ rvP c c (rvV m c) ∗ X) ⊢ run c _ Q by
    unfold Stp at h ⊢
    iintro ⟨#Hc, Ho, HX, Hr, HR⟩
    iapply (run_store_rv c (k0_off1_eq c)) $$ Hr
    iintro Hr
    ihave Hr' := (Entails.of_eq (rv_own m c)) $$ Hr
    iapply h
    isplitr; · iexact Hc
    isplitl [Ho]; · iexact Ho
    isplitl [HX]; · iexact HX
    isplitl [Hr']; · iexact Hr'
    iexact HR
  iterate 8 refine step_rs m K c (by decide) (by decide +kernel) (by decide +kernel) rfl (by decide +kernel) (by decide +kernel) rfl ?_
  exact Stp_done m K c _ _ _ _ (hk _)

set_option maxHeartbeats 2000000 in
set_option maxRecDepth 65536 in
theorem part12 (K : D × CK → ℕ) (c : D) (v₂ : BitVec 32) (v₃ : BitVec 1) (O : CellTallies nD τ sig Unit) (X : sProp 𝕄) {Q : PUnit → sProp 𝕄}
    (hk : Stp m K c (owe c (some (some (1, c))) 16 + O) iprop(rsX m c 16 ∗ X) ⊢ Q ⟨⟩) :
    Stp m K c (owe c (some (some (1, c))) 8 + O) iprop(rsX m c 8 ∗ X) ⊢ run c (here (k0_part12 (F := F)) c v₂ v₃) Q := by
  unfold here
  rw [k0_part12_eq_skeleton]
  unfold k0_part12_skel
  iterate 8 refine step_rs m K c (by decide) (by decide +kernel) (by decide +kernel) rfl (by decide +kernel) (by decide +kernel) rfl ?_
  exact Stp_done m K c _ _ _ _ hk

set_option maxHeartbeats 2000000 in
set_option maxRecDepth 65536 in
theorem part13 (K : D × CK → ℕ) (c : D) (v₂ : BitVec 32) (O : CellTallies nD τ sig Unit) (X : sProp 𝕄) {Q : BitVec 32 → sProp 𝕄}
    (hk : ∀ v, Stp m K c (owe c (some (some (1, c))) 25 + O) iprop(rsX m c 25 ∗ X) ⊢ Q v) :
    Stp m K c (owe c (some (some (1, c))) 16 + O) iprop(rsX m c 16 ∗ X) ⊢ run c (here (k0_part13 (F := F)) c v₂) Q := by
  unfold here
  rw [k0_part13_eq_skeleton]
  unfold k0_part13_skel
  iterate 9 refine step_rs m K c (by decide) (by decide +kernel) (by decide +kernel) rfl (by decide +kernel) (by decide +kernel) rfl ?_
  exact Stp_done m K c _ _ _ _ (hk _)

set_option maxHeartbeats 2000000 in
set_option maxRecDepth 65536 in
theorem part14 (K : D × CK → ℕ) (c : D) (v₃ : BitVec 32) (O : CellTallies nD τ sig Unit) (X : sProp 𝕄) (hO : Above 2 O) {Q : BitVec 32 → sProp 𝕄}
    (hk : Stp m K c O iprop(waitX m c 1 1 ∗ rsX m c 32 ∗ X) ⊢ Q (Scalar.extui (Scalar.cmpi .ne (me c) 1#32))) :
    Stp m K c (owe c (some (some (1, c))) 25 + O) iprop(rsX m c 25 ∗ waitX m c 1 0 ∗ X) ⊢ run c (here (k0_part14 (F := F)) c (me c) v₃) Q := by
  unfold here
  rw [k0_part14_eq_skeleton]
  unfold k0_part14_skel
  iterate 7 refine step_rs m K c (by decide) (by decide +kernel) (by decide +kernel) rfl (by decide +kernel) (by decide +kernel) rfl ?_
  rw [show owe c (some (some (1, c))) (25 + 1 + 1 + 1 + 1 + 1 + 1 + 1) = 0 from owe_all c _, zero_add]
  refine BIBase.Entails.trans (Stp_swap m K c _ _ _ _) ?_
  refine step_await m K c 1 hO (by decide) (by exact sem_at1 ⟨_, _⟩ _ rfl _) (by intro h; exact rfl) ?_
  exact Stp_done m K c _ _ _ _ hk

end Cert.KernelIdeal.Mesh

end
-- ==== Proof.PartsD.lean ====
/-
The first exchange's arrivals.
-/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 2000000 in
set_option maxRecDepth 65536 in
theorem part15 (K : D × CK → ℕ) (c : D) (O : CellTallies nD τ sig Unit) (X : sProp 𝕄) (hO : Above 2 O) {Q : BitVec 1 → sProp 𝕄}
    (hk : Stp m K c O iprop(waitX m c 1 8 ∗ X) ⊢ Q (Scalar.cmpi .ne (me c) 8#32)) :
    Stp m K c O iprop(waitX m c 1 1 ∗ X) ⊢ run c (here (k0_part15 (F := F)) (me c) (Scalar.extui (Scalar.cmpi .ne (me c) 1#32))) Q := by
  unfold here
  rw [k0_part15_eq_skeleton]
  unfold k0_part15_skel
  iterate 7 refine step_await m K c 1 hO (by decide) (by exact sem_at1 ⟨_, _⟩ _ rfl _) (by intro h; exact rfl) ?_
  exact Stp_done m K c _ _ _ _ hk

set_option maxHeartbeats 2000000 in
set_option maxRecDepth 65536 in
theorem part16 (K : D × CK → ℕ) (c : D) (O : CellTallies nD τ sig Unit) (X : sProp 𝕄) (hO : Above 2 O) {Q : BitVec 1 → sProp 𝕄}
    (hk : Stp m K c O iprop(waitX m c 1 14 ∗ X) ⊢ Q (Scalar.cmpi .ne (Scalar.extui (Scalar.cmpi .ne (me c) 14#32)) 0#32)) :
    Stp m K c O iprop(waitX m c 1 8 ∗ X) ⊢ run c (here (k0_part16 (F := F)) (me c) (Scalar.cmpi .ne (me c) 8#32)) Q := by
  unfold here
  rw [k0_part16_eq_skeleton]
  unfold k0_part16_skel
  iterate 6 refine step_await m K c 1 hO (by decide) (by exact sem_at1 ⟨_, _⟩ _ rfl _) (by intro h; exact rfl) ?_
  exact Stp_done m K c _ _ _ _ hk

set_option maxHeartbeats 2000000 in
set_option maxRecDepth 65536 in
theorem part17 (K : D × CK → ℕ) (c : D) (O : CellTallies nD τ sig Unit) (X : sProp 𝕄) (hO : Above 2 O) {Q : BitVec 32 → sProp 𝕄}
    (hk : Stp m K c O iprop(waitX m c 1 21 ∗ X) ⊢ Q (Scalar.extui (Scalar.cmpi .ne (me c) 21#32))) :
    Stp m K c O iprop(waitX m c 1 14 ∗ X) ⊢ run c (here (k0_part17 (F := F)) (me c) (Scalar.cmpi .ne (Scalar.extui (Scalar.cmpi .ne (me c) 14#32)) 0#32)) Q := by
  unfold here
  rw [k0_part17_eq_skeleton]
  unfold k0_part17_skel
  iterate 7 refine step_await m K c 1 hO (by decide) (by exact sem_at1 ⟨_, _⟩ _ rfl _) (by intro h; exact rfl) ?_
  exact Stp_done m K c _ _ _ _ hk

set_option maxHeartbeats 2000000 in
set_option maxRecDepth 65536 in
theorem part18 (K : D × CK → ℕ) (c : D) (O : CellTallies nD τ sig Unit) (X : sProp 𝕄) (hO : Above 2 O) {Q : BitVec 1 → sProp 𝕄}
    (hk : Stp m K c O iprop(waitX m c 1 28 ∗ X) ⊢ Q (Scalar.cmpi .ne (me c) 28#32)) :
    Stp m K c O iprop(waitX m c 1 21 ∗ X) ⊢ run c (here (k0_part18 (F := F)) (me c) (Scalar.extui (Scalar.cmpi .ne (me c) 21#32))) Q := by
  unfold here
  rw [k0_part18_eq_skeleton]
  unfold k0_part18_skel
  iterate 7 refine step_await m K c 1 hO (by decide) (by exact sem_at1 ⟨_, _⟩ _ rfl _) (by intro h; exact rfl) ?_
  exact Stp_done m K c _ _ _ _ hk

end Cert.KernelIdeal.Mesh

end
-- ==== Proof.PartsE.lean ====
/-
The second exchange's transfers.
-/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 2000000 in
set_option maxRecDepth 65536 in
theorem part21 (K : D × CK → ℕ) (c : D) (v₂ : BitVec 32) (O : CellTallies nD τ sig Unit) (X : sProp 𝕄) {Q : BitVec 32 → sProp 𝕄}
    (hk : ∀ v, Stp m K c (owe c (some (some (3, c))) 16 + O) iprop(agX m c 16 ∗ X) ⊢ Q v) :
    Stp m K c (owe c (some (some (3, c))) 8 + O) iprop(agX m c 8 ∗ X) ⊢ run c (here (k0_part21 (F := F)) c v₂) Q := by
  unfold here
  rw [k0_part21_eq_skeleton]
  unfold k0_part21_skel
  iterate 8 refine step_ag m K c (by decide) (by decide +kernel) (by decide +kernel) rfl (by decide +kernel) (by decide +kernel) ?_
  exact Stp_done m K c _ _ _ _ (hk _)

set_option maxHeartbeats 2000000 in
set_option maxRecDepth 65536 in
theorem part22 (K : D × CK → ℕ) (c : D) (v₂ : BitVec 32) (v₃ : BitVec 32) (O : CellTallies nD τ sig Unit) (X : sProp 𝕄) {Q : BitVec 32 → sProp 𝕄}
    (hk : ∀ v, Stp m K c (owe c (some (some (3, c))) 25 + O) iprop(agX m c 25 ∗ X) ⊢ Q v) :
    Stp m K c (owe c (some (some (3, c))) 16 + O) iprop(agX m c 16 ∗ X) ⊢ run c (here (k0_part22 (F := F)) c v₂ v₃) Q := by
  unfold here
  rw [k0_part22_eq_skeleton]
  unfold k0_part22_skel
  iterate 9 refine step_ag m K c (by decide) (by decide +kernel) (by decide +kernel) rfl (by decide +kernel) (by decide +kernel) ?_
  exact Stp_done m K c _ _ _ _ (hk _)

set_option maxHeartbeats 2000000 in
set_option maxRecDepth 65536 in
theorem part23 (K : D × CK → ℕ) (c : D) (v₃ : BitVec 32) (O : CellTallies nD τ sig Unit) (X : sProp 𝕄) (hO : Above 3 O) {Q : BitVec 32 → sProp 𝕄}
    (hk : Stp m K c O iprop(waitX m c 3 1 ∗ agX m c 32 ∗ X) ⊢ Q (Scalar.extui (Scalar.cmpi .ne (me c) 1#32))) :
    Stp m K c (owe c (some (some (3, c))) 25 + O) iprop(agX m c 25 ∗ waitX m c 3 0 ∗ X) ⊢ run c (here (k0_part23 (F := F)) c (me c) v₃) Q := by
  unfold here
  rw [k0_part23_eq_skeleton]
  unfold k0_part23_skel
  iterate 7 refine step_ag m K c (by decide) (by decide +kernel) (by decide +kernel) rfl (by decide +kernel) (by decide +kernel) ?_
  rw [show owe c (some (some (3, c))) (25 + 1 + 1 + 1 + 1 + 1 + 1 + 1) = 0 from owe_all c _, zero_add]
  refine BIBase.Entails.trans (Stp_swap m K c _ _ _ _) ?_
  refine step_await m K c 3 hO (by decide) (by exact sem_at3 ⟨_, _⟩ _ rfl _) (by intro h; exact rfl) ?_
  exact Stp_done m K c _ _ _ _ hk

end Cert.KernelIdeal.Mesh

end
-- ==== Proof.PartsF.lean ====
/-
The second exchange's arrivals.
-/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 2000000 in
set_option maxRecDepth 65536 in
theorem part24 (K : D × CK → ℕ) (c : D) (O : CellTallies nD τ sig Unit) (X : sProp 𝕄) (hO : Above 3 O) {Q : PUnit → sProp 𝕄}
    (hk : Stp m K c O iprop(waitX m c 3 8 ∗ X) ⊢ Q ⟨⟩) :
    Stp m K c O iprop(waitX m c 3 1 ∗ X) ⊢ run c (here (k0_part24 (F := F)) (me c) (Scalar.extui (Scalar.cmpi .ne (me c) 1#32))) Q := by
  unfold here
  rw [k0_part24_eq_skeleton]
  unfold k0_part24_skel
  iterate 7 refine step_await m K c 3 hO (by decide) (by exact sem_at3 ⟨_, _⟩ _ rfl _) (by intro h; exact rfl) ?_
  exact Stp_done m K c _ _ _ _ hk

set_option maxHeartbeats 2000000 in
set_option maxRecDepth 65536 in
theorem part25 (K : D × CK → ℕ) (c : D) (O : CellTallies nD τ sig Unit) (X : sProp 𝕄) (hO : Above 3 O) {Q : BitVec 32 → sProp 𝕄}
    (hk : Stp m K c O iprop(waitX m c 3 14 ∗ X) ⊢ Q (Scalar.extui (Scalar.cmpi .ne (me c) 14#32))) :
    Stp m K c O iprop(waitX m c 3 8 ∗ X) ⊢ run c (here (k0_part25 (F := F)) (me c)) Q := by
  unfold here
  rw [k0_part25_eq_skeleton]
  unfold k0_part25_skel
  iterate 6 refine step_await m K c 3 hO (by decide) (by exact sem_at3 ⟨_, _⟩ _ rfl _) (by intro h; exact rfl) ?_
  exact Stp_done m K c _ _ _ _ hk

set_option maxHeartbeats 2000000 in
set_option maxRecDepth 65536 in
theorem part26 (K : D × CK → ℕ) (c : D) (O : CellTallies nD τ sig Unit) (X : sProp 𝕄) (hO : Above 3 O) {Q : BitVec 32 → sProp 𝕄}
    (hk : Stp m K c O iprop(waitX m c 3 21 ∗ X) ⊢ Q (Scalar.extui (Scalar.cmpi .ne (me c) 21#32))) :
    Stp m K c O iprop(waitX m c 3 14 ∗ X) ⊢ run c (here (k0_part26 (F := F)) (me c) (Scalar.extui (Scalar.cmpi .ne (me c) 14#32))) Q := by
  unfold here
  rw [k0_part26_eq_skeleton]
  unfold k0_part26_skel
  iterate 7 refine step_await m K c 3 hO (by decide) (by exact sem_at3 ⟨_, _⟩ _ rfl _) (by intro h; exact rfl) ?_
  exact Stp_done m K c _ _ _ _ hk

set_option maxHeartbeats 2000000 in
set_option maxRecDepth 65536 in
theorem part27 (K : D × CK → ℕ) (c : D) (O : CellTallies nD τ sig Unit) (X : sProp 𝕄) (hO : Above 3 O) {Q : PUnit → sProp 𝕄}
    (hk : Stp m K c O iprop(waitX m c 3 28 ∗ X) ⊢ Q ⟨⟩) :
    Stp m K c O iprop(waitX m c 3 21 ∗ X) ⊢ run c (here (k0_part27 (F := F)) (me c) (Scalar.extui (Scalar.cmpi .ne (me c) 21#32))) Q := by
  unfold here
  rw [k0_part27_eq_skeleton]
  unfold k0_part27_skel
  iterate 7 refine step_await m K c 3 hO (by decide) (by exact sem_at3 ⟨_, _⟩ _ rfl _) (by intro h; exact rfl) ?_
  exact Stp_done m K c _ _ _ _ hk

end Cert.KernelIdeal.Mesh

end
-- ==== Proof.PartsG.lean ====
/-
The first exchange's transfers completed.
-/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 2000000 in
set_option maxRecDepth 65536 in
theorem part29 (K : D × CK → ℕ) (c : D) (v₂ : BitVec 32) (O : CellTallies nD τ sig Unit) (X : sProp 𝕄) (hO : Above 0 O) {Q : BitVec 32 → sProp 𝕄}
    (hk : ∀ v, Stp m K c O iprop(waitX m c 0 10 ∗ X) ⊢ Q v) :
    Stp m K c O iprop(waitX m c 0 1 ∗ X) ⊢ run c (here (k0_part29 (F := F)) c v₂) Q := by
  unfold here
  rw [k0_part29_eq_skeleton]
  unfold k0_part29_skel
  iterate 9 refine step_await m K c 0 hO (by decide) (by exact sem_at0 ⟨_, _⟩ _ rfl _) (by intro h; exact rfl) ?_
  exact Stp_done m K c _ _ _ _ (hk _)

set_option maxHeartbeats 2000000 in
set_option maxRecDepth 65536 in
theorem part30 (K : D × CK → ℕ) (c : D) (v₂ : BitVec 32) (v₃ : BitVec 32) (O : CellTallies nD τ sig Unit) (X : sProp 𝕄) (hO : Above 0 O) {Q : PUnit → sProp 𝕄}
    (hk : Stp m K c O iprop(waitX m c 0 19 ∗ X) ⊢ Q ⟨⟩) :
    Stp m K c O iprop(waitX m c 0 10 ∗ X) ⊢ run c (here (k0_part30 (F := F)) c v₂ v₃) Q := by
  unfold here
  rw [k0_part30_eq_skeleton]
  unfold k0_part30_skel
  iterate 9 refine step_await m K c 0 hO (by decide) (by exact sem_at0 ⟨_, _⟩ _ rfl _) (by intro h; exact rfl) ?_
  exact Stp_done m K c _ _ _ _ hk

set_option maxHeartbeats 2000000 in
set_option maxRecDepth 65536 in
theorem part31 (K : D × CK → ℕ) (c : D) (v₂ : BitVec 32) (O : CellTallies nD τ sig Unit) (X : sProp 𝕄) (hO : Above 0 O) {Q : BitVec 32 → sProp 𝕄}
    (hk : ∀ v, Stp m K c O iprop(waitX m c 0 27 ∗ X) ⊢ Q v) :
    Stp m K c O iprop(waitX m c 0 19 ∗ X) ⊢ run c (here (k0_part31 (F := F)) c v₂) Q := by
  unfold here
  rw [k0_part31_eq_skeleton]
  unfold k0_part31_skel
  iterate 8 refine step_await m K c 0 hO (by decide) (by exact sem_at0 ⟨_, _⟩ _ rfl _) (by intro h; exact rfl) ?_
  exact Stp_done m K c _ _ _ _ (hk _)

set_option maxHeartbeats 2000000 in
set_option maxRecDepth 65536 in
theorem part32 (K : D × CK → ℕ) (c : D) (v₃ : BitVec 32) (O : CellTallies nD τ sig Unit) (X : sProp 𝕄) (hO : Above 0 O) {Q : BitVec 1 → sProp 𝕄}
    (hk : Stp m K c O iprop(waitX m c 2 3 ∗ waitX m c 0 32 ∗ X) ⊢ Q (Scalar.cmpi .ne (me c) 3#32)) :
    Stp m K c O iprop(waitX m c 0 27 ∗ waitX m c 2 0 ∗ X) ⊢ run c (here (k0_part32 (F := F)) c (me c) v₃) Q := by
  unfold here
  rw [k0_part32_eq_skeleton]
  unfold k0_part32_skel
  iterate 5 refine step_await m K c 0 hO (by decide) (by exact sem_at0 ⟨_, _⟩ _ rfl _) (by intro h; exact rfl) ?_
  refine BIBase.Entails.trans (Stp_swap m K c _ _ _ _) ?_
  iterate 3 refine step_await m K c 2 hO (by decide) (by exact sem_at2 ⟨_, _⟩ _ rfl _) (by intro h; exact rfl) ?_
  exact Stp_done m K c _ _ _ _ hk

end Cert.KernelIdeal.Mesh

end
-- ==== Proof.PartsH.lean ====
/-
The second exchange's transfers completed.
-/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 2000000 in
set_option maxRecDepth 65536 in
theorem part33 (K : D × CK → ℕ) (c : D) (O : CellTallies nD τ sig Unit) (X : sProp 𝕄) (hO : Above 0 O) {Q : BitVec 1 → sProp 𝕄}
    (hk : Stp m K c O iprop(waitX m c 2 9 ∗ X) ⊢ Q (Scalar.cmpi .ne (Scalar.extui (Scalar.cmpi .ne (me c) 9#32)) 0#32)) :
    Stp m K c O iprop(waitX m c 2 3 ∗ X) ⊢ run c (here (k0_part33 (F := F)) (me c) (Scalar.cmpi .ne (me c) 3#32)) Q := by
  unfold here
  rw [k0_part33_eq_skeleton]
  unfold k0_part33_skel
  iterate 6 refine step_await m K c 2 hO (by decide) (by exact sem_at2 ⟨_, _⟩ _ rfl _) (by intro h; exact rfl) ?_
  exact Stp_done m K c _ _ _ _ hk

set_option maxHeartbeats 2000000 in
set_option maxRecDepth 65536 in
theorem part34 (K : D × CK → ℕ) (c : D) (O : CellTallies nD τ sig Unit) (X : sProp 𝕄) (hO : Above 0 O) {Q : BitVec 32 → sProp 𝕄}
    (hk : Stp m K c O iprop(waitX m c 2 16 ∗ X) ⊢ Q (Scalar.extui (Scalar.cmpi .ne (me c) 16#32))) :
    Stp m K c O iprop(waitX m c 2 9 ∗ X) ⊢ run c (here (k0_part34 (F := F)) (me c) (Scalar.cmpi .ne (Scalar.extui (Scalar.cmpi .ne (me c) 9#32)) 0#32)) Q := by
  unfold here
  rw [k0_part34_eq_skeleton]
  unfold k0_part34_skel
  iterate 7 refine step_await m K c 2 hO (by decide) (by exact sem_at2 ⟨_, _⟩ _ rfl _) (by intro h; exact rfl) ?_
  exact Stp_done m K c _ _ _ _ hk

set_option maxHeartbeats 2000000 in
set_option maxRecDepth 65536 in
theorem part35 (K : D × CK → ℕ) (c : D) (O : CellTallies nD τ sig Unit) (X : sProp 𝕄) (hO : Above 0 O) {Q : BitVec 1 → sProp 𝕄}
    (hk : Stp m K c O iprop(waitX m c 2 23 ∗ X) ⊢ Q (Scalar.cmpi .ne (me c) 23#32)) :
    Stp m K c O iprop(waitX m c 2 16 ∗ X) ⊢ run c (here (k0_part35 (F := F)) (me c) (Scalar.extui (Scalar.cmpi .ne (me c) 16#32))) Q := by
  unfold here
  rw [k0_part35_eq_skeleton]
  unfold k0_part35_skel
  iterate 7 refine step_await m K c 2 hO (by decide) (by exact sem_at2 ⟨_, _⟩ _ rfl _) (by intro h; exact rfl) ?_
  exact Stp_done m K c _ _ _ _ hk

set_option maxHeartbeats 2000000 in
set_option maxRecDepth 65536 in
theorem part36 (K : D × CK → ℕ) (c : D) (O : CellTallies nD τ sig Unit) (X : sProp 𝕄) (hO : Above 0 O) {Q : BitVec 1 → sProp 𝕄}
    (hk : Stp m K c O iprop(waitX m c 2 29 ∗ X) ⊢ Q (Scalar.cmpi .ne (Scalar.extui (Scalar.cmpi .ne (me c) 29#32)) 0#32)) :
    Stp m K c O iprop(waitX m c 2 23 ∗ X) ⊢ run c (here (k0_part36 (F := F)) (me c) (Scalar.cmpi .ne (me c) 23#32)) Q := by
  unfold here
  rw [k0_part36_eq_skeleton]
  unfold k0_part36_skel
  iterate 6 refine step_await m K c 2 hO (by decide) (by exact sem_at2 ⟨_, _⟩ _ rfl _) (by intro h; exact rfl) ?_
  exact Stp_done m K c _ _ _ _ hk

set_option maxHeartbeats 2000000 in
set_option maxRecDepth 65536 in
theorem part37 (K : D × CK → ℕ) (c : D) (O : CellTallies nD τ sig Unit) (X : sProp 𝕄) (hO : Above 0 (owe c (some none) 0 + O)) {Q : PUnit → sProp 𝕄}
    (hk : Stp m K c (owe c (some none) 6 + O) iprop(sigX m c (some none) 6 ∗ waitX m c 2 32 ∗ X) ⊢ Q ⟨⟩) :
    Stp m K c (owe c (some none) 0 + O) iprop(waitX m c 2 29 ∗ sigX m c (some none) 0 ∗ X) ⊢ run c (here (k0_part37 (F := F)) c (me c) (Scalar.cmpi .ne (Scalar.extui (Scalar.cmpi .ne (me c) 29#32)) 0#32)) Q := by
  unfold here
  rw [k0_part37_eq_skeleton]
  unfold k0_part37_skel
  iterate 3 refine step_await m K c 2 hO (by decide) (by exact sem_at2 ⟨_, _⟩ _ rfl _) (by intro h; exact rfl) ?_
  refine BIBase.Entails.trans (Stp_swap m K c _ _ _ _) ?_
  iterate 6 refine step_signal m K c (some none) rfl out_duty (by decide) (by decide +kernel) (by decide +kernel) ?_
  exact Stp_done m K c _ _ _ _ hk

end Cert.KernelIdeal.Mesh

end
-- ==== Proof.PartsJ.lean ====
/-
The end of the second exchange, and the result.
-/
module

public import proofs.«01_k».proof.Proof.PartsI

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 2000000 in
set_option maxRecDepth 65536 in
theorem part28 (K : D × CK → ℕ) (c : D) (O : CellTallies nD τ sig Unit) (X : sProp 𝕄) (hO₃ : Above 3 O) (hO : Above 0 O) {Q : PUnit → sProp 𝕄}
    (hk : Stp m K c O iprop(waitX m c 0 1 ∗ ats c 3 ∗ hold c cc0_scratch4 (avV m) ∗ hold c cc0_stg5_0 (outV m) ∗ X) ⊢ Q ⟨⟩) :
    Stp m K c O iprop(waitX m c 3 28 ∗ waitX m c 0 0 ∗ avP c c (avV m) ∗ (∃ f, hold c cc0_stg5_0 f) ∗ X)
      ⊢ run c (here (k0_part28 (F := F)) c (me c)) Q := by
  unfold here
  rw [k0_part28_eq_skeleton]
  unfold k0_part28_skel
  iterate 4 refine step_await m K c 3 hO₃ (by decide) (by exact sem_at3 ⟨_, _⟩ _ rfl _) (by intro h; exact rfl) ?_
  suffices h : Stp m K c O iprop(waitX m c 0 0 ∗ ats c 3 ∗ hold c cc0_scratch4 (avV m) ∗ hold c cc0_stg5_0 (outV m) ∗ X) ⊢ run c _ Q by
    beta_reduce
    unfold Stp at h ⊢
    iintro ⟨#Hc, Ho, HW, H0, Hr, ⟨%f, Hout⟩, HX⟩
    ihave HA := (av_all m c) $$ [HW Hr]
    · isplitl [HW]; · iexact HW
      iexact Hr
    icases HA with ⟨HA, Hav⟩
    iapply (run_load c avM (f := avV m) (v := avV m) (Memref.readAt_unit_zero (Elt F) cc0_scratch4 zero3 _ _)) $$ Hav; iintro Hav
    iapply (run_load c (Memref.whole cc0_stg5_0) (f := f) (v := f) (Memref.readAt_unit_zero (Elt F) cc0_stg5_0 zero3 _ _)) $$ Hout; iintro Hout
    iapply (run_store c (Memref.whole cc0_stg5_0 : Memref sig .tc .vmem S2x128x512 .f32) (r := Rect.unit (s := S2x128x512) ![0, 0, 0] S2x128x512.size inb_S2x128x512_S2x128x512_0_0_0) (w := outV m) (f := f) (v := outV m) (Memref.write_access_unit_zero_univ (Elt F) cc0_stg5_0 zero3 _ _ _)) $$ Hout; iintro Hout
    iapply h
    isplitr; · iexact Hc
    isplitl [Ho]; · iexact Ho
    isplitl [H0]; · iexact H0
    isplitl [HA]; · iexact HA
    isplitl [Hav]; · iexact Hav
    isplitl [Hout]; · iexact Hout
    iexact HX
  refine step_await m K c 0 hO (by decide) (by exact sem_at0 ⟨_, _⟩ _ rfl _) (by intro h; exact rfl) ?_
  exact Stp_done m K c _ _ _ _ hk

end Cert.KernelIdeal.Mesh

end
-- ==== Proof.PartsK.lean ====
/-
The sum of the received rows, and the second exchange's first transfers.
-/
module

public import proofs.«01_k».proof.Proof.PartsI

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 2000000 in
set_option maxRecDepth 65536 in
theorem part19 (K : D × CK → ℕ) (c : D) (O : CellTallies nD τ sig Unit) (X : sProp 𝕄) (hO : Above 2 O) {Q : Vec F S8x512 .bf16 → sProp 𝕄}
    (hk : Stp m K c O iprop(ats c 1 ∗ hold c cc0_scratch2 (rvV m c) ∗ hold c cc0_scratch0 (accV m c) ∗ hold c cc0_scratch3 (redV m c) ∗ X) ⊢ Q (redV m c)) :
    Stp m K c O iprop(waitX m c 1 28 ∗ rvP c c (rvV m c) ∗ hold c cc0_scratch0 (accV m c) ∗ (∃ f, hold c cc0_scratch3 f) ∗ X)
      ⊢ run c (here (k0_part19 (F := F)) c (me c) (Scalar.cmpi .ne (me c) 28#32)) Q := by
  unfold here
  rw [k0_part19_eq_skeleton]
  unfold k0_part19_skel
  iterate 4 refine step_await m K c 1 hO (by decide) (by exact sem_at1 ⟨_, _⟩ _ rfl _) (by intro h; exact rfl) ?_
  unfold Stp at hk ⊢
  iintro ⟨#Hc, Ho, HW, Hr, Hac, ⟨%f, Has⟩, HX⟩
  ihave HA := (rv_all m c) $$ [HW Hr]
  · isplitl [HW]; · iexact HW
    iexact Hr
  icases HA with ⟨HA, Hrv⟩
  iapply (run_load_rows c (k0_off66_eq c)) $$ Hac; iintro Hac
  iapply (run_load c rvM (f := rvV m c) (v := rvV m c) (Memref.readAt_unit_zero (Elt F) cc0_scratch2 zero3 _ _)) $$ Hrv; iintro Hrv
  iapply (run_load c asM (f := f) (v := f) (Memref.readAt_unit_zero (Elt F) cc0_scratch3 zero2 _ _)) $$ Has; iintro Has
  iapply (run_store c asM (r := Rect.unit (s := S8x512) ![0, 0] S8x512.size inb_S8x512_S8x512_0_0) (w := redV m c) (f := f) (v := redV m c) (Memref.write_access_unit_zero_univ (Elt F) cc0_scratch3 zero2 _ _ _)) $$ Has; iintro Has
  iapply (run_load c asM (f := redV m c) (v := redV m c) (Memref.readAt_unit_zero (Elt F) cc0_scratch3 zero2 _ _)) $$ Has; iintro Has
  iapply (BIBase.Entails.trans hk (Entails.of_eq (wp_pure _ _ _ _ _).symm |> fun h => fupd_intro.trans h))
  isplitr; · iexact Hc
  isplitl [Ho]; · iexact Ho
  isplitl [HA]; · iexact HA
  isplitl [Hrv]; · iexact Hrv
  isplitl [Hac]; · iexact Hac
  isplitl [Has]; · iexact Has
  iexact HX

set_option maxHeartbeats 2000000 in
set_option maxRecDepth 65536 in
theorem part20 (K : D × CK → ℕ) (c : D) (v₂ : BitVec 32) (f : Vec F S32x8x512 .bf16) (O : CellTallies nD τ sig Unit) (X : sProp 𝕄) {Q : PUnit → sProp 𝕄}
    (hk : Stp m K c (owe c (some (some (3, c))) 8 + O) iprop(agX m c 8 ∗ avP c c (avV m) ∗ X) ⊢ Q ⟨⟩) :
    Stp m K c (owe c (some (some (3, c))) 0 + O) iprop(agX m c 0 ∗ avP c c f ∗ X) ⊢ run c (here (k0_part20 (F := F)) c v₂ (redV m c)) Q := by
  unfold here
  rw [k0_part20_eq_skeleton]
  unfold k0_part20_skel
  suffices h : Stp m K c (owe c (some (some (3, c))) 0 + O) iprop(agX m c 0 ∗ avP c c (avV m) ∗ X) ⊢ run c _ Q by
    unfold Stp at h ⊢
    iintro ⟨#Hc, Ho, HX, Hr, HR⟩
    iapply (run_load_av c (k0_off1_eq c)) $$ Hr
    iintro Hr
    iapply (run_store_av c (k0_off1_eq c)) $$ Hr
    iintro Hr
    ihave Hr' := (Entails.of_eq (av_own m c (widen (redV m c)))) $$ Hr
    iapply h
    isplitr; · iexact Hc
    isplitl [Ho]; · iexact Ho
    isplitl [HX]; · iexact HX
    isplitl [Hr']; · iexact Hr'
    iexact HR
  iterate 8 refine step_ag m K c (by decide) (by decide +kernel) (by decide +kernel) rfl (by decide +kernel) (by decide +kernel) ?_
  exact Stp_done m K c _ _ _ _ hk

end Cert.KernelIdeal.Mesh

end
-- ==== Proof.Whole.lean ====
/-
The body of the one point, from its beginning to its end.
-/
module

public import proofs.«01_k».proof.Proof.Order
public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.PartsH
public import proofs.«01_k».proof.Proof.PartsJ
public import proofs.«01_k».proof.Proof.PartsK

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem part40 (K : D × CK → ℕ) (c : D) (f₂ f₄ : Vec F S32x8x512 .bf16) (Z : sProp 𝕄) {Q : (Σ' (_ : Dev nD) (_ : BitVec 32), BitVec 1) → sProp 𝕄}
    (hk : ∀ v, Stp m K c (owe c (some none) 30) (iprop(sigX m c (some none) 30 ∗ waitX m c 2 32 ∗ waitX m c 0 32 ∗ cred (tallyAt (kcell c (some none)) () 31) ∗ atPos ER (kcell c (some none)) 0 ∅ 0 ∗ ats (F := F) c 3 ∗ hold c cc0_scratch4 (avV m) ∗ hold c cc0_stg5_0 (outV m) ∗ kept m c ∗ ats (F := F) c 1 ∗ hold c cc0_scratch2 (rvV m c) ∗ hold c cc0_scratch0 (accV m c) ∗ sdP c c (sdV m c) ∗ stgs m c ∗ atPos ER (kcell c none) 1 ∅ 0 ∗ Z)) ⊢ Q ⟨c, me c, v⟩) :
    Stp m K c (O₀ c) iprop(begun m c f₂ f₄ ∗ Z) ⊢ run c (here (k0_part40 (F := F))) Q := by
  have a1 := above_rs c
  have a2 := above_ag c
  have a3 := above_out c 3 (by decide)
  have a0 := above_out c 0 (by decide)
  unfold here
  rw [k0_part40_eq_skeleton]
  unfold k0_part40_skel O₀
  refine BIBase.Entails.trans (Stp_mono m K c _ (fromBegun m c f₂ f₄ Z)) ?_
  refine run_then c ?_
  refine part1 m K c _ _ ?_
  try dsimp only
  refine run_then c ?_
  refine part2 m K c _ _ _ ?_
  try dsimp only
  refine run_then c ?_
  refine part3 m K c _ _ _ ?_
  try dsimp only
  refine run_then c ?_
  refine part4 m K c _ _ a1 _ ?_
  try dsimp only
  refine BIBase.Entails.trans (Stp_mono m K c _ (to10 m c f₂ f₄ Z)) ?_
  refine run_then c ?_
  rw [k0_part5_eq_skeleton]
  unfold k0_part5_skel
  refine Stp_done m K c _ _ _ _ ?_
  try dsimp only
  refine run_then c ?_
  rw [k0_part6_eq_skeleton]
  unfold k0_part6_skel
  refine Stp_done m K c _ _ _ _ ?_
  try dsimp only
  refine run_then c ?_
  rw [k0_part7_eq_skeleton]
  unfold k0_part7_skel
  refine Stp_done m K c _ _ _ _ ?_
  try dsimp only
  refine run_then c ?_
  rw [k0_part8_eq_skeleton]
  unfold k0_part8_skel
  refine Stp_done m K c _ _ _ _ ?_
  try dsimp only
  refine run_then c ?_
  rw [k0_part9_eq_skeleton]
  unfold k0_part9_skel
  refine Stp_done m K c _ _ _ _ ?_
  try dsimp only
  refine run_then c ?_
  refine part10 m K c _ _ _ _ _ _ _ _ _ (by rfl) _ _ _ ?_
  try dsimp only
  refine BIBase.Entails.trans (Stp_mono m K c _ (to11 m c f₂ f₄ Z)) ?_
  refine run_then c ?_
  refine part11 m K c _ _ _ _ fun v => ?_
  try dsimp only
  refine run_then c ?_
  refine part12 m K c _ _ _ _ ?_
  try dsimp only
  refine run_then c ?_
  refine part13 m K c _ _ _ fun v => ?_
  try dsimp only
  refine BIBase.Entails.trans (Stp_swap2 m K c _ _ _ _ _) ?_
  refine run_then c ?_
  refine part14 m K c _ _ _ a2 ?_
  try dsimp only
  refine run_then c ?_
  refine part15 m K c _ _ a2 ?_
  try dsimp only
  refine run_then c ?_
  refine part16 m K c _ _ a2 ?_
  try dsimp only
  refine run_then c ?_
  refine part17 m K c _ _ a2 ?_
  try dsimp only
  refine run_then c ?_
  refine part18 m K c _ _ a2 ?_
  try dsimp only
  refine BIBase.Entails.trans (Stp_mono m K c _ (to19 m c f₂ f₄ Z)) ?_
  refine run_then c ?_
  refine part19 m K c _ _ a2 ?_
  try dsimp only
  refine BIBase.Entails.trans (Stp_mono m K c _ (to20 m c f₂ f₄ Z)) ?_
  refine run_then c ?_
  refine part20 m K c _ _ _ _ ?_
  try dsimp only
  refine run_then c ?_
  refine part21 m K c _ _ _ fun v => ?_
  try dsimp only
  refine run_then c ?_
  refine part22 m K c _ _ _ _ fun v => ?_
  try dsimp only
  refine BIBase.Entails.trans (Stp_swap2 m K c _ _ _ _ _) ?_
  refine run_then c ?_
  refine part23 m K c _ _ _ a3 ?_
  try dsimp only
  refine run_then c ?_
  refine part24 m K c _ _ a3 ?_
  try dsimp only
  refine run_then c ?_
  refine part25 m K c _ _ a3 ?_
  try dsimp only
  refine run_then c ?_
  refine part26 m K c _ _ a3 ?_
  try dsimp only
  refine run_then c ?_
  refine part27 m K c _ _ a3 ?_
  try dsimp only
  refine BIBase.Entails.trans (Stp_mono m K c _ (to28 m c f₂ f₄ Z)) ?_
  refine run_then c ?_
  refine part28 m K c _ _ a3 a0 ?_
  try dsimp only
  refine BIBase.Entails.trans (Stp_mono m K c _ (to29 m c f₂ f₄ Z)) ?_
  refine run_then c ?_
  refine part29 m K c _ _ _ a0 fun v => ?_
  try dsimp only
  refine run_then c ?_
  refine part30 m K c _ _ _ _ a0 ?_
  try dsimp only
  refine run_then c ?_
  refine part31 m K c _ _ _ a0 fun v => ?_
  try dsimp only
  refine run_then c ?_
  refine part32 m K c _ _ _ a0 ?_
  try dsimp only
  refine run_then c ?_
  refine part33 m K c _ _ a0 ?_
  try dsimp only
  refine run_then c ?_
  refine part34 m K c _ _ a0 ?_
  try dsimp only
  refine run_then c ?_
  refine part35 m K c _ _ a0 ?_
  try dsimp only
  refine run_then c ?_
  refine part36 m K c _ _ a0 ?_
  try dsimp only
  refine BIBase.Entails.trans (Stp_swap2 m K c _ _ _ _ _) ?_
  rw [← add_zero (owe c (some none) 0)]
  refine run_then c ?_
  refine part37 m K c _ _ (a0.add (Above.zero 0)) ?_
  try dsimp only
  refine run_then c ?_
  refine part38 m K c _ _ _ ?_
  try dsimp only
  refine run_then c ?_
  refine part39 m K c _ _ _ ?_
  try dsimp only
  iterate 4 refine step_signal m K c (some none) rfl out_duty (by decide) (by decide +kernel) (by decide +kernel) ?_
  rw [add_zero]
  exact Stp_done m K c _ _ _ _ (hk _)

set_option maxRecDepth 65536 in
set_option maxHeartbeats 1000000 in
/-- The whole body on one device. -/
theorem body_run (K : D × CK → ℕ) (c : D) (f₂ f₄ : Vec F S32x8x512 .bf16) (Z : sProp 𝕄) {Q : PUnit → sProp 𝕄}
    (hk : Stp m K c 0 iprop(ended m c ∗ Z) ⊢ Q ⟨⟩) :
    Stp m K c (O₀ c) iprop(begun m c f₂ f₄ ∗ Z) ⊢ run c (here (cc0_body (F := F))) Q := by
  unfold here
  rw [cc0_body_eq_skeleton]
  unfold cc0_body_skel
  refine run_then c ?_
  refine part40 m K c f₂ f₄ Z fun v => ?_
  dsimp only
  rw [← add_zero (owe c (some none) 30)]
  iterate 2 refine step_signal m K c (some none) rfl out_duty (by decide) (by decide +kernel) (by decide +kernel) ?_
  rw [owe_all, zero_add]
  refine BIBase.Entails.trans (Stp_mono m K c _ (toW m c f₂ f₄ Z)) ?_
  refine step_barrier m K c (some none) rfl out_duty rfl (Above.zero 4) ?_
  exact Stp_done m K c _ _ _ _ ((Stp_mono m K c _ (toEnd m c f₂ f₄ Z)).trans hk)

end Cert.KernelIdeal.Mesh

end
-- ==== Proof.Point.lean ====
/-
The one point, from what the launch deals to every semaphore back at zero.
-/
module

public import proofs.«01_k».proof.Proof.Deal
public import proofs.«01_k».proof.Proof.Whole
public import proofs.«01_k».proof.Proof.Gen.KernelIdeal.Points
public import Idealize.ShloMosaic.Lib.Pipeline.CollectiveSegs

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

/-! ## From what the launch deals to what the body starts with -/

/-- The starts of the cells of the own slots, which nobody raises. -/
def ownAt (c : D) : sProp 𝕄 :=
  iprop(atPos ER (kcell c (some (some (0, c)))) 0 ∅ 0 ∗ atPos ER (kcell c (some (some (1, c)))) 0 ∅ 0
    ∗ atPos ER (kcell c (some (some (2, c)))) 0 ∅ 0 ∗ atPos ER (kcell c (some (some (3, c)))) 0 ∅ 0)

/-- What a device starts from: the cells, its rights and its credits. -/
def start (c : D) : sProp 𝕄 := iprop(∃ K, ctx m K ∗ atStart (F := F) c ∗ payToks (F := F) c ∗ creds (F := F) c)

theorem pays_others (c : D) (i : Fin 6) : pays (F := F) c i
    ⊢ bigSep (Finset.univ.erase c) fun j : D => dutyTok ER (kcell (paid c i j).1 (paid c i j).2) 0 c := by
  unfold pays
  rw [univ_split c]
  exact sep_elim_right

theorem sig_bar (c : D) (f₂ f₄ : Vec F S32x8x512 .bf16) :
    iprop(pays (F := F) c 0 ∗ (bigSep (Finset.univ.erase c) fun j => rvP c j f₂) ∗ bigSep (Finset.univ.erase c) fun j => avP c j f₄) ⊢ sigX m c none 0 := by
  unfold sigX
  rw [rem_zero, bigSep_sep']
  iintro ⟨Ht, H2, H4⟩
  isplitl [Ht]
  · iapply (pays_others (F := F) c 0); iexact Ht
  iapply (show iprop((bigSep (Finset.univ.erase c) fun j => rvP c j f₂) ∗ bigSep (Finset.univ.erase c) fun j => avP c j f₄)
      ⊢ bigSep (Finset.univ.erase c) fun j => payOf m j none c from by
    rw [← bigSep_sep']
    refine bigSep_mono fun j _ => ?_
    show _ ⊢ iprop((∃ f, rvP c j f) ∗ (∃ f, avP c j f))
    iintro ⟨H2, H4⟩
    isplitl [H2]; · iexists f₂; iexact H2
    iexists f₄; iexact H4)
  isplitl [H2]; · iexact H2
  iexact H4

theorem sig_out (c : D) : pays (F := F) c 1 ⊢ sigX m c (some none) 0 := by
  refine (pays_others c 1).trans ?_
  unfold sigX
  rw [rem_zero]
  refine bigSep_mono fun j _ => ?_
  show _ ⊢ iprop(dutyTok ER (kcell j (some none)) 0 c ∗ emp)
  iintro H
  isplitl; · iexact H
  iempintro

theorem tk_rs (c : D) : iprop(pays (F := F) c 2 ∗ pays (F := F) c 3) ⊢ tk (F := F) c 0 1 := by
  unfold tk
  rw [bigSep_sep']
  iintro ⟨H, H'⟩
  isplitl [H]; · iapply (pays_others (F := F) c 2); iexact H
  iapply (pays_others (F := F) c 3); iexact H'
theorem tk_ag (c : D) : iprop(pays (F := F) c 4 ∗ pays (F := F) c 5) ⊢ tk (F := F) c 2 3 := by
  unfold tk
  rw [bigSep_sep']
  iintro ⟨H, H'⟩
  isplitl [H]; · iapply (pays_others (F := F) c 4); iexact H
  iapply (pays_others (F := F) c 5); iexact H'

theorem wait_start (c : D) (a : Fam) : iprop((bigSep (Finset.univ.erase c) fun j => cred (tallyAt (kcell c (some (some (a, j)))) () N))
    ∗ bigSep (Finset.univ.erase c) fun j => atPos ER (kcell c (some (some (a, j)))) 0 ∅ 0) ⊢ waitX m c a 0 := by
  unfold waitX
  rw [rem_zero, done_zero, BI.bigSep_empty, bigSep_sep']
  iintro H
  isplitl; · iexact H
  iempintro

theorem begun_intro (c : D) (f₂ f₄ : Vec F S32x8x512 .bf16) :
    iprop(atStart (F := F) c ∗ payToks (F := F) c ∗ creds (F := F) c ∗ stgs m c ∗ (∃ f, hold c cc0_stg5_0 f)
      ∗ (∃ f, hold c cc0_scratch0 f) ∗ (∃ f, hold c cc0_scratch1 f) ∗ hold c cc0_scratch2 f₂ ∗ (∃ f, hold c cc0_scratch3 f) ∗ hold c cc0_scratch4 f₄)
      ⊢ iprop(begun m c f₂ f₄ ∗ ownAt (F := F) c) := by
  unfold begun ownAt atStart payToks creds at0
  rw [ck_split, fam_others c, fam_others c, fam_others c, fam_others c, fin6_split, rv_whole, av_whole, univ_split c (fun j => rvP c j f₂), univ_split c (fun j => avP c j f₄)]
  iintro ⟨⟨Pb, Po, ⟨A0, P0⟩, ⟨A1, P1⟩, ⟨A2, P2⟩, ⟨A3, P3⟩⟩, ⟨T0, T1, T2, T3, T4, T5⟩, ⟨Cb, Co, C1, C3⟩, Hs, H5, S0, S1, ⟨R, Rs⟩, S3, ⟨V, Vs⟩⟩
  isplitr [A0 A1 A2 A3]
  · isplitl [T0 Rs Vs]
    · iapply (sig_bar m c f₂ f₄)
      isplitl [T0]; · iexact T0
      isplitl [Rs]; · iexact Rs
      iexact Vs
    isplitl [Cb]; · iexact Cb
    isplitl [Pb]; · iexact Pb
    isplitl [Hs]; · iexact Hs
    isplitl [S0]; · iexact S0
    isplitl [S1]; · iexact S1
    isplitl [R]; · iexact R
    isplitl [T2 T3]
    · iapply (tk_rs (F := F) c)
      isplitl [T2]; · iexact T2
      iexact T3
    isplitl [C1 P1]
    · iapply (wait_start m c 1)
      isplitl [C1]; · iexact C1
      iexact P1
    isplitl [S3]; · iexact S3
    isplitl [T4 T5]
    · iapply (tk_ag (F := F) c)
      isplitl [T4]; · iexact T4
      iexact T5
    isplitl [V]; · iexact V
    isplitl [C3 P3]
    · iapply (wait_start m c 3)
      isplitl [C3]; · iexact C3
      iexact P3
    isplitl [P0]; · iexact P0
    isplitl [H5]; · iexact H5
    isplitl [P2]; · iexact P2
    isplitl [T1]; · iapply (sig_out m c); iexact T1
    isplitl [Co]; · iexact Co
    iexact Po
  isplitl [A0]; · iexact A0
  isplitl [A1]; · iexact A1
  isplitl [A2]; · iexact A2
  iexact A3

/-! ## The cells closed at the end -/

theorem close_one (K : D × CK → ℕ) (c : D) (k : CK) (R : ℕ) (h : ∀ r, R ≤ r → (Rd (F := F) m).duties (kcell c k) r = ∅) :
    iprop(ctx m K ∗ atPos ER (kcell c k) R ∅ 0) ⊢ (|={Set.univ}=> semVal (kcell c k) 0 : sProp 𝕄) := by
  iintro ⟨#H, Hat⟩
  iapply (Rounds.cell_close ER (Rd (F := F) m) (Set.mem_univ (K (c, k))) (fun h => h) (R := R) h)
  isplitr; · iapply (ctx_inv m K c k); iexact H
  iexact Hat

theorem own_never (c : D) (a : Fam) : ∀ r, 0 ≤ r → (Rd (F := F) m).duties (kcell c (some (some (a, c)))) r = ∅ := fun r _ => by
  rcases Nat.eq_zero_or_pos r with rfl | h
  · rw [duties_cell, dutiesOf_own]
  · exact duties_later m _ r h

theorem close_fam (K : D × CK → ℕ) (c : D) (a : Fam) :
    iprop(ctx m K ∗ atPos ER (kcell c (some (some (a, c)))) 0 ∅ 0 ∗ ats (F := F) c a)
      ⊢ (|={Set.univ}=> fam (fun k => semVal (kcell c k) 0) a : sProp 𝕄) := by
  rw [fam_others c]
  unfold ats
  iintro ⟨#H, Ho, Hat⟩
  imod (close_one m K c (some (some (a, c))) 0 (own_never m c a)) $$ [Ho] with Ho
  · isplitr; · iexact H
    iexact Ho
  imod (show iprop(ctx m K ∗ bigSep (Finset.univ.erase c) fun j => atPos ER (kcell c (some (some (a, j)))) 1 ∅ 0)
      ⊢ (|={Set.univ}=> bigSep (Finset.univ.erase c) fun j => semVal (kcell c (some (some (a, j)))) 0 : sProp 𝕄) from
        (with_all (R := ctx m K) fun j _ => close_one m K c (some (some (a, j))) 1 (duties_later m _)).trans (bigSep_fupd _ _)) $$ [Hat] with Hs
  · isplitr; · iexact H
    iexact Hat
  imodintro
  isplitl [Ho]; · iexact Ho
  iexact Hs

/-- What the body's end leaves: every semaphore at zero, the buffers. -/
def over (c : D) : sProp 𝕄 :=
  iprop(unscopedSems0 c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) spec0 c)

theorem over_intro (K : D × CK → ℕ) (c : D) :
    iprop(ctx m K ∗ ended m c ∗ ownAt (F := F) c) ⊢ (|={Set.univ}=> iprop(over (F := F) c ∗ stgs m c ∗ hold c cc0_stg5_0 (outV m)) : sProp 𝕄) := by
  unfold ended ownAt over
  rw [scopedRest0_eq]
  iintro ⟨#H, ⟨Pb, Po, E0, E1, E2, E3, S0, S1, S2, S3, S4, Hs, H5⟩, A0, A1, A2, A3⟩
  imod (close_one m K c none 1 (duties_later m _)) $$ [Pb] with Zb
  · isplitr; · iexact H
    iexact Pb
  imod (close_one m K c (some none) 1 (duties_later m _)) $$ [Po] with Zo
  · isplitr; · iexact H
    iexact Po
  imod (close_fam m K c 0) $$ [A0 E0] with Z0
  · isplitr; · iexact H
    isplitl [A0]; · iexact A0
    iexact E0
  imod (close_fam m K c 1) $$ [A1 E1] with Z1
  · isplitr; · iexact H
    isplitl [A1]; · iexact A1
    iexact E1
  imod (close_fam m K c 2) $$ [A2 E2] with Z2
  · isplitr; · iexact H
    isplitl [A2]; · iexact A2
    iexact E2
  imod (close_fam m K c 3) $$ [A3 E3] with Z3
  · isplitr; · iexact H
    isplitl [A3]; · iexact A3
    iexact E3
  imodintro
  ihave Hz := (Entails.of_eq ((ck_split (fun k => (semVal (kcell c k) 0 : sProp 𝕄))).symm.trans (sems0_eq (F := F) c))) $$ [Zb Zo Z0 Z1 Z2 Z3]
  · isplitl [Zb]; · iexact Zb
    isplitl [Zo]; · iexact Zo
    isplitl [Z0]; · iexact Z0
    isplitl [Z1]; · iexact Z1
    isplitl [Z2]; · iexact Z2
    iexact Z3
  icases Hz with ⟨Hu, Hown⟩
  isplitr [Hs H5]
  · isplitl [Hu]; · iexact Hu
    isplitl [Hown]; · iexact Hown
    isplitl [S0]; · iexists _; iexact S0
    isplitl [S1]; · iexists _; iexact S1
    isplitl [S2]; · iexists _; iexact S2
    isplitl [S3]; · iexists _; iexact S3
    iexists _; iexact S4
  isplitl [Hs]; · iexact Hs
  iexact H5

/-! ## The data of the one point -/

variable (ρ : Dev nD → PrngReg)

def Φ₀ (c : D) : sProp 𝕄 :=
  iprop(start m c ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => wqV m c
    | ⟨2, _⟩ => wkV m c
    | ⟨3, _⟩ => wvV m c
    | ⟨4, _⟩ => woV m c
    | ⟨5, _⟩ => outV m
  Φ t := match t with
    | ⟨0, _⟩ => Φ₀ m c
    | ⟨_ + 1, _⟩ => over (F := F) c
  q _ := fullShare
  owed t := match t with
    | ⟨0, _⟩ => O₀ c
    | ⟨_ + 1, _⟩ => 0

omit [FloatOps F] in
theorem owns_whole_eq (c : D) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

abbrev stg (c : D) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : D) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : D) : sProp 𝕄 :=
  iprop(over (F := F) c ∗ (dats m ρ 0 c).owesAt () t0_0.succ ∗ stg c cc0_stg0_0 (xV m c) ∗ stg c cc0_stg1_0 (wqV m c) ∗ stg c cc0_stg2_0 (wkV m c)
    ∗ stg c cc0_stg3_0 (wvV m c) ∗ stg c cc0_stg4_0 (woV m c) ∗ stg c cc0_stg5_0 (outV m))

theorem start_stg (c : D) :
    iprop((∃ d, stg c cc0_stg0_0 ((dats m ρ 0 c).before (0 : Fin 6) t0_0 d))
      ∗ (∃ d, stg c cc0_stg1_0 ((dats m ρ 0 c).before (1 : Fin 6) t0_0 d))
      ∗ (∃ d, stg c cc0_stg2_0 ((dats m ρ 0 c).before (2 : Fin 6) t0_0 d))
      ∗ (∃ d, stg c cc0_stg3_0 ((dats m ρ 0 c).before (3 : Fin 6) t0_0 d))
      ∗ (∃ d, stg c cc0_stg4_0 ((dats m ρ 0 c).before (4 : Fin 6) t0_0 d)))
    ⊢ stgs m c := by
  unfold stgs hold
  iintro ⟨⟨%d0, %g0, %h0, H0⟩, ⟨%d1, %g1, %h1, H1⟩, ⟨%d2, %g2, %h2, H2⟩, ⟨%d3, %g3, %h3, H3⟩, ⟨%d4, %g4, %h4, H4⟩⟩
  have e0 : g0 = xV m c := by rw [h0]; unfold Dat.before; rw [if_pos (fetch0_0 t0_0)]; rfl
  have e1 : g1 = wqV m c := by rw [h1]; unfold Dat.before; rw [if_pos (fetch0_1 t0_0)]; rfl
  have e2 : g2 = wkV m c := by rw [h2]; unfold Dat.before; rw [if_pos (fetch0_2 t0_0)]; rfl
  have e3 : g3 = wvV m c := by rw [h3]; unfold Dat.before; rw [if_pos (fetch0_3 t0_0)]; rfl
  have e4 : g4 = woV m c := by rw [h4]; unfold Dat.before; rw [if_pos (fetch0_4 t0_0)]; rfl
  subst e0; subst e1; subst e2; subst e3; subst e4
  isplitl [H0]; · iexact H0
  isplitl [H1]; · iexact H1
  isplitl [H2]; · iexact H2
  isplitl [H3]; · iexact H3
  iexact H4

theorem stg_of (c : D) (b : Ref sig .tc) (X : b.ty.Contents (Elt F)) : (((c : Thread nD τ).loc b) ↦{fullShare} X : sProp 𝕄) ⊢ stg c b X := by
  iintro H
  iexists X
  isplitr; · ipureintro; rfl
  iexact H

theorem post_intro (K : D × CK → ℕ) (c : D) : Stp m K c 0 iprop(ended m c ∗ ownAt (F := F) c) ⊢ (|={Set.univ}=> bodyPost m ρ c : sProp 𝕄) := by
  unfold Stp
  iintro ⟨#H, ⟨%W, HO⟩, HE, HA⟩
  imod (over_intro m K c) $$ [HE HA] with ⟨Hov, Hs, H5⟩
  · isplitr; · iexact H
    isplitl [HE]; · iexact HE
    iexact HA
  imodintro
  unfold bodyPost Dat.owesAt Pipeline.owesWithin
  rw [show (dats m ρ 0 c).owed t0_0.succ = 0 from rfl]
  isplitl [Hov]; · iexact Hov
  isplitl [HO]
  · iexists W
    isplitr; · ipureintro; exact fun _ _ => Or.inl trivial
    iexact HO
  unfold stgs hold
  icases Hs with ⟨H0, H1, H2, H3, H4⟩
  isplitl [H0]; · iapply (stg_of (F := F) c cc0_stg0_0 _); iexact H0
  isplitl [H1]; · iapply (stg_of (F := F) c cc0_stg1_0 _); iexact H1
  isplitl [H2]; · iapply (stg_of (F := F) c cc0_stg2_0 _); iexact H2
  isplitl [H3]; · iapply (stg_of (F := F) c cc0_stg3_0 _); iexact H3
  isplitl [H4]; · iapply (stg_of (F := F) c cc0_stg4_0 _); iexact H4
  iapply (stg_of (F := F) c cc0_stg5_0 _); iexact H5

theorem run_upd (c : D) {α : Type} (p : Prog (TpuEff nD τ sig (Elt F) Λ₀ .tc) α) (Q : α → sProp 𝕄) :
    run c p (fun a => iprop(|={Set.univ}=> Q a)) ⊢ run c p Q := wp_fupd _ _ _ _ _

theorem sound_body (c : D) : bodyPre m ρ c ⊢ run c (here (cc0_body (F := F))) fun _ => bodyPost m ρ c := by
  unfold bodyPre Φ₀ start
  rw [scopedRest0_eq]
  iintro ⟨⟨⟨%K, #Hc, Hat, Htok, Hcr⟩, S0, S1, ⟨%f₂, S2⟩, S3, ⟨%f₄, S4⟩⟩, Ho, H0, H1, H2, H3, H4, ⟨%d5, %g5, %h5, H5⟩⟩
  unfold Dat.owesAt Pipeline.owesWithin
  icases Ho with ⟨%W, %hW, HO⟩
  ihave Hs := (start_stg m ρ c) $$ [H0 H1 H2 H3 H4]
  · isplitl [H0]; · iexact H0
    isplitl [H1]; · iexact H1
    isplitl [H2]; · iexact H2
    isplitl [H3]; · iexact H3
    iexact H4
  ihave HB := (begun_intro m c f₂ f₄) $$ [Hat Htok Hcr Hs H5 S0 S1 S2 S3 S4]
  · isplitl [Hat]; · iexact Hat
    isplitl [Htok]; · iexact Htok
    isplitl [Hcr]; · iexact Hcr
    isplitl [Hs]; · iexact Hs
    isplitl [H5]; · iexists g5; iexact H5
    isplitl [S0]; · iexact S0
    isplitl [S1]; · iexact S1
    isplitl [S2]; · iexact S2
    isplitl [S3]; · iexact S3
    iexact S4
  iapply (run_upd (F := F) c)
  iapply (body_run m K c f₂ f₄ (ownAt (F := F) c) (post_intro m ρ K c))
  unfold Stp
  isplitr; · iexact Hc
  isplitl [HO]; · iexists W; iexact HO
  iexact HB

set_option maxRecDepth 8000 in
theorem body_obligation (c : D) : BodyObligation (dats (F := F) m ρ 0 c) (defs₀ (F := F)) 𝒱₀ () Set.univ := fun t => by
  rw [fin_N0 t]
  rw [bigSep_W, bigSep_W]
  simp only [owns_whole_eq]
  exact sound_body m ρ c

/-! ## The launch -/

theorem stage_kind : ∀ (w : Fin cfg0.W) (s : Fin (cfg0.win w).nbuf), kindOf (.dma ((cfg0.win w).sem s)) = none := by decide
theorem stage_level (c : D) (w : Fin cfg0.W) (s : Fin (cfg0.win w).nbuf) : lv ((c : Thread nD τ), .dma ((cfg0.win w).sem s)) () = 0 := by
  unfold lv
  rw [show kindOf _ = none from stage_kind w s]

theorem ownSemFacts : Pipeline.OwnSemFacts cfg0.spec osem where
  isScoped := by decide +kernel
  inj k k' h := Option.some.inj (csem_injective (a₁ := some k) (a₂ := some k') h)
  disj k w s h := by
    have h1 := congrArg kindOf (show csem (some k) = _ from h)
    rw [kindOf_csem, stage_kind] at h1
    exact absurd h1 (by simp)

theorem share_eq (c : D) (w : Fin cfg0.W) : (dats m ρ 0 c).share w = fullShare := by unfold Dat.share; split <;> rfl

theorem start_intro (c : D) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' records ctx
  iintro ⟨-, #Hlev, Hcr, -, ⟨%K, ⟨#HI, #HR⟩, Hat, Htok⟩⟩
  ihave Hc := (creds_intro (F := F) c) $$ Hcr
  imodintro
  isplitl
  · iexists K
    isplitr
    · isplitr; · iexact HI
      isplitr; · iexact HR
      iexact Hlev
    isplitl [Hat]; · iexact Hat
    isplitl [Htok]; · iexact Htok
    iexact Hc
  · iempintro

theorem point_intro (c : D) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem point_exit (c : D) :
    (dats m ρ 0 c).Φ (Fin.last cfg0.N) ⊢ iprop(unscopedSems0 c ∗ Pipeline.ownSems0 osem c ∗ Pipeline.scopedRest cfg0.spec c) :=
  by exact Entails.of_eq rfl

theorem waits (c : D) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of (n := 0) ((Above.owe c _ 0 (by decide)).add ((Above.owe c _ 0 (by show 0 < lvFam 1; decide)).add
        ((Above.owe c _ 0 (by show 0 < lvFam 3; decide)).add (above_out c 0 (by decide))))) c _ (le_of_eq (stage_level c w s))
    · exact mayWait_of (Above.zero 0) c _ (le_of_eq (stage_level c w s))

def finalA (c : D) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run of the program terminates, with each device's arrays at the computed contents and every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := point_intro m ρ) (hout := point_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.KernelIdeal.Mesh

end
-- ==== Proof.Outcome.lean ====
/-
What a run of the whole program leaves.
-/
module

public import proofs.«01_k».proof.Proof.Point

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-- What is written back over the whole result array. -/
theorem final_out (c : D) : finalA m ρ c (5 : Fin 6) = outV m := by
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  have h : (win0_5.blk (0 : Fin 1)).view.read (Elt F) (finalA m ρ c (5 : Fin 6)) = outV m := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from flush0_5 _, if_pos rfl]
    exact View.read_write_univ _ _
  rw [hr] at h
  exact h

/-- Every run terminates with each device's result at the same computed contents, its arguments as they were and every semaphore at zero. -/
theorem run_all : θ_run defs (onTc (τ := τ) (main (F := F))) ⟨m, fun _ => 0, ρ⟩ (fun r => (∀ c : Dev nD,
      r.2.mem ((c.tc : Thread nD τ).loc main_v1) = outV m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 5).trans (final_out m ρ c),
    (h.1 c 0).trans ((dats (F := F) m ρ 0 c).arrAt_in (0 : Fin 6) rfl _), (h.1 c 1).trans ((dats (F := F) m ρ 0 c).arrAt_in (1 : Fin 6) rfl _),
    (h.1 c 2).trans ((dats (F := F) m ρ 0 c).arrAt_in (2 : Fin 6) rfl _), (h.1 c 3).trans ((dats (F := F) m ρ 0 c).arrAt_in (3 : Fin 6) rfl _),
    (h.1 c 4).trans ((dats (F := F) m ρ 0 c).arrAt_in (4 : Fin 6) rfl _)⟩, h.2⟩) (run_main m ρ)

end Cert.KernelIdeal.Mesh

end
-- ==== Proof.BitsWhole.lean ====
/-
The body of the one point, from its beginning to its end.
-/
module

public import proofs.«01_k».proof.Proof.BitsOrder
public import proofs.«01_k».proof.Proof.BitsPartsA
public import proofs.«01_k».proof.Proof.BitsPartsB
public import proofs.«01_k».proof.Proof.BitsPartsC
public import proofs.«01_k».proof.Proof.BitsPartsD
public import proofs.«01_k».proof.Proof.BitsPartsE
public import proofs.«01_k».proof.Proof.BitsPartsF
public import proofs.«01_k».proof.Proof.BitsPartsG
public import proofs.«01_k».proof.Proof.BitsPartsH
public import proofs.«01_k».proof.Proof.BitsPartsJ
public import proofs.«01_k».proof.Proof.BitsPartsK

@[expose] public section

noncomputable section

namespace Cert.Kernel.Mesh

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem part40 (K : D × CK → ℕ) (c : D) (f₂ f₄ : Vec F S32x8x512 .bf16) (Z : sProp 𝕄) {Q : (Σ' (_ : Dev nD) (_ : BitVec 32), BitVec 1) → sProp 𝕄}
    (hk : ∀ v, Stp m K c (owe c (some none) 30) (iprop(sigX m c (some none) 30 ∗ waitX m c 2 32 ∗ waitX m c 0 32 ∗ cred (tallyAt (kcell c (some none)) () 31) ∗ atPos ER (kcell c (some none)) 0 ∅ 0 ∗ ats (F := F) c 3 ∗ hold c cc0_scratch4 (avV m) ∗ hold c cc0_stg5_0 (outV m) ∗ kept m c ∗ ats (F := F) c 1 ∗ hold c cc0_scratch2 (rvV m c) ∗ hold c cc0_scratch0 (accV m c) ∗ sdP c c (sdV m c) ∗ stgs m c ∗ atPos ER (kcell c none) 1 ∅ 0 ∗ Z)) ⊢ Q ⟨c, me c, v⟩) :
    Stp m K c (O₀ c) iprop(begun m c f₂ f₄ ∗ Z) ⊢ run c (here (k0_part40 (F := F))) Q := by
  have a1 := above_rs c
  have a2 := above_ag c
  have a3 := above_out c 3 (by decide)
  have a0 := above_out c 0 (by decide)
  unfold here
  rw [k0_part40_eq_skeleton]
  unfold k0_part40_skel O₀
  refine BIBase.Entails.trans (Stp_mono m K c _ (fromBegun m c f₂ f₄ Z)) ?_
  refine run_then c ?_
  refine part1 m K c _ _ ?_
  try dsimp only
  refine run_then c ?_
  refine part2 m K c _ _ _ ?_
  try dsimp only
  refine run_then c ?_
  refine part3 m K c _ _ _ ?_
  try dsimp only
  refine run_then c ?_
  refine part4 m K c _ _ a1 _ ?_
  try dsimp only
  refine BIBase.Entails.trans (Stp_mono m K c _ (to10 m c f₂ f₄ Z)) ?_
  refine run_then c ?_
  rw [k0_part5_eq_skeleton]
  unfold k0_part5_skel
  refine Stp_done m K c _ _ _ _ ?_
  try dsimp only
  refine run_then c ?_
  rw [k0_part6_eq_skeleton]
  unfold k0_part6_skel
  refine Stp_done m K c _ _ _ _ ?_
  try dsimp only
  refine run_then c ?_
  rw [k0_part7_eq_skeleton]
  unfold k0_part7_skel
  refine Stp_done m K c _ _ _ _ ?_
  try dsimp only
  refine run_then c ?_
  rw [k0_part8_eq_skeleton]
  unfold k0_part8_skel
  refine Stp_done m K c _ _ _ _ ?_
  try dsimp only
  refine run_then c ?_
  rw [k0_part9_eq_skeleton]
  unfold k0_part9_skel
  refine Stp_done m K c _ _ _ _ ?_
  try dsimp only
  refine run_then c ?_
  refine part10 m K c _ _ _ _ _ _ _ _ _ (by rfl) _ _ _ ?_
  try dsimp only
  refine BIBase.Entails.trans (Stp_mono m K c _ (to11 m c f₂ f₄ Z)) ?_
  refine run_then c ?_
  refine part11 m K c _ _ _ _ fun v => ?_
  try dsimp only
  refine run_then c ?_
  refine part12 m K c _ _ _ _ ?_
  try dsimp only
  refine run_then c ?_
  refine part13 m K c _ _ _ fun v => ?_
  try dsimp only
  refine BIBase.Entails.trans (Stp_swap2 m K c _ _ _ _ _) ?_
  refine run_then c ?_
  refine part14 m K c _ _ _ a2 ?_
  try dsimp only
  refine run_then c ?_
  refine part15 m K c _ _ a2 ?_
  try dsimp only
  refine run_then c ?_
  refine part16 m K c _ _ a2 ?_
  try dsimp only
  refine run_then c ?_
  refine part17 m K c _ _ a2 ?_
  try dsimp only
  refine run_then c ?_
  refine part18 m K c _ _ a2 ?_
  try dsimp only
  refine BIBase.Entails.trans (Stp_mono m K c _ (to19 m c f₂ f₄ Z)) ?_
  refine run_then c ?_
  refine part19 m K c _ _ a2 ?_
  try dsimp only
  refine BIBase.Entails.trans (Stp_mono m K c _ (to20 m c f₂ f₄ Z)) ?_
  refine run_then c ?_
  refine part20 m K c _ _ _ _ ?_
  try dsimp only
  refine run_then c ?_
  refine part21 m K c _ _ _ fun v => ?_
  try dsimp only
  refine run_then c ?_
  refine part22 m K c _ _ _ _ fun v => ?_
  try dsimp only
  refine BIBase.Entails.trans (Stp_swap2 m K c _ _ _ _ _) ?_
  refine run_then c ?_
  refine part23 m K c _ _ _ a3 ?_
  try dsimp only
  refine run_then c ?_
  refine part24 m K c _ _ a3 ?_
  try dsimp only
  refine run_then c ?_
  refine part25 m K c _ _ a3 ?_
  try dsimp only
  refine run_then c ?_
  refine part26 m K c _ _ a3 ?_
  try dsimp only
  refine run_then c ?_
  refine part27 m K c _ _ a3 ?_
  try dsimp only
  refine BIBase.Entails.trans (Stp_mono m K c _ (to28 m c f₂ f₄ Z)) ?_
  refine run_then c ?_
  refine part28 m K c _ _ a3 a0 ?_
  try dsimp only
  refine BIBase.Entails.trans (Stp_mono m K c _ (to29 m c f₂ f₄ Z)) ?_
  refine run_then c ?_
  refine part29 m K c _ _ _ a0 fun v => ?_
  try dsimp only
  refine run_then c ?_
  refine part30 m K c _ _ _ _ a0 ?_
  try dsimp only
  refine run_then c ?_
  refine part31 m K c _ _ _ a0 fun v => ?_
  try dsimp only
  refine run_then c ?_
  refine part32 m K c _ _ _ a0 ?_
  try dsimp only
  refine run_then c ?_
  refine part33 m K c _ _ a0 ?_
  try dsimp only
  refine run_then c ?_
  refine part34 m K c _ _ a0 ?_
  try dsimp only
  refine run_then c ?_
  refine part35 m K c _ _ a0 ?_
  try dsimp only
  refine run_then c ?_
  refine part36 m K c _ _ a0 ?_
  try dsimp only
  refine BIBase.Entails.trans (Stp_swap2 m K c _ _ _ _ _) ?_
  rw [← add_zero (owe c (some none) 0)]
  refine run_then c ?_
  refine part37 m K c _ _ (a0.add (Above.zero 0)) ?_
  try dsimp only
  refine run_then c ?_
  refine part38 m K c _ _ _ ?_
  try dsimp only
  refine run_then c ?_
  refine part39 m K c _ _ _ ?_
  try dsimp only
  iterate 4 refine step_signal m K c (some none) rfl out_duty (by decide) (by decide +kernel) (by decide +kernel) ?_
  rw [add_zero]
  exact Stp_done m K c _ _ _ _ (hk _)

set_option maxRecDepth 65536 in
set_option maxHeartbeats 1000000 in
/-- The whole body on one device. -/
theorem body_run (K : D × CK → ℕ) (c : D) (f₂ f₄ : Vec F S32x8x512 .bf16) (Z : sProp 𝕄) {Q : PUnit → sProp 𝕄}
    (hk : Stp m K c 0 iprop(ended m c ∗ Z) ⊢ Q ⟨⟩) :
    Stp m K c (O₀ c) iprop(begun m c f₂ f₄ ∗ Z) ⊢ run c (here (cc0_body (F := F))) Q := by
  unfold here
  rw [cc0_body_eq_skeleton]
  unfold cc0_body_skel
  refine run_then c ?_
  refine part40 m K c f₂ f₄ Z fun v => ?_
  dsimp only
  rw [← add_zero (owe c (some none) 30)]
  iterate 2 refine step_signal m K c (some none) rfl out_duty (by decide) (by decide +kernel) (by decide +kernel) ?_
  rw [owe_all, zero_add]
  refine BIBase.Entails.trans (Stp_mono m K c _ (toW m c f₂ f₄ Z)) ?_
  refine step_barrier m K c (some none) rfl out_duty rfl (Above.zero 4) ?_
  exact Stp_done m K c _ _ _ _ ((Stp_mono m K c _ (toEnd m c f₂ f₄ Z)).trans hk)

end Cert.Kernel.Mesh

end
-- ==== Proof.RefTerms.lean ====
/-
The reference's result, named stage by stage, and each stage read at an index over the extended reals.
-/
module

public import proofs.«01_k».proof.Proof.Gen.ReferenceIdeal.Run
public import Idealize.ShloMosaic.Lib.Pointwise

@[expose] public section

noncomputable section

namespace Cert.ReferenceIdeal.Terms

open Cert.ReferenceIdeal Cert.ReferenceIdeal.Gen Cert.ReferenceIdeal.Value
open Idealize.ShloMosaic Idealize.ShloMosaic.TcCoe

/-- A projection of the input, cut into heads. -/
def projT (x : FVec Ideal S2x128x512 .bf16) (w : FVec Ideal S512x8192 .bf16) : FVec Ideal S2x128x128x64 .bf16 :=
  shapeCast S2x128x128x64 (truncf .bf16 (Host.dotGeneral dot_S2x128x512_S512x8192_S2x128x8192_2_0_01_1_n_n none x w) bitsLt_bf16_f32) shapeCasts_S2x128x8192_S2x128x128x64

/-- The rotation's frequencies, -/
def freqT : FVec Ideal S32 .f32 :=
  Host.divf (broadcastInDim S32 ![] bcast_S_S32 (constant S_ .f32 0x3F800000#32)) (Host.powf (broadcastInDim S32 ![] bcast_S_S32 (constant S_ .f32 0x461C4000#32))
    (Host.divf (sitofp .f32 (addi (broadcastInDim S32 ![] bcast_S_S32 (constantI S_ 32 0#32)) (muli (broadcastInDim S32 ![] bcast_S_S32 (constantI S_ 32 2#32)) (iotaInDim S32 32 0))))
      (broadcastInDim S32 ![] bcast_S_S32 (constant S_ .f32 0x42800000#32))))
/-- its angles, -/
def angleT : FVec Ideal S128x32 .f32 :=
  mulf (broadcastInDim S128x32 ![0, 1] bcast_S128x1_S128x32_0_1 (sitofp .f32 (broadcastInDim S128x1 ![0] bcast_S128_S128x1_0 (iotaInDim S128 32 0))))
    (broadcastInDim S128x32 ![0, 1] bcast_S1x32_S128x32_0_1 (broadcastInDim S1x32 ![1] bcast_S32_S1x32_1 freqT))
/-- and a table over positions and pairs, each pair twice, spread over the heads. -/
def spreadT (z : FVec Ideal S128x32 .f32) : FVec Ideal S2x128x128x64 .f32 :=
  broadcastInDim S2x128x128x64 ![0, 1, 2, 3] bcast_S1x128x1x64_S2x128x128x64_0_1_2_3 (broadcastInDim S1x128x1x64 ![1, 3] bcast_S128x64_S1x128x1x64_1_3
    (shapeCast S128x64 (broadcastInDim S128x32x2 ![0, 1] bcast_S128x32_S128x32x2_0_1 z) shapeCasts_S128x32x2_S128x64))

/-- Each pair's members exchanged, the first one negated. -/
def swapT (t : FVec Ideal S2x128x128x64 .bf16) : FVec Ideal S2x128x128x64 .bf16 :=
  shapeCast S2x128x128x64 (concatenate S2x128x128x32x2 4
    [⟨S2x128x128x32x1, broadcastInDim S2x128x128x32x1 ![0, 1, 2, 3] bcast_S2x128x128x32_S2x128x128x32x1_0_1_2_3 (Host.negf (shapeCast S2x128x128x32
        (extractStridedSlice S2x128x128x32x1 ![0, 0, 0, 0, 1] (shapeCast S2x128x128x32x2 t shapeCasts_S2x128x128x64_S2x128x128x32x2) slices_S2x128x128x32x2_S2x128x128x32x1_0_0_0_0_1) shapeCasts_S2x128x128x32x1_S2x128x128x32))⟩,
      ⟨S2x128x128x32x1, broadcastInDim S2x128x128x32x1 ![0, 1, 2, 3] bcast_S2x128x128x32_S2x128x128x32x1_0_1_2_3 (shapeCast S2x128x128x32
        (extractStridedSlice S2x128x128x32x1 ![0, 0, 0, 0, 0] (shapeCast S2x128x128x32x2 t shapeCasts_S2x128x128x64_S2x128x128x32x2) slices_S2x128x128x32x2_S2x128x128x32x1_0_0_0_0_0) shapeCasts_S2x128x128x32x1_S2x128x128x32)⟩]
    concatenates_S2x128x128x32x1_S2x128x128x32x1_S2x128x128x32x2_d4) shapeCasts_S2x128x128x32x2_S2x128x128x64

/-- A projection turned. -/
def turnT (t : FVec Ideal S2x128x128x64 .bf16) : FVec Ideal S2x128x128x64 .f32 :=
  addf (mulf (extf .f32 t bitsLt_bf16_f32) (spreadT (Host.cos angleT))) (mulf (extf .f32 (swapT t) bitsLt_bf16_f32) (spreadT (Host.sin angleT)))

/-- The scaled products of queries and keys, -/
def scoreT (q k : FVec Ideal S2x128x128x64 .f32) : FVec Ideal S2x128x128x128 .f32 :=
  mulf (Host.dotGeneral dot_S2x128x128x64_S2x128x128x64_S2x128x128x128_3_3_1_1_02_02 none q k) (broadcastInDim S2x128x128x128 ![] bcast_S_S2x128x128x128 (constant S_ .f32 0x3E000000#32))
/-- a table over query rows, spread along the key rows, -/
def alongT (z : FVec Ideal S2x128x128 .f32) : FVec Ideal S2x128x128x128 .f32 :=
  broadcastInDim S2x128x128x128 ![0, 1, 2, 3] bcast_S2x128x128x1_S2x128x128x128_0_1_2_3 (broadcastInDim S2x128x128x1 ![0, 1, 2] bcast_S2x128x128_S2x128x128x1_0_1_2 z)
/-- the weights before they are divided, -/
def weightT (s : FVec Ideal S2x128x128x128 .f32) : FVec Ideal S2x128x128x128 .f32 :=
  Host.exp (subf s (alongT (Host.reduce FloatOps.maximumf s (constant S_ .f32 0xFF800000#32) reducesTo_S2x128x128x128_S2x128x128_d3 h_S_)))
/-- and after. -/
def shareT (w : FVec Ideal S2x128x128x128 .f32) : FVec Ideal S2x128x128x128 .f32 :=
  Host.divf w (alongT (Host.reduceAdd w (constant S_ .f32 0x00000000#32) reducesTo_S2x128x128x128_S2x128x128_d3 h_S_))
/-- The averages of the values, heads side by side. -/
def ctxT (v : FVec Ideal S2x128x128x64 .bf16) (w : FVec Ideal S2x128x128x128 .f32) : FVec Ideal S2x128x8192 .f32 :=
  shapeCast S2x128x8192 (transpose S2x128x128x64 [0, 3, 1, 2] (Host.dotGeneral dot_S2x128x128x64_S2x128x128x128_S2x128x64x128_1_3_3_2_02_01 none v w) transposes_S2x128x64x128_S2x128x128x64_0_3_1_2)
    shapeCasts_S2x128x128x64_S2x128x8192
/-- The reference's result. -/
def outT (x : FVec Ideal S2x128x512 .bf16) (wq wk wv : FVec Ideal S512x8192 .bf16) (wo : FVec Ideal S8192x512 .bf16) : FVec Ideal S2x128x512 .f32 :=
  Host.dotGeneral dot_S2x128x8192_S8192x512_S2x128x512_2_0_01_1_n_n none
    (ctxT (projT x wv) (shareT (weightT (scoreT (turnT (projT x wq)) (turnT (projT x wk)))))) wo

theorem res_eq (m : (ℓ : Loc nD τ sig) → Buf (Elt Ideal) ℓ) (c : Dev nD) :
    res_main_v87 (F := Ideal) m c = outT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

set_option maxRecDepth 16384 in
theorem projT_apply (x : FVec Ideal S2x128x512 .bf16) (w : FVec Ideal S512x8192 .bf16) (b : Fin 2) (i : Fin 128) (h : Fin 128) (d : Fin 64) :
    projT x w (ix4 b i h d) = ∑ k : Fin 512, x (ix3 b i k) * w (ix2 k ⟨h * 64 + d, by omega⟩) := by
  pointwise [projT]

/-- Positions and pairs as the words they are counted by. -/
theorem place_word : ∀ i : Fin 128, (BitVec.ofNat 32 i).toInt = ((i : ℕ) : ℤ) := by decide +kernel
theorem pair_word : ∀ p : Fin 32, (IntOp.addi (0#32) (IntOp.muli (2#32) (BitVec.ofNat 32 p))).toInt = ((2 * (p : ℕ) : ℕ) : ℤ) := by decide +kernel

set_option maxRecDepth 16384 in
theorem angleT_apply (i : Fin 128) (p : Fin 32) : angleT (ix2 i p) = (((i : ℕ) : ℝ) : EReal) * Ideal.div 1 (Ideal.pow (Ideal.ofBits .f32 0x461C4000#32)
    (Ideal.div (((2 * (p : ℕ) : ℕ) : ℝ) : EReal) (Ideal.ofBits .f32 0x42800000#32))) := by
  pointwise [angleT, freqT]
  rw [show FloatOps.sitofp (F := Ideal) FTy.f32 (BitVec.ofNat 32 i) = (((i : ℕ) : ℝ) : EReal) from
      (congrArg (fun z : ℤ => ((z : ℝ) : EReal)) (place_word i)).trans (by simp only [Int.cast_natCast]),
    show FloatOps.sitofp (F := Ideal) FTy.f32 (IntOp.addi (0#32) (IntOp.muli (2#32) (BitVec.ofNat 32 p))) = (((2 * (p : ℕ) : ℕ) : ℝ) : EReal) from
      (congrArg (fun z : ℤ => ((z : ℝ) : EReal)) (pair_word p)).trans (by simp only [Int.cast_natCast])]

set_option maxRecDepth 16384 in
theorem spreadT_apply (z : FVec Ideal S128x32 .f32) (b : Fin 2) (i : Fin 128) (h : Fin 128) (d : Fin 64) : spreadT z (ix4 b i h d) = z (ix2 i ⟨d / 2, by omega⟩) := by
  pointwise [spreadT]

set_option maxRecDepth 16384 in
theorem swapT_apply (t : FVec Ideal S2x128x128x64 .bf16) (b : Fin 2) (i : Fin 128) (h : Fin 128) (d : Fin 64) :
    swapT t (ix4 b i h d) = if d.val % 2 = 0 then - t (ix4 b i h ⟨d / 2 * 2 + 1, by omega⟩) else t (ix4 b i h ⟨d / 2 * 2, by omega⟩) := by
  pointwise [swapT]
  by_cases h0 : d.val % 2 = 0
  · rw [if_pos h0, dif_pos (by omega)]
  · rw [if_neg h0, dif_neg (by omega)]

set_option maxRecDepth 16384 in
theorem scoreT_apply (q k : FVec Ideal S2x128x128x64 .f32) (b : Fin 2) (h : Fin 128) (i j : Fin 128) :
    scoreT q k (ix4 b h i j) = (∑ d : Fin 64, q (ix4 b i h d) * k (ix4 b j h d)) * Ideal.ofBits .f32 0x3E000000#32 := by
  pointwise [scoreT]

set_option maxRecDepth 16384 in
theorem weightT_apply (s : FVec Ideal S2x128x128x128 .f32) (b : Fin 2) (h : Fin 128) (i j : Fin 128) :
    weightT s (ix4 b h i j) = Ideal.exp (s (ix4 b h i j) - Finset.univ.fold max (Ideal.ofBits .f32 0xFF800000#32) fun l : Fin 128 => s (ix4 b h i l)) := by
  pointwise [weightT, alongT]

set_option maxRecDepth 16384 in
theorem shareT_apply (w : FVec Ideal S2x128x128x128 .f32) (b : Fin 2) (h : Fin 128) (i j : Fin 128) :
    shareT w (ix4 b h i j) = Ideal.div (w (ix4 b h i j)) (∑ l : Fin 128, w (ix4 b h i l)) := by
  pointwise [shareT, alongT]

set_option maxRecDepth 16384 in
theorem ctxT_apply (v : FVec Ideal S2x128x128x64 .bf16) (w : FVec Ideal S2x128x128x128 .f32) (b : Fin 2) (i : Fin 128) (n : Fin 8192) :
    ctxT v w (ix3 b i n) = ∑ j : Fin 128, v (ix4 b j ⟨n / 64, by omega⟩ ⟨n % 64, by omega⟩) * w (ix4 b ⟨n / 64, by omega⟩ i j) := by
  pointwise [ctxT]

set_option maxRecDepth 16384 in
theorem outT_apply (x : FVec Ideal S2x128x512 .bf16) (wq wk wv : FVec Ideal S512x8192 .bf16) (wo : FVec Ideal S8192x512 .bf16) (b : Fin 2) (i : Fin 128) (n : Fin 512) :
    outT x wq wk wv wo (ix3 b i n) = ∑ c : Fin 8192, ctxT (projT x wv) (shareT (weightT (scoreT (turnT (projT x wq)) (turnT (projT x wk))))) (ix3 b i c) * wo (ix2 c n) := by
  pointwise [outT]

end Cert.ReferenceIdeal.Terms

end
-- ==== Proof.Head.lean ====
/-
What one head computes from its rotated queries and keys and its values, over the extended reals.
-/
module

public import proofs.«01_k».proof.Proof.Gen.KernelIdeal.Skeleton
public import Idealize.ShloMosaic.Lib.Pointwise

@[expose] public section

noncomputable section

namespace Cert.KernelIdeal.Head

open Cert.KernelIdeal Cert.KernelIdeal.Gen
open Idealize.ShloMosaic

/-- The scaled product of query row `i` and key row `j`; -/
def score (q k : Fin 128 → Fin 64 → EReal) (i j : Fin 128) : EReal := (∑ d : Fin 64, q i d * k j d) * Ideal.ofBits .f32 0x3E000000#32
/-- the largest in a row; -/
def peak (q k : Fin 128 → Fin 64 → EReal) (i : Fin 128) : EReal := Finset.univ.fold max ⊥ fun j => score q k i j
/-- the exponential of what is above it; -/
def weight (q k : Fin 128 → Fin 64 → EReal) (i j : Fin 128) : EReal := Ideal.exp (score q k i j - peak q k i)
/-- and the values' average by those weights. -/
def mixed (q k v : Fin 128 → Fin 64 → EReal) (i : Fin 128) (d : Fin 64) : EReal :=
  ∑ j : Fin 128, Ideal.div (weight q k i j) (∑ l : Fin 128, weight q k i l) * v j d

/-- The exponentials a head's payload makes; -/
def expsV (q k : FVec Ideal S128x64 .f32) : FVec Ideal S128x128 .f32 :=
  have s : FVec Ideal S128x128 .f32 := mulf (matmul dot_S128x64_S128x64_S128x128_1_1_0_0_n_n none q k (constant S128x128 .f32 0x00000000#32)) (broadcast S128x128 (Scalar.ofBits .f32 0x3E000000#32))
  exp (subf s (broadcastTo S128x128 (shapeCast S128x1 (multiReduction .maximumf [1] S128 s 0xFF800000#32 reduces_S128x128_S128 (.inl rfl) rfl) shapeCasts_S128_S128x1) broadcasts_S128x1_S128x128))

/-- their row sums, spread along the rows; -/
def sumsV (e : FVec Ideal S128x128 .f32) : FVec Ideal S128x128 .f32 :=
  broadcastTo S128x128 (shapeCast S128x1 (multiReduction .add [1] S128 e 0x00000000#32 reduces_S128x128_S128 (.inl rfl) rfl) shapeCasts_S128_S128x1) broadcasts_S128x1_S128x128

/-- and the head's result. -/
def headV (q k v : FVec Ideal S128x64 .f32) : FVec Ideal S128x64 .f32 :=
  matmul dot_S128x128_S128x64_S128x64_1_0_0_1_n_n none (divf (expsV q k) (sumsV (expsV q k))) v (constant S128x64 .f32 0x00000000#32)

/-- The float pattern of minus infinity. -/
theorem ofBits_low : Ideal.ofBits .f32 0xFF800000#32 = (⊥ : EReal) := by
  simp [Ideal.ofBits, Ideal.ieee]

set_option maxRecDepth 16384 in
theorem expsV_apply (q k : FVec Ideal S128x64 .f32) (i j : Fin 128) :
    expsV q k (ix2 i j) = weight (fun a d => q (ix2 a d)) (fun a d => k (ix2 a d)) i j := by
  pointwise [expsV]
  simp only [ofBits_low]
  rfl

set_option maxRecDepth 16384 in
theorem headV_apply (q k v : FVec Ideal S128x64 .f32) (i : Fin 128) (d : Fin 64) :
    headV q k v (ix2 i d) = mixed (fun a d => q (ix2 a d)) (fun a d => k (ix2 a d)) (fun a d => v (ix2 a d)) i d := by
  pointwise [headV, sumsV]
  simp only [expsV_apply]
  rfl

end Cert.KernelIdeal.Head

end
-- ==== Proof.Context.lean ====
/-
A device's heads set side by side, and their product with its rows of the output matrix, over the extended reals.
-/
module

public import proofs.«01_k».proof.Proof.Head
public import proofs.«01_k».proof.Proof.Proto

@[expose] public section

noncomputable section

namespace Cert.KernelIdeal.Head

open Cert.KernelIdeal Cert.KernelIdeal.Gen Cert.KernelIdeal.Mesh
open Idealize.ShloMosaic

/-- Four heads side by side over one half of the rows. -/
def halfV (a b c d : FVec Ideal S128x64 .f32) : FVec Ideal S128x256 .f32 :=
  concatenate S128x256 1 [⟨S128x64, a⟩, ⟨S128x64, b⟩, ⟨S128x64, c⟩, ⟨S128x64, d⟩] concatenates_S128x64_S128x64_S128x64_S128x64_S128x256_d1

set_option maxRecDepth 16384 in
theorem halfV_apply (f : Fin 4 → Fin 128 → Fin 64 → EReal) (a b c d : FVec Ideal S128x64 .f32)
    (ha : ∀ i j, a (ix2 i j) = f 0 i j) (hb : ∀ i j, b (ix2 i j) = f 1 i j) (hc : ∀ i j, c (ix2 i j) = f 2 i j) (hd : ∀ i j, d (ix2 i j) = f 3 i j)
    (i : Fin 128) (n : Fin 256) : halfV a b c d (ix2 i n) = f ⟨n / 64, by omega⟩ i ⟨n % 64, by omega⟩ := by
  pointwise [halfV]
  simp only [ha, hb, hc, hd]
  split
  · rw [show (⟨n / 64, by omega⟩ : Fin 4) = 0 from Fin.ext (by simp; omega), show (⟨n % 64, by omega⟩ : Fin 64) = ⟨n, by omega⟩ from Fin.ext (by simp; omega)]
  split
  · rw [show (⟨n / 64, by omega⟩ : Fin 4) = 1 from Fin.ext (by simp; omega), show (⟨n % 64, by omega⟩ : Fin 64) = ⟨n - 64, by omega⟩ from Fin.ext (by simp; omega)]
  split
  · rw [show (⟨n / 64, by omega⟩ : Fin 4) = 2 from Fin.ext (by simp; omega), show (⟨n % 64, by omega⟩ : Fin 64) = ⟨n - 64 - 64, by omega⟩ from Fin.ext (by simp; omega)]
  · rw [show (⟨n / 64, by omega⟩ : Fin 4) = 3 from Fin.ext (by simp; omega), show (⟨n % 64, by omega⟩ : Fin 64) = ⟨n - 64 - 64 - 64, by omega⟩ from Fin.ext (by simp; omega)]

/-- One head out of the matrix of all of a device's. -/
def cut (z : FVec Ideal S256x256 .f32) (b : Fin 2) (h : Fin 4) (i : Fin 128) (d : Fin 64) : EReal :=
  z (ix2 ⟨128 * b + i, by omega⟩ ⟨64 * h + d, by omega⟩)

/-- All of a device's heads over all the rows. -/
def ctxV (q k v : FVec Ideal S256x256 .f32) : FVec Ideal S256x256 .f32 :=
  concatenate S256x256 0 [⟨S128x256, halfV
      (headV (extractStridedSlice S128x64 ![0, 0] q slices_S256x256_o0_0_S128x64) (extractStridedSlice S128x64 ![0, 0] k slices_S256x256_o0_0_S128x64) (extractStridedSlice S128x64 ![0, 0] v slices_S256x256_o0_0_S128x64))
      (headV (extractStridedSlice S128x64 ![0, 64] q slices_S256x256_o0_64_S128x64) (extractStridedSlice S128x64 ![0, 64] k slices_S256x256_o0_64_S128x64) (extractStridedSlice S128x64 ![0, 64] v slices_S256x256_o0_64_S128x64))
      (headV (extractStridedSlice S128x64 ![0, 128] q slices_S256x256_o0_128_S128x64) (extractStridedSlice S128x64 ![0, 128] k slices_S256x256_o0_128_S128x64) (extractStridedSlice S128x64 ![0, 128] v slices_S256x256_o0_128_S128x64))
      (headV (extractStridedSlice S128x64 ![0, 192] q slices_S256x256_o0_192_S128x64) (extractStridedSlice S128x64 ![0, 192] k slices_S256x256_o0_192_S128x64) (extractStridedSlice S128x64 ![0, 192] v slices_S256x256_o0_192_S128x64))⟩,
    ⟨S128x256, halfV
      (headV (extractStridedSlice S128x64 ![128, 0] q slices_S256x256_o128_0_S128x64) (extractStridedSlice S128x64 ![128, 0] k slices_S256x256_o128_0_S128x64) (extractStridedSlice S128x64 ![128, 0] v slices_S256x256_o128_0_S128x64))
      (headV (extractStridedSlice S128x64 ![128, 64] q slices_S256x256_o128_64_S128x64) (extractStridedSlice S128x64 ![128, 64] k slices_S256x256_o128_64_S128x64) (extractStridedSlice S128x64 ![128, 64] v slices_S256x256_o128_64_S128x64))
      (headV (extractStridedSlice S128x64 ![128, 128] q slices_S256x256_o128_128_S128x64) (extractStridedSlice S128x64 ![128, 128] k slices_S256x256_o128_128_S128x64) (extractStridedSlice S128x64 ![128, 128] v slices_S256x256_o128_128_S128x64))
      (headV (extractStridedSlice S128x64 ![128, 192] q slices_S256x256_o128_192_S128x64) (extractStridedSlice S128x64 ![128, 192] k slices_S256x256_o128_192_S128x64) (extractStridedSlice S128x64 ![128, 192] v slices_S256x256_o128_192_S128x64))⟩]
    concatenates_S128x256_S128x256_S256x256_d0

/-- A slice of the matrix at a head's corner is that head. -/
theorem slice_cut (z : FVec Ideal S256x256 .f32) (b : Fin 2) (h : Fin 4) (off : Fin 2 → ℕ) (hs : S256x256.Slices off S128x64)
    (h0 : off 0 = 128 * b) (h1 : off 1 = 64 * h) : (fun a d => extractStridedSlice S128x64 off z hs (ix2 a d)) = cut z b h := by
  funext a d
  unfold cut extractStridedSlice
  refine congrArg z (funext fun x => Fin.ext ?_)
  fin_cases x
  · simp [ix2, h0]
  · simp [ix2, h1]

/-- Head `h` of half `b`. -/
theorem head_cut (q k v : FVec Ideal S256x256 .f32) (b : Fin 2) (h : Fin 4) (off : Fin 2 → ℕ) (hs : S256x256.Slices off S128x64)
    (h0 : off 0 = 128 * b) (h1 : off 1 = 64 * h) (i : Fin 128) (d : Fin 64) :
    headV (extractStridedSlice S128x64 off q hs) (extractStridedSlice S128x64 off k hs) (extractStridedSlice S128x64 off v hs) (ix2 i d)
      = mixed (cut q b h) (cut k b h) (cut v b h) i d := by
  rw [headV_apply, slice_cut q b h off hs h0 h1, slice_cut k b h off hs h0 h1, slice_cut v b h off hs h0 h1]

set_option maxRecDepth 16384 in
theorem ctxV_apply (q k v : FVec Ideal S256x256 .f32) (r n : Fin 256) :
    ctxV q k v (ix2 r n) = mixed (cut q ⟨r / 128, by omega⟩ ⟨n / 64, by omega⟩) (cut k ⟨r / 128, by omega⟩ ⟨n / 64, by omega⟩) (cut v ⟨r / 128, by omega⟩ ⟨n / 64, by omega⟩)
      ⟨r % 128, by omega⟩ ⟨n % 64, by omega⟩ := by
  pointwise [ctxV]
  split
  · rw [halfV_apply (fun h => mixed (cut q 0 h) (cut k 0 h) (cut v 0 h)) _ _ _ _ (head_cut q k v 0 0 _ _ rfl rfl) (head_cut q k v 0 1 _ _ rfl rfl)
      (head_cut q k v 0 2 _ _ rfl rfl) (head_cut q k v 0 3 _ _ rfl rfl),
      show (⟨r / 128, by omega⟩ : Fin 2) = 0 from Fin.ext (by simp; omega), show (⟨r % 128, by omega⟩ : Fin 128) = ⟨r, by omega⟩ from Fin.ext (by simp; omega)]
  · rw [halfV_apply (fun h => mixed (cut q 1 h) (cut k 1 h) (cut v 1 h)) _ _ _ _ (head_cut q k v 1 0 _ _ rfl rfl) (head_cut q k v 1 1 _ _ rfl rfl)
      (head_cut q k v 1 2 _ _ rfl rfl) (head_cut q k v 1 3 _ _ rfl rfl),
      show (⟨r / 128, by omega⟩ : Fin 2) = 1 from Fin.ext (by simp; omega), show (⟨r % 128, by omega⟩ : Fin 128) = ⟨r - 128, by omega⟩ from Fin.ext (by simp; omega)]

/-- The angles' cosines, -/
def cosV : FVec Ideal S256x256 .f32 :=
  have v113 : IVec S256x256 32 := iota .tc S256x256 32 [1] iota_S256x256_d1_w32
  k0_pay13 (k0_pay8 (F := Ideal) (Scalar.select (Scalar.cmpi .eq 128#32 0#32) 1#32 128#32) k0_pay5 k0_pay6 k0_pay7) (k0_pay10 v113) (k0_pay11 v113)
/-- and their sines. -/
def sinV : FVec Ideal S256x256 .f32 :=
  have v113 : IVec S256x256 32 := iota .tc S256x256 32 [1] iota_S256x256_d1_w32
  k0_pay14 (k0_pay8 (F := Ideal) (Scalar.select (Scalar.cmpi .eq 128#32 0#32) 1#32 128#32) k0_pay5 k0_pay6 k0_pay7) (k0_pay10 v113) (k0_pay11 v113)
/-- A product of the input with a weight matrix, turned by the angles. -/
def turnV (z : FVec Ideal S256x256 .f32) : FVec Ideal S256x256 .f32 :=
  have v181 : IVec S256x256 32 := iota .tc S256x256 32 [0] iota_S256x256_d0_w32
  k0_pay18 z cosV sinV v181 (k0_pay15 (F := Ideal)) k0_pay16 2#32 (Scalar.cmpi .eq 2#32 0#32)

/-- The device's product, through the heads. -/
theorem accOf_eq (x : Vec Ideal S2x128x512 .bf16) (wq wk wv : Vec Ideal S512x256 .bf16) (wo : Vec Ideal S256x512 .bf16) :
    accOf (F := Ideal) x wq wk wv wo = shapeCast S256x512 (matmul (F := Ideal) (φ₂ := .bf16) dot_S256x256_S256x512_S256x512_1_0_0_1_n_n none
      (truncf .bf16 (ctxV (turnV (k0_pay2 x wq)) (turnV (k0_pay3 x wk)) (k0_pay4 x wv)) bitsLt_bf16_f32)
      (shapeCast S256x512 (α := Ideal .bf16) wo shapeCasts_S256x512_S256x512) (constant S256x512 .f32 0x00000000#32)) shapeCasts_S256x512_S256x512 := rfl

set_option maxRecDepth 16384 in
theorem accOf_apply (x : Vec Ideal S2x128x512 .bf16) (wq wk wv : Vec Ideal S512x256 .bf16) (wo : Vec Ideal S256x512 .bf16) (r : Fin 256) (n : Fin 512) :
    accOf (F := Ideal) x wq wk wv wo (ix2 r n) = ∑ c : Fin 256,
      mixed (cut (turnV (k0_pay2 x wq)) ⟨r / 128, by omega⟩ ⟨c / 64, by omega⟩) (cut (turnV (k0_pay3 x wk)) ⟨r / 128, by omega⟩ ⟨c / 64, by omega⟩)
        (cut (k0_pay4 x wv) ⟨r / 128, by omega⟩ ⟨c / 64, by omega⟩) ⟨r % 128, by omega⟩ ⟨c % 64, by omega⟩ * wo (ix2 c n) := by
  rw [accOf_eq]
  pointwise
  simp only [ctxV_apply]

end Cert.KernelIdeal.Head

end
-- ==== Proof.Turn.lean ====
/-
The angles of the rotation, and a product turned by them, over the extended reals.
-/
module

public import proofs.«01_k».proof.Proof.Context

@[expose] public section

noncomputable section

namespace Cert.KernelIdeal.Head

open Cert.KernelIdeal Cert.KernelIdeal.Gen Cert.KernelIdeal.Mesh
open Idealize.ShloMosaic

/-- The angle of position `i` in pair `p`. -/
def angle (i p : ℕ) : EReal :=
  ((i : ℝ) : EReal) * Ideal.exp ((((p : ℝ) : EReal) * Ideal.ofBits .f32 0xBD000000#32) * Ideal.log (Ideal.ofBits .f32 0x461C4000#32))

/-- A remainder that takes the divisor's sign, as words. -/
def wmod (x d : BitVec 32) : BitVec 32 :=
  Scalar.select (IntOp.andi (IntOp.xori (IntOp.cmpi .slt (IntOp.remsi .vector x d) 0#32) (Scalar.cmpi .slt d 0#32)) (IntOp.cmpi .ne (IntOp.remsi .vector x d) 0#32))
    (IntOp.addi (IntOp.remsi .vector x d) d) (IntOp.remsi .vector x d)

theorem wmod_place : ∀ r : Fin 256, (wmod (BitVec.ofNat 32 r) (Scalar.select (Scalar.cmpi .eq 128#32 0#32) 1#32 128#32)).toInt = ((r % 128 : ℕ) : ℤ) := by
  decide +kernel

set_option maxRecDepth 16384 in
theorem place_apply (r c : Fin 256) : k0_pay8 (F := Ideal) (Scalar.select (Scalar.cmpi .eq 128#32 0#32) 1#32 128#32) k0_pay5 k0_pay6 k0_pay7 (ix2 r c)
    = (((r % 128 : ℕ) : ℝ) : EReal) := by
  pointwise [k0_pay8, k0_pay5, k0_pay6, k0_pay7]
  exact (congrArg (fun z : ℤ => ((z : ℝ) : EReal)) (wmod_place r)).trans (by simp only [Int.cast_natCast])

/-- A column's pair within its head, as words. -/
def pairV : IVec S256x256 32 :=
  have v113 : IVec S256x256 32 := iota .tc S256x256 32 [1] iota_S256x256_d1_w32
  select (k0_pay11 v113) (subi (k0_pay10 v113) (broadcast S256x256 1#32)) (k0_pay10 v113)

set_option maxRecDepth 16384 in
theorem pairV_apply (r c : Fin 256) : (pairV (ix2 r c)).toInt = ((c % 64 / 2 : ℕ) : ℤ) := by
  pointwise [pairV, k0_pay10, k0_pay11, k0_pay9]
  clear r
  revert c
  decide +kernel

/-- The angles. -/
def angleV : FVec Ideal S256x256 .f32 :=
  mulf (k0_pay8 (F := Ideal) (Scalar.select (Scalar.cmpi .eq 128#32 0#32) 1#32 128#32) k0_pay5 k0_pay6 k0_pay7)
    (exp (mulf (mulf (sitofp .f32 pairV) (broadcast S256x256 (Scalar.ofBits .f32 0xBD000000#32))) (broadcast S256x256 (Scalar.log (F := Ideal) (φ := .f32) (Scalar.ofBits .f32 0x461C4000#32)))))

theorem cosV_eq : cosV = cos angleV := rfl
theorem sinV_eq : sinV = sin angleV := rfl

set_option maxRecDepth 16384 in
theorem angleV_apply (r c : Fin 256) : angleV (ix2 r c) = angle (r % 128) (c % 64 / 2) := by
  pointwise [angleV]
  rw [place_apply, show FloatOps.sitofp (F := Ideal) FTy.f32 (pairV (ix2 r c)) = (((c % 64 / 2 : ℕ) : ℝ) : EReal) from
    (congrArg (fun z : ℤ => ((z : ℝ) : EReal)) (pairV_apply r c)).trans (by simp only [Int.cast_natCast])]
  rfl

theorem cosV_apply (r c : Fin 256) : cosV (ix2 r c) = Ideal.cos (angle (r % 128) (c % 64 / 2)) := by
  rw [cosV_eq]; exact congrArg Ideal.cos (angleV_apply r c)
theorem sinV_apply (r c : Fin 256) : sinV (ix2 r c) = Ideal.sin (angle (r % 128) (c % 64 / 2)) := by
  rw [sinV_eq]; exact congrArg Ideal.sin (angleV_apply r c)

/-- The marks of the even rows of the turning matrix, of its odd rows, -/
theorem even_mark : ∀ x : Fin 256, IntOp.cmpi .eq (wmod (BitVec.ofNat 32 x) (Scalar.select (Scalar.cmpi .eq 2#32 0#32) 1#32 2#32)) 0#32 = BitVec.ofBool (decide (x.val % 2 = 0)) := by
  decide +kernel
theorem odd_mark : ∀ x : Fin 256, IntOp.cmpi .eq (wmod (BitVec.ofNat 32 x) (Scalar.select (Scalar.cmpi .eq 2#32 0#32) 1#32 2#32)) 1#32 = BitVec.ofBool (decide (x.val % 2 = 1)) := by
  decide +kernel
/-- of the column after a row and of the column before it. -/
theorem next_mark (x c : Fin 256) : IntOp.cmpi .eq (BitVec.ofNat 32 c) (IntOp.addi (BitVec.ofNat 32 x) 1#32) = BitVec.ofBool (decide (c.val = x.val + 1)) := by
  refine congrArg BitVec.ofBool ?_
  show (BitVec.ofNat 32 c == BitVec.ofNat 32 x + 1#32) = _
  rw [beq_eq_decide]
  refine decide_eq_decide.mpr ?_
  rw [← BitVec.toNat_inj]
  simp only [BitVec.toNat_add, BitVec.toNat_ofNat]
  omega
theorem last_mark (x c : Fin 256) : IntOp.cmpi .eq (BitVec.ofNat 32 c) (IntOp.subi (BitVec.ofNat 32 x) 1#32) = BitVec.ofBool (decide (c.val + 1 = x.val)) := by
  refine congrArg BitVec.ofBool ?_
  show (BitVec.ofNat 32 c == BitVec.ofNat 32 x - 1#32) = _
  rw [beq_eq_decide]
  refine decide_eq_decide.mpr ?_
  rw [← BitVec.toNat_inj]
  simp only [BitVec.toNat_sub, BitVec.toNat_ofNat]
  omega

theorem and_marks (p q : Bool) : IntOp.andi (BitVec.ofBool p) (BitVec.ofBool q) = BitVec.ofBool (p && q) := by
  cases p <;> cases q <;> decide

/-- The turning matrix. -/
def turnM : FVec Ideal S256x256 .f32 :=
  k0_pay17 (iota .tc S256x256 32 [0] iota_S256x256_d0_w32) (k0_pay15 (F := Ideal)) k0_pay16 2#32 (Scalar.cmpi .eq 2#32 0#32)

theorem ofBits_minus : Ideal.ofBits .f32 0xBF800000#32 = (-1 : EReal) := by
  rw [show (-1 : EReal) = ((-1 : ℝ) : EReal) by rw [EReal.coe_neg, EReal.coe_one]]
  simp [Ideal.ofBits, Ideal.ieee, -EReal.coe_mul]; norm_num

set_option maxRecDepth 16384 in
theorem turnM_apply (x c : Fin 256) : turnM (ix2 x c) = (if c.val = x.val + 1 ∧ x.val % 2 = 0 then 1 else 0) + (if c.val + 1 = x.val ∧ x.val % 2 = 1 then -1 else 0) := by
  pointwise [turnM, k0_pay17, k0_pay16, k0_pay15]
  have h1 := even_mark x
  have h2 := odd_mark x
  unfold wmod at h1 h2
  rw [h1, h2, next_mark, last_mark, and_marks, and_marks, ofBits_minus, ← Bool.decide_and, ← Bool.decide_and]
  have hs : ∀ (p : Prop) [Decidable p] (a b : EReal), Scalar.select (BitVec.ofBool (decide p)) a b = if p then a else b := by
    intro p _ a b; by_cases h : p <;> simp [h, Scalar.select]
  exact congrArg₂ (· + ·) (hs _ _ _) (hs _ _ _)

set_option maxRecDepth 16384 in
theorem turnV_apply (z : FVec Ideal S256x256 .f32) (r c : Fin 256) : turnV z (ix2 r c) =
    z (ix2 r c) * Ideal.cos (angle (r % 128) (c % 64 / 2)) + (∑ x : Fin 256, z (ix2 r x) * turnM (ix2 x c)) * Ideal.sin (angle (r % 128) (c % 64 / 2)) := by
  rw [← cosV_apply, ← sinV_apply]
  have h : turnV z = addf (mulf z cosV) (mulf (matmul dot_S256x256_S256x256_S256x256_1_0_0_1_n_n none z turnM (constant S256x256 .f32 0x00000000#32)) sinV) := rfl
  rw [h]
  pointwise

/-- A column's partner: the other of its pair. -/
def mate (c : Fin 256) : Fin 256 := if c.val % 2 = 0 then ⟨(c.val + 1) % 256, by omega⟩ else ⟨c.val - 1, by omega⟩

theorem turn_sum (f : Fin 256 → EReal) (c : Fin 256) : ∑ x : Fin 256, f x * turnM (ix2 x c) = if c.val % 2 = 0 then - f (mate c) else f (mate c) := by
  rw [Finset.sum_eq_single (mate c)]
  · rw [turnM_apply]; unfold mate
    split
    · rw [if_neg (by simp; omega), if_pos (by simp; omega)]; simp
    · rw [if_pos (by simp; omega), if_neg (by simp; omega)]; simp
  · intro x _ hx
    have : turnM (ix2 x c) = 0 := by
      rw [turnM_apply, if_neg, if_neg, add_zero]
      · rintro ⟨h, h'⟩; refine hx (Fin.ext ?_); unfold mate; rw [if_pos (by omega)]; simp; omega
      · rintro ⟨h, h'⟩; refine hx (Fin.ext ?_); unfold mate; rw [if_neg (by omega)]; simp; omega
    rw [this, mul_zero]
  · simp

end Cert.KernelIdeal.Head

end
-- ==== Proof.Rotary.lean ====
/-
The two ways of writing the rotation's angles agree, and with them the two ways of turning a head.
-/
module

public import proofs.«01_k».proof.Proof.RefTerms
public import proofs.«01_k».proof.Proof.Turn

@[expose] public section

noncomputable section

namespace Cert.Join

open Cert.KernelIdeal.Head Cert.ReferenceIdeal.Terms
open Idealize.ShloMosaic

theorem ofBits_base : Ideal.ofBits .f32 0x461C4000#32 = ((10000 : ℝ) : EReal) := by
  simp [Ideal.ofBits, Ideal.ieee, -EReal.coe_mul]; norm_num
theorem ofBits_width : Ideal.ofBits .f32 0x42800000#32 = ((64 : ℝ) : EReal) := by
  simp [Ideal.ofBits, Ideal.ieee, -EReal.coe_mul]; norm_num
theorem ofBits_step : Ideal.ofBits .f32 0xBD000000#32 = ((-(1 / 32) : ℝ) : EReal) := by
  simp [Ideal.ofBits, Ideal.ieee, -EReal.coe_mul]; norm_num

/-- A quotient of reals, the divisor not zero. -/
theorem div_real (x y : ℝ) (hy : y ≠ 0) : Ideal.div (x : EReal) (y : EReal) = ((x * y⁻¹ : ℝ) : EReal) := by
  unfold Ideal.div
  rw [if_neg (by simpa using hy), ← EReal.coe_inv, ← EReal.coe_mul]

/-- One over a power of the base is the exponential of minus its exponent times the base's logarithm. -/
theorem angle_eq (i p : ℕ) : (((i : ℕ) : ℝ) : EReal) * Ideal.div 1 (Ideal.pow (Ideal.ofBits .f32 0x461C4000#32)
    (Ideal.div (((2 * p : ℕ) : ℝ) : EReal) (Ideal.ofBits .f32 0x42800000#32))) = angle i p := by
  unfold angle
  rw [ofBits_base, ofBits_width, ofBits_step, div_real _ _ (by norm_num)]
  have hlog : Ideal.log ((10000 : ℝ) : EReal) = ((Real.log 10000 : ℝ) : EReal) := by
    show (if (10000 : ℝ) ≤ 0 then (⊥ : EReal) else (Real.log 10000 : EReal)) = _
    rw [if_neg (by norm_num)]
  have hpow : Ideal.pow ((10000 : ℝ) : EReal) (((2 * p : ℕ) : ℝ) * (64 : ℝ)⁻¹ : ℝ) = (((10000 : ℝ) ^ (((2 * p : ℕ) : ℝ) * (64 : ℝ)⁻¹) : ℝ) : EReal) := rfl
  rw [hlog, hpow, show (1 : EReal) = ((1 : ℝ) : EReal) from EReal.coe_one.symm, div_real _ _ (by positivity), ← EReal.coe_mul, ← EReal.coe_mul]
  show _ = _ * ((Real.exp _ : ℝ) : EReal)
  congr 2
  rw [one_mul, Real.rpow_def_of_pos (by norm_num), ← Real.exp_neg]
  congr 1
  push_cast
  ring

/-- A head's row turned by its position's angles. -/
def turned (z : Fin 64 → EReal) (i : Fin 128) (d : Fin 64) : EReal :=
  z d * Ideal.cos (angle i (d / 2)) + (if d.val % 2 = 0 then - z ⟨d / 2 * 2 + 1, by omega⟩ else z ⟨d / 2 * 2, by omega⟩) * Ideal.sin (angle i (d / 2))

theorem angleT_eq (i : Fin 128) (p : Fin 32) : angleT (ix2 i p) = angle i p := (angleT_apply i p).trans (angle_eq i p)

open Cert.ReferenceIdeal in
set_option maxRecDepth 16384 in
theorem turnT_apply (t : FVec Ideal S2x128x128x64 .bf16) (b : Fin 2) (i : Fin 128) (h : Fin 128) (d : Fin 64) :
    turnT t (ix4 b i h d) = turned (fun e => t (ix4 b i h e)) i d := by
  pointwise [turnT]
  rw [spreadT_apply, spreadT_apply, swapT_apply]
  pointwise
  rw [angleT_eq]
  rfl

open Cert.KernelIdeal in
theorem cut_turnV (z : FVec Ideal S256x256 .f32) (b : Fin 2) (h : Fin 4) (i : Fin 128) (d : Fin 64) :
    cut (turnV z) b h i d = turned (fun e => cut z b h i e) i d := by
  unfold turned
  have e1 : (128 * b.val + i.val) % 128 = i.val := by omega
  have e2 : (64 * h.val + d.val) % 64 / 2 = d.val / 2 := by omega
  show turnV z (ix2 _ _) = _
  rw [turnV_apply, turn_sum]
  dsimp only
  rw [e1, e2]
  refine congrArg₂ (· + ·) rfl (congrArg (· * _) ?_)
  by_cases h0 : d.val % 2 = 0
  · rw [if_pos (by omega), if_pos h0]
    refine congrArg (fun y => - z (ix2 _ y)) (Fin.ext ?_)
    unfold mate; rw [if_pos (by show (64 * h.val + d.val) % 2 = 0; omega)]; dsimp only; omega
  · rw [if_neg (by omega), if_neg h0]
    refine congrArg (fun y => z (ix2 _ y)) (Fin.ext ?_)
    unfold mate; rw [if_neg (by show ¬ (64 * h.val + d.val) % 2 = 0; omega)]; dsimp only; omega

end Cert.Join

end
-- ==== Proof.Equation.lean ====
/-
What the devices leave is what the reference computes: the devices' products, added up, are the product over all the heads.
-/
module

public import proofs.«01_k».proof.Proof.Rotary

@[expose] public section

noncomputable section

namespace Cert.Join

open Cert.KernelIdeal.Head Cert.ReferenceIdeal.Terms
open Idealize.ShloMosaic Idealize.ShloMosaic.TcCoe

section Device
open Cert.KernelIdeal Cert.KernelIdeal.Gen Cert.KernelIdeal.Mesh

/-- The devices' products, all added up, at a row and a column. -/
def total (acc : Fin 32 → FVec Ideal S256x512 .f32) (r : Fin 256) (n : Fin 512) : EReal := ∑ s : Fin 32, acc s (ix2 r n)

/-- A device's own product and the others' are the sum of all. -/
theorem sum_apart (f : Fin 32 → EReal) (c : Fin 32) : f c + ∑ s : Fin 32, (if s = c then 0 else f s) = ∑ s : Fin 32, f s := by
  have h : ∀ s : Fin 32, f s = (if s = c then f s else 0) + (if s = c then 0 else f s) := by
    intro s; by_cases hs : s = c <;> simp [hs]
  conv_rhs => rw [Finset.sum_congr rfl fun s _ => h s, Finset.sum_add_distrib, Finset.sum_ite_eq' Finset.univ c f, if_pos (Finset.mem_univ c)]

variable (m : (ℓ : Loc nD τ sig) → Buf (Elt Ideal) ℓ)

set_option maxRecDepth 16384 in
theorem rvV_apply (c s : Fin 32) (y : Fin 8) (n : Fin 512) :
    rvV (F := Ideal) m c (ix3 s y n) = if s = c then 0 else accV (F := Ideal) m s (ix2 ⟨8 * c + y, by omega⟩ n) := by
  have hz : ∀ i, k0_pay34 (k0_pay33 (F := Ideal)) i = (0 : EReal) := by
    intro i; idx_vars i; pointwise [k0_pay34, k0_pay33]
  have hs : ∀ i, sdV (F := Ideal) m s i = accV (F := Ideal) m s i := by
    intro i; idx_vars i; unfold sdV; pointwise [k0_pay32]
  unfold rvV
  rw [hz, show slotOf (ix3 s y n) = s from rfl]
  by_cases h : s = c
  · rw [if_pos h, if_pos h]
  · rw [if_neg h, if_neg h]
    refine (hs _).trans (congrArg (accV (F := Ideal) m s) (funext fun a => ?_))
    fin_cases a <;> rfl

set_option maxRecDepth 16384 in
theorem redV_apply (c : Fin 32) (y : Fin 8) (n : Fin 512) :
    redV (F := Ideal) m c (ix2 y n) = total (accV (F := Ideal) m) ⟨8 * c + y, by omega⟩ n := by
  unfold redV
  pointwise [k0_pay35]
  simp only [rvV_apply]
  have e : accV (F := Ideal) m c (atRows c (ix2 y n)) = accV (F := Ideal) m c (ix2 ⟨8 * c + y, by omega⟩ n) :=
    congrArg (accV (F := Ideal) m c) (funext fun a => by fin_cases a <;> rfl)
  rw [e]
  exact sum_apart (fun s => accV (F := Ideal) m s (ix2 ⟨8 * c + y, by omega⟩ n)) c

set_option maxRecDepth 16384 in
theorem outV_apply (b : Fin 2) (i : Fin 128) (n : Fin 512) :
    outV (F := Ideal) m (ix3 b i n) = total (accV (F := Ideal) m) ⟨128 * b + i, by omega⟩ n := by
  unfold outV
  pointwise [k0_pay37]
  refine (redV_apply m _ _ _).trans (congrArg (total (accV (F := Ideal) m) · n) (Fin.ext ?_))
  simp [ix3, slotOf, inSlot]
  omega

set_option maxRecDepth 16384 in
theorem proj_q (x : Vec Ideal S2x128x512 .bf16) (w : Vec Ideal S512x256 .bf16) (b : Fin 2) (h : Fin 4) (i : Fin 128) (d : Fin 64) :
    cut (k0_pay2 x w) b h i d = ∑ k : Fin 512, x (ix3 b i k) * w (ix2 k ⟨64 * h + d, by omega⟩) := by
  unfold cut
  pointwise [k0_pay2, k0_pay1]

theorem proj_k (x : Vec Ideal S2x128x512 .bf16) (w : Vec Ideal S512x256 .bf16) (b : Fin 2) (h : Fin 4) (i : Fin 128) (d : Fin 64) :
    cut (k0_pay3 x w) b h i d = ∑ k : Fin 512, x (ix3 b i k) * w (ix2 k ⟨64 * h + d, by omega⟩) := proj_q x w b h i d
theorem proj_v (x : Vec Ideal S2x128x512 .bf16) (w : Vec Ideal S512x256 .bf16) (b : Fin 2) (h : Fin 4) (i : Fin 128) (d : Fin 64) :
    cut (k0_pay4 x w) b h i d = ∑ k : Fin 512, x (ix3 b i k) * w (ix2 k ⟨64 * h + d, by omega⟩) := proj_q x w b h i d

/-- Device `c`'s columns of an input weight matrix, and its rows of the output one. -/
theorem colBlock_apply (c : Fin 32) (W : FVec Ideal ⟨2, ![512, 8192]⟩ .bf16) (k : Fin 512) (n : Fin 256) :
    Layout.block ⟨2, ![512, 256]⟩ ⟨2, ![512, 8192]⟩ 1 32 c W (by decide) (ix2 k n) = W (ix2 k ⟨256 * c + n, by omega⟩) := by
  refine congrArg W (funext fun a => Fin.ext ?_)
  fin_cases a
  · rfl
  · show c.val * 256 + n.val = 256 * c.val + n.val; omega
theorem rowBlock_apply (c : Fin 32) (W : FVec Ideal ⟨2, ![8192, 512]⟩ .bf16) (k : Fin 256) (n : Fin 512) :
    Layout.block ⟨2, ![256, 512]⟩ ⟨2, ![8192, 512]⟩ 0 32 c W (by decide) (ix2 k n) = W (ix2 ⟨256 * c + k, by omega⟩ n) := by
  refine congrArg W (funext fun a => Fin.ext ?_)
  fin_cases a
  · show c.val * 256 + k.val = 256 * c.val + k.val; omega
  · rfl

end Device

section Whole
open Cert.ReferenceIdeal

/-- One element of the heads' results, from the whole arrays: column `n` of row `(b, i)`. -/
def ctx (x : FVec Ideal S2x128x512 .bf16) (wq wk wv : FVec Ideal S512x8192 .bf16) (b : Fin 2) (i : Fin 128) (n : Fin 8192) : EReal :=
  mixed (fun a e => turned (fun e' => projT x wq (ix4 b a ⟨n / 64, by omega⟩ e')) a e) (fun a e => turned (fun e' => projT x wk (ix4 b a ⟨n / 64, by omega⟩ e')) a e)
    (fun a e => projT x wv (ix4 b a ⟨n / 64, by omega⟩ e)) i ⟨n % 64, by omega⟩

theorem out_ctx (x : FVec Ideal S2x128x512 .bf16) (wq wk wv : FVec Ideal S512x8192 .bf16) (wo : FVec Ideal S8192x512 .bf16) (b : Fin 2) (i : Fin 128) (n : Fin 512) :
    outT x wq wk wv wo (ix3 b i n) = ∑ c : Fin 8192, ctx x wq wk wv b i c * wo (ix2 c n) := by
  rw [outT_apply]
  refine Finset.sum_congr rfl fun c _ => congrArg (· * _) ?_
  rw [ctxT_apply]
  unfold ctx mixed
  refine Finset.sum_congr rfl fun j _ => ?_
  rw [mul_comm, shareT_apply]
  refine congrArg (· * _) ?_
  have hw : ∀ l : Fin 128, weightT (scoreT (turnT (projT x wq)) (turnT (projT x wk))) (ix4 b ⟨c / 64, by omega⟩ i l)
      = weight (fun a e => turned (fun e' => projT x wq (ix4 b a ⟨c / 64, by omega⟩ e')) a e) (fun a e => turned (fun e' => projT x wk (ix4 b a ⟨c / 64, by omega⟩ e')) a e) i l := by
    intro l
    rw [weightT_apply, ofBits_low]
    simp only [scoreT_apply, turnT_apply]
    rfl
  simp only [hw]

end Whole

section Meet
open Cert.KernelIdeal Cert.KernelIdeal.Gen Cert.KernelIdeal.Mesh

/-- A sum over all the columns is one over the devices of the sums over their own. -/
theorem sum_blocks (f : Fin 8192 → EReal) : ∑ n : Fin 8192, f n = ∑ s : Fin 32, ∑ k : Fin 256, f ⟨256 * s + k, by omega⟩ := by
  rw [← Fintype.sum_prod_type' fun (s : Fin 32) (k : Fin 256) => f ⟨256 * s + k, by omega⟩]
  exact (Fintype.sum_equiv (finProdFinEquiv (m := 32) (n := 256)) _ f fun p => congrArg f (Fin.ext (Nat.add_comm _ _))).symm

theorem acc_ctx (s : Fin 32) (x : FVec Ideal S2x128x512 .bf16) (Wq Wk Wv : FVec Ideal ⟨2, ![512, 8192]⟩ .bf16) (Wo : FVec Ideal ⟨2, ![8192, 512]⟩ .bf16)
    (b : Fin 2) (i : Fin 128) (n : Fin 512) :
    accOf (F := Ideal) x (Layout.block ⟨2, ![512, 256]⟩ ⟨2, ![512, 8192]⟩ 1 32 s Wq (by decide)) (Layout.block ⟨2, ![512, 256]⟩ ⟨2, ![512, 8192]⟩ 1 32 s Wk (by decide))
      (Layout.block ⟨2, ![512, 256]⟩ ⟨2, ![512, 8192]⟩ 1 32 s Wv (by decide)) (Layout.block ⟨2, ![256, 512]⟩ ⟨2, ![8192, 512]⟩ 0 32 s Wo (by decide)) (ix2 ⟨128 * b + i, by omega⟩ n)
      = ∑ k : Fin 256, ctx x Wq Wk Wv b i ⟨256 * s + k, by omega⟩ * Wo (ix2 ⟨256 * s + k, by omega⟩ n) := by
  rw [accOf_apply]
  refine Finset.sum_congr rfl fun k _ => ?_
  rw [rowBlock_apply]
  refine congrArg (· * _) ?_
  unfold ctx
  have hp : ∀ (W : FVec Ideal ⟨2, ![512, 8192]⟩ .bf16) (a : Fin 128) (e : Fin 64),
      (∑ l : Fin 512, x (ix3 b a l) * Layout.block ⟨2, ![512, 256]⟩ ⟨2, ![512, 8192]⟩ 1 32 s W (by decide) (ix2 l ⟨64 * (k / 64) + e, by omega⟩))
        = projT x W (ix4 b a ⟨(256 * s + k) / 64, by omega⟩ e) := by
    intro W a e
    rw [projT_apply]
    refine Finset.sum_congr rfl fun l _ => ?_
    rw [colBlock_apply]
    refine congrArg (fun y => _ * W (ix2 l y)) (Fin.ext ?_)
    dsimp only
    omega
  have hb : (⟨(128 * b.val + i.val) / 128, by omega⟩ : Fin 2) = b := Fin.ext (by dsimp only; omega)
  have hi : (⟨(128 * b.val + i.val) % 128, by omega⟩ : Fin 128) = i := Fin.ext (by dsimp only; omega)
  have hd : (⟨(256 * s.val + k.val) % 64, by omega⟩ : Fin 64) = ⟨k.val % 64, by omega⟩ := Fin.ext (by dsimp only; omega)
  dsimp only
  rw [hb, hi, hd]
  have tq : ∀ (W : FVec Ideal ⟨2, ![512, 8192]⟩ .bf16), cut (turnV (k0_pay2 x (Layout.block ⟨2, ![512, 256]⟩ ⟨2, ![512, 8192]⟩ 1 32 s W (by decide)))) b ⟨k.val / 64, by omega⟩
      = fun a e => turned (fun e' => projT x W (ix4 b a ⟨(256 * s.val + k.val) / 64, by omega⟩ e')) a e := by
    intro W; funext a e
    rw [cut_turnV]
    refine congrArg (fun z => turned z a e) (funext fun e' => ?_)
    rw [proj_q]
    exact hp W a e'
  have tk : cut (turnV (k0_pay3 x (Layout.block ⟨2, ![512, 256]⟩ ⟨2, ![512, 8192]⟩ 1 32 s Wk (by decide)))) b ⟨k.val / 64, by omega⟩
      = fun a e => turned (fun e' => projT x Wk (ix4 b a ⟨(256 * s.val + k.val) / 64, by omega⟩ e')) a e := tq Wk
  have tv : cut (k0_pay4 x (Layout.block ⟨2, ![512, 256]⟩ ⟨2, ![512, 8192]⟩ 1 32 s Wv (by decide))) b ⟨k.val / 64, by omega⟩
      = fun a e => projT x Wv (ix4 b a ⟨(256 * s.val + k.val) / 64, by omega⟩ e) := by
    funext a e
    rw [proj_v]
    exact hp Wv a e
  rw [tq Wq, tk, tv]

/-- The devices' result is the reference's, of the whole arrays that theirs are the blocks of. -/
theorem out_eq (m : (ℓ : Loc nD τ sig) → Buf (Elt Ideal) ℓ) (x : FVec Ideal S2x128x512 .bf16) (Wq Wk Wv : FVec Ideal ⟨2, ![512, 8192]⟩ .bf16) (Wo : FVec Ideal ⟨2, ![8192, 512]⟩ .bf16)
    (h0 : ∀ c : Dev nD, m ((c.tc : Thread nD τ).loc main_arg0) = x)
    (h1 : ∀ c : Dev nD, m ((c.tc : Thread nD τ).loc main_arg1) = Layout.block ⟨2, ![512, 256]⟩ ⟨2, ![512, 8192]⟩ 1 32 c Wq (by decide))
    (h2 : ∀ c : Dev nD, m ((c.tc : Thread nD τ).loc main_arg2) = Layout.block ⟨2, ![512, 256]⟩ ⟨2, ![512, 8192]⟩ 1 32 c Wk (by decide))
    (h3 : ∀ c : Dev nD, m ((c.tc : Thread nD τ).loc main_arg3) = Layout.block ⟨2, ![512, 256]⟩ ⟨2, ![512, 8192]⟩ 1 32 c Wv (by decide))
    (h4 : ∀ c : Dev nD, m ((c.tc : Thread nD τ).loc main_arg4) = Layout.block ⟨2, ![256, 512]⟩ ⟨2, ![8192, 512]⟩ 0 32 c Wo (by decide)) :
    outV (F := Ideal) m = outT x Wq Wk Wv Wo := by
  have ha : ∀ c : Dev nD, accV (F := Ideal) m c = accOf (F := Ideal) x (Layout.block ⟨2, ![512, 256]⟩ ⟨2, ![512, 8192]⟩ 1 32 c Wq (by decide))
      (Layout.block ⟨2, ![512, 256]⟩ ⟨2, ![512, 8192]⟩ 1 32 c Wk (by decide)) (Layout.block ⟨2, ![512, 256]⟩ ⟨2, ![512, 8192]⟩ 1 32 c Wv (by decide))
      (Layout.block ⟨2, ![256, 512]⟩ ⟨2, ![8192, 512]⟩ 0 32 c Wo (by decide)) := by
    intro c
    have r0 : xV (F := Ideal) m c = m ((c.tc : Thread nD τ).loc main_arg0) := Memref.read_access_unit_zero (Elt Ideal) main_arg0 (funext fun a => by fin_cases a <;> decide) (fun a => by fin_cases a <;> decide) _
    have r1 : wqV (F := Ideal) m c = m ((c.tc : Thread nD τ).loc main_arg1) := Memref.read_access_unit_zero (Elt Ideal) main_arg1 (funext fun a => by fin_cases a <;> decide) (fun a => by fin_cases a <;> decide) _
    have r2 : wkV (F := Ideal) m c = m ((c.tc : Thread nD τ).loc main_arg2) := Memref.read_access_unit_zero (Elt Ideal) main_arg2 (funext fun a => by fin_cases a <;> decide) (fun a => by fin_cases a <;> decide) _
    have r3 : wvV (F := Ideal) m c = m ((c.tc : Thread nD τ).loc main_arg3) := Memref.read_access_unit_zero (Elt Ideal) main_arg3 (funext fun a => by fin_cases a <;> decide) (fun a => by fin_cases a <;> decide) _
    have r4 : woV (F := Ideal) m c = m ((c.tc : Thread nD τ).loc main_arg4) := Memref.read_access_unit_zero (Elt Ideal) main_arg4 (funext fun a => by fin_cases a <;> decide) (fun a => by fin_cases a <;> decide) _
    unfold accV
    rw [r0, r1, r2, r3, r4, h0, h1, h2, h3, h4]
  funext j
  obtain ⟨b, i, n, rfl⟩ : ∃ (b : Fin 2) (i : Fin 128) (n : Fin 512), j = ix3 b i n := ⟨j 0, j 1, j 2, eq_ix3 j⟩
  refine (outV_apply m b i n).trans (Eq.trans ?_ (out_ctx x Wq Wk Wv Wo b i n).symm)
  rw [sum_blocks]
  unfold total
  refine Finset.sum_congr rfl fun s _ => ?_
  rw [ha s]
  exact acc_ctx s x Wq Wk Wv Wo b i n

end Meet

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Outcome
public import proofs.«01_k».proof.Proof.BitsOutcome
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as printed runs, leaves its arguments alone and every counter at zero. -/
theorem quiet_kernel : Cert.quiescent_Kernel := by
  intro m ρ _
  exact (θ_run Cert.Kernel.defs _ _).mono (fun _ h => ⟨fun c => (h.1 c).2, h.2⟩) (Cert.Kernel.Mesh.run_all (F := Bits) m ρ)

/-- So does its idealization. -/
theorem quiet_ideal : Cert.quiescent_KernelIdeal := by
  intro m ρ _
  exact (θ_run Cert.KernelIdeal.defs _ _).mono (fun _ h => ⟨fun c => (h.1 c).2, h.2⟩) (Cert.KernelIdeal.Mesh.run_all (F := Ideal) m ρ)

/-- So does the reference, which has no counters. -/
theorem quiet_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Every device ends holding the reference's result. -/
theorem same_value : Cert.algebraic_KernelIdeal_ReferenceIdeal := by
  intro m ρ m' ρ' _ hm
  refine ⟨Cert.ReferenceIdeal.Value.res_main_v87 (F := Ideal) m' 0, ?_, ?_⟩
  · refine (θ_run Cert.KernelIdeal.defs _ _).mono (fun _ h c => ⟨(h.1 c).1.trans ?_, (h.1 c).2⟩) (Cert.KernelIdeal.Mesh.run_all (F := Ideal) m ρ)
    rw [Cert.ReferenceIdeal.Terms.res_eq]
    exact Cert.Join.out_eq m _ _ _ _ _ (fun c => (hm c).1) (fun c => (hm c).2.1) (fun c => (hm c).2.2.1) (fun c => (hm c).2.2.2.1) (fun c => (hm c).2.2.2.2)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  quiet_kernel, quiet_ideal, quiet_reference, trivial, same_value⟩

end Cert.Proof

end
